-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7)
      ∧ r.2.mem ((c.tc : Thread Cert.Kernel18.nD Cert.Kernel18.τ).loc Cert.Kernel18.main_arg8) = m ((c.tc : Thread Cert.Kernel18.nD Cert.Kernel18.τ).loc Cert.Kernel18.main_arg8)
      ∧ r.2.mem ((c.tc : Thread Cert.Kernel18.nD Cert.Kernel18.τ).loc Cert.Kernel18.main_arg9) = m ((c.tc : Thread Cert.Kernel18.nD Cert.Kernel18.τ).loc Cert.Kernel18.main_arg9))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
      ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
      ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7)
      ∧ r.2.mem ((c.tc : Thread Cert.Reference18Ideal.nD Cert.Reference18Ideal.τ).loc Cert.Reference18Ideal.main_arg8) = m ((c.tc : Thread Cert.Reference18Ideal.nD Cert.Reference18Ideal.τ).loc Cert.Reference18Ideal.main_arg8)
      ∧ r.2.mem ((c.tc : Thread Cert.Reference18Ideal.nD Cert.Reference18Ideal.τ).loc Cert.Reference18Ideal.main_arg9) = m ((c.tc : Thread Cert.Reference18Ideal.nD Cert.Reference18Ideal.τ).loc Cert.Reference18Ideal.main_arg9))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8)
      ∧ r.2.mem ((c.tc : Thread Cert.Kernel22.nD Cert.Kernel22.τ).loc Cert.Kernel22.main_arg9) = m ((c.tc : Thread Cert.Kernel22.nD Cert.Kernel22.τ).loc Cert.Kernel22.main_arg9)
      ∧ r.2.mem ((c.tc : Thread Cert.Kernel22.nD Cert.Kernel22.τ).loc Cert.Kernel22.main_arg10) = m ((c.tc : Thread Cert.Kernel22.nD Cert.Kernel22.τ).loc Cert.Kernel22.main_arg10)
      ∧ r.2.mem ((c.tc : Thread Cert.Kernel22.nD Cert.Kernel22.τ).loc Cert.Kernel22.main_arg11) = m ((c.tc : Thread Cert.Kernel22.nD Cert.Kernel22.τ).loc Cert.Kernel22.main_arg11)
      ∧ r.2.mem ((c.tc : Thread Cert.Kernel22.nD Cert.Kernel22.τ).loc Cert.Kernel22.main_arg12) = m ((c.tc : Thread Cert.Kernel22.nD Cert.Kernel22.τ).loc Cert.Kernel22.main_arg12)
      ∧ r.2.mem ((c.tc : Thread Cert.Kernel22.nD Cert.Kernel22.τ).loc Cert.Kernel22.main_arg13) = m ((c.tc : Thread Cert.Kernel22.nD Cert.Kernel22.τ).loc Cert.Kernel22.main_arg13)
      ∧ r.2.mem ((c.tc : Thread Cert.Kernel22.nD Cert.Kernel22.τ).loc Cert.Kernel22.main_arg14) = m ((c.tc : Thread Cert.Kernel22.nD Cert.Kernel22.τ).loc Cert.Kernel22.main_arg14)
      ∧ r.2.mem ((c.tc : Thread Cert.Kernel22.nD Cert.Kernel22.τ).loc Cert.Kernel22.main_arg15) = m ((c.tc : Thread Cert.Kernel22.nD Cert.Kernel22.τ).loc Cert.Kernel22.main_arg15))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
      ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
      ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10)
      ∧ r.2.mem ((c.tc : Thread Cert.Kernel22Ideal.nD Cert.Kernel22Ideal.τ).loc Cert.Kernel22Ideal.main_arg11) = m ((c.tc : Thread Cert.Kernel22Ideal.nD Cert.Kernel22Ideal.τ).loc Cert.Kernel22Ideal.main_arg11)
      ∧ r.2.mem ((c.tc : Thread Cert.Kernel22Ideal.nD Cert.Kernel22Ideal.τ).loc Cert.Kernel22Ideal.main_arg12) = m ((c.tc : Thread Cert.Kernel22Ideal.nD Cert.Kernel22Ideal.τ).loc Cert.Kernel22Ideal.main_arg12)
      ∧ r.2.mem ((c.tc : Thread Cert.Kernel22Ideal.nD Cert.Kernel22Ideal.τ).loc Cert.Kernel22Ideal.main_arg13) = m ((c.tc : Thread Cert.Kernel22Ideal.nD Cert.Kernel22Ideal.τ).loc Cert.Kernel22Ideal.main_arg13)
      ∧ r.2.mem ((c.tc : Thread Cert.Kernel22Ideal.nD Cert.Kernel22Ideal.τ).loc Cert.Kernel22Ideal.main_arg14) = m ((c.tc : Thread Cert.Kernel22Ideal.nD Cert.Kernel22Ideal.τ).loc Cert.Kernel22Ideal.main_arg14)
      ∧ r.2.mem ((c.tc : Thread Cert.Kernel22Ideal.nD Cert.Kernel22Ideal.τ).loc Cert.Kernel22Ideal.main_arg15) = m ((c.tc : Thread Cert.Kernel22Ideal.nD Cert.Kernel22Ideal.τ).loc Cert.Kernel22Ideal.main_arg15))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8)
      ∧ r.2.mem ((c.tc : Thread Cert.Reference22Ideal.nD Cert.Reference22Ideal.τ).loc Cert.Reference22Ideal.main_arg9) = m ((c.tc : Thread Cert.Reference22Ideal.nD Cert.Reference22Ideal.τ).loc Cert.Reference22Ideal.main_arg9)
      ∧ r.2.mem ((c.tc : Thread Cert.Reference22Ideal.nD Cert.Reference22Ideal.τ).loc Cert.Reference22Ideal.main_arg10) = m ((c.tc : Thread Cert.Reference22Ideal.nD Cert.Reference22Ideal.τ).loc Cert.Reference22Ideal.main_arg10)
      ∧ r.2.mem ((c.tc : Thread Cert.Reference22Ideal.nD Cert.Reference22Ideal.τ).loc Cert.Reference22Ideal.main_arg11) = m ((c.tc : Thread Cert.Reference22Ideal.nD Cert.Reference22Ideal.τ).loc Cert.Reference22Ideal.main_arg11)
      ∧ r.2.mem ((c.tc : Thread Cert.Reference22Ideal.nD Cert.Reference22Ideal.τ).loc Cert.Reference22Ideal.main_arg12) = m ((c.tc : Thread Cert.Reference22Ideal.nD Cert.Reference22Ideal.τ).loc Cert.Reference22Ideal.main_arg12)
      ∧ r.2.mem ((c.tc : Thread Cert.Reference22Ideal.nD Cert.Reference22Ideal.τ).loc Cert.Reference22Ideal.main_arg13) = m ((c.tc : Thread Cert.Reference22Ideal.nD Cert.Reference22Ideal.τ).loc Cert.Reference22Ideal.main_arg13)
      ∧ r.2.mem ((c.tc : Thread Cert.Reference22Ideal.nD Cert.Reference22Ideal.τ).loc Cert.Reference22Ideal.main_arg14) = m ((c.tc : Thread Cert.Reference22Ideal.nD Cert.Reference22Ideal.τ).loc Cert.Reference22Ideal.main_arg14)
      ∧ r.2.mem ((c.tc : Thread Cert.Reference22Ideal.nD Cert.Reference22Ideal.τ).loc Cert.Reference22Ideal.main_arg15) = m ((c.tc : Thread Cert.Reference22Ideal.nD Cert.Reference22Ideal.τ).loc Cert.Reference22Ideal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_v69) = v4 c
          ∧ r.2.mem ((c.tc : Thread Cert.ReferenceIdeal.nD Cert.ReferenceIdeal.τ).loc Cert.ReferenceIdeal.main_v70) = v5 c
          ∧ r.2.mem ((c.tc : Thread Cert.ReferenceIdeal.nD Cert.ReferenceIdeal.τ).loc Cert.ReferenceIdeal.main_v64) = v6 c
          ∧ r.2.mem ((c.tc : Thread Cert.ReferenceIdeal.nD Cert.ReferenceIdeal.τ).loc Cert.ReferenceIdeal.main_v63) = v7 c
          ∧ r.2.mem ((c.tc : Thread Cert.ReferenceIdeal.nD Cert.ReferenceIdeal.τ).loc Cert.ReferenceIdeal.main_v62) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v23_0)) (v1 : (c : Dev Cert.Kernel3Ideal.nD) → Buf (Elt Ideal) ((c.tc : Thread Cert.Kernel3Ideal.nD Cert.Kernel3Ideal.τ).loc Cert.Kernel3Ideal.main_v23_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23_0) = v0 c
          ∧ r.2.mem ((c.tc : Thread Cert.Kernel3Ideal.nD Cert.Kernel3Ideal.τ).loc Cert.Kernel3Ideal.main_v23_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_3) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v117) = v0 c
          ∧ r.2.mem ((c.tc : Thread Cert.Reference4Ideal.nD Cert.Reference4Ideal.τ).loc Cert.Reference4Ideal.main_v76) = v1 c
          ∧ r.2.mem ((c.tc : Thread Cert.Reference4Ideal.nD Cert.Reference4Ideal.τ).loc Cert.Reference4Ideal.main_v102) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v14) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_v21) = v1 c
          ∧ r.2.mem ((c.tc : Thread Cert.Reference8Ideal.nD Cert.Reference8Ideal.τ).loc Cert.Reference8Ideal.main_v23) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_v16) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_v5) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v14) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v13) = v0 c
          ∧ r.2.mem ((c.tc : Thread Cert.Reference16Ideal.nD Cert.Reference16Ideal.τ).loc Cert.Reference16Ideal.main_v14) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v14) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)
      ∧ m' ((c.tc : Thread Cert.Reference18Ideal.nD Cert.Reference18Ideal.τ).loc Cert.Reference18Ideal.main_arg8) = m ((c.tc : Thread Cert.Kernel18Ideal.nD Cert.Kernel18Ideal.τ).loc Cert.Kernel18Ideal.main_arg8)
      ∧ m' ((c.tc : Thread Cert.Reference18Ideal.nD Cert.Reference18Ideal.τ).loc Cert.Reference18Ideal.main_arg9) = m ((c.tc : Thread Cert.Kernel18Ideal.nD Cert.Kernel18Ideal.τ).loc Cert.Kernel18Ideal.main_arg9)) →
    ∃ (v0 : (c : Dev Cert.Kernel18Ideal.nD) → Buf (Elt Ideal) ((c.tc : Thread Cert.Kernel18Ideal.nD Cert.Kernel18Ideal.τ).loc Cert.Kernel18Ideal.main_v0_1)) (v1 : (c : Dev Cert.Kernel18Ideal.nD) → Buf (Elt Ideal) ((c.tc : Thread Cert.Kernel18Ideal.nD Cert.Kernel18Ideal.τ).loc Cert.Kernel18Ideal.main_v0_3)) (v2 : (c : Dev Cert.Kernel18Ideal.nD) → Buf (Elt Ideal) ((c.tc : Thread Cert.Kernel18Ideal.nD Cert.Kernel18Ideal.τ).loc Cert.Kernel18Ideal.main_v0_4)) (v3 : (c : Dev Cert.Kernel18Ideal.nD) → Buf (Elt Ideal) ((c.tc : Thread Cert.Kernel18Ideal.nD Cert.Kernel18Ideal.τ).loc Cert.Kernel18Ideal.main_v0_6)) (v4 : (c : Dev Cert.Kernel18Ideal.nD) → Buf (Elt Ideal) ((c.tc : Thread Cert.Kernel18Ideal.nD Cert.Kernel18Ideal.τ).loc Cert.Kernel18Ideal.main_v0_7)) (v5 : (c : Dev Cert.Kernel18Ideal.nD) → Buf (Elt Ideal) ((c.tc : Thread Cert.Kernel18Ideal.nD Cert.Kernel18Ideal.τ).loc Cert.Kernel18Ideal.main_v0_8)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_1) = v0 c
          ∧ r.2.mem ((c.tc : Thread Cert.Kernel18Ideal.nD Cert.Kernel18Ideal.τ).loc Cert.Kernel18Ideal.main_v0_3) = v1 c
          ∧ r.2.mem ((c.tc : Thread Cert.Kernel18Ideal.nD Cert.Kernel18Ideal.τ).loc Cert.Kernel18Ideal.main_v0_4) = v2 c
          ∧ r.2.mem ((c.tc : Thread Cert.Kernel18Ideal.nD Cert.Kernel18Ideal.τ).loc Cert.Kernel18Ideal.main_v0_6) = v3 c
          ∧ r.2.mem ((c.tc : Thread Cert.Kernel18Ideal.nD Cert.Kernel18Ideal.τ).loc Cert.Kernel18Ideal.main_v0_7) = v4 c
          ∧ r.2.mem ((c.tc : Thread Cert.Kernel18Ideal.nD Cert.Kernel18Ideal.τ).loc Cert.Kernel18Ideal.main_v0_8) = v5 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
          ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
          ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v96) = v0 c
          ∧ r.2.mem ((c.tc : Thread Cert.Reference18Ideal.nD Cert.Reference18Ideal.τ).loc Cert.Reference18Ideal.main_v94) = v1 c
          ∧ r.2.mem ((c.tc : Thread Cert.Reference18Ideal.nD Cert.Reference18Ideal.τ).loc Cert.Reference18Ideal.main_v79) = v2 c
          ∧ r.2.mem ((c.tc : Thread Cert.Reference18Ideal.nD Cert.Reference18Ideal.τ).loc Cert.Reference18Ideal.main_v95) = v3 c
          ∧ r.2.mem ((c.tc : Thread Cert.Reference18Ideal.nD Cert.Reference18Ideal.τ).loc Cert.Reference18Ideal.main_v66) = v4 c
          ∧ r.2.mem ((c.tc : Thread Cert.Reference18Ideal.nD Cert.Reference18Ideal.τ).loc Cert.Reference18Ideal.main_v63) = v5 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7)
          ∧ r.2.mem ((c.tc : Thread Cert.Reference18Ideal.nD Cert.Reference18Ideal.τ).loc Cert.Reference18Ideal.main_arg8) = m' ((c.tc : Thread Cert.Reference18Ideal.nD Cert.Reference18Ideal.τ).loc Cert.Reference18Ideal.main_arg8)
          ∧ r.2.mem ((c.tc : Thread Cert.Reference18Ideal.nD Cert.Reference18Ideal.τ).loc Cert.Reference18Ideal.main_arg9) = m' ((c.tc : Thread Cert.Reference18Ideal.nD Cert.Reference18Ideal.τ).loc Cert.Reference18Ideal.main_arg9))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v56) = v0 c
          ∧ r.2.mem ((c.tc : Thread Cert.Reference19Ideal.nD Cert.Reference19Ideal.τ).loc Cert.Reference19Ideal.main_v58) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v11) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_1)) (v1 : (c : Dev Cert.Kernel21Ideal.nD) → Buf (Elt Ideal) ((c.tc : Thread Cert.Kernel21Ideal.nD Cert.Kernel21Ideal.τ).loc Cert.Kernel21Ideal.main_v0_2)) (v2 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_1) = v0 c
          ∧ r.2.mem ((c.tc : Thread Cert.Kernel21Ideal.nD Cert.Kernel21Ideal.τ).loc Cert.Kernel21Ideal.main_v0_2) = v1 c
          ∧ r.2.mem ((c.tc : Thread Cert.Kernel21Ideal.nD Cert.Kernel21Ideal.τ).loc Cert.Kernel21Ideal.main_v0_3) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)
      ∧ m' ((c.tc : Thread Cert.Reference22Ideal.nD Cert.Reference22Ideal.τ).loc Cert.Reference22Ideal.main_arg9) = m ((c.tc : Thread Cert.Kernel22Ideal.nD Cert.Kernel22Ideal.τ).loc Cert.Kernel22Ideal.main_arg9)
      ∧ m' ((c.tc : Thread Cert.Reference22Ideal.nD Cert.Reference22Ideal.τ).loc Cert.Reference22Ideal.main_arg10) = m ((c.tc : Thread Cert.Kernel22Ideal.nD Cert.Kernel22Ideal.τ).loc Cert.Kernel22Ideal.main_arg10)
      ∧ m' ((c.tc : Thread Cert.Reference22Ideal.nD Cert.Reference22Ideal.τ).loc Cert.Reference22Ideal.main_arg11) = m ((c.tc : Thread Cert.Kernel22Ideal.nD Cert.Kernel22Ideal.τ).loc Cert.Kernel22Ideal.main_arg11)
      ∧ m' ((c.tc : Thread Cert.Reference22Ideal.nD Cert.Reference22Ideal.τ).loc Cert.Reference22Ideal.main_arg12) = m ((c.tc : Thread Cert.Kernel22Ideal.nD Cert.Kernel22Ideal.τ).loc Cert.Kernel22Ideal.main_arg12)
      ∧ m' ((c.tc : Thread Cert.Reference22Ideal.nD Cert.Reference22Ideal.τ).loc Cert.Reference22Ideal.main_arg13) = m ((c.tc : Thread Cert.Kernel22Ideal.nD Cert.Kernel22Ideal.τ).loc Cert.Kernel22Ideal.main_arg13)
      ∧ m' ((c.tc : Thread Cert.Reference22Ideal.nD Cert.Reference22Ideal.τ).loc Cert.Reference22Ideal.main_arg14) = m ((c.tc : Thread Cert.Kernel22Ideal.nD Cert.Kernel22Ideal.τ).loc Cert.Kernel22Ideal.main_arg14)
      ∧ m' ((c.tc : Thread Cert.Reference22Ideal.nD Cert.Reference22Ideal.τ).loc Cert.Reference22Ideal.main_arg15) = m ((c.tc : Thread Cert.Kernel22Ideal.nD Cert.Kernel22Ideal.τ).loc Cert.Kernel22Ideal.main_arg15)) →
    ∃ (v0 : (c : Dev Cert.Kernel22Ideal.nD) → Buf (Elt Ideal) ((c.tc : Thread Cert.Kernel22Ideal.nD Cert.Kernel22Ideal.τ).loc Cert.Kernel22Ideal.main_v0_2)) (v1 : (c : Dev Cert.Kernel22Ideal.nD) → Buf (Elt Ideal) ((c.tc : Thread Cert.Kernel22Ideal.nD Cert.Kernel22Ideal.τ).loc Cert.Kernel22Ideal.main_v0_3)) (v2 : (c : Dev Cert.Kernel22Ideal.nD) → Buf (Elt Ideal) ((c.tc : Thread Cert.Kernel22Ideal.nD Cert.Kernel22Ideal.τ).loc Cert.Kernel22Ideal.main_v0_4)) (v3 : (c : Dev Cert.Kernel22Ideal.nD) → Buf (Elt Ideal) ((c.tc : Thread Cert.Kernel22Ideal.nD Cert.Kernel22Ideal.τ).loc Cert.Kernel22Ideal.main_v0_5)) (v4 : (c : Dev Cert.Kernel22Ideal.nD) → Buf (Elt Ideal) ((c.tc : Thread Cert.Kernel22Ideal.nD Cert.Kernel22Ideal.τ).loc Cert.Kernel22Ideal.main_v0_6)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_2) = v0 c
          ∧ r.2.mem ((c.tc : Thread Cert.Kernel22Ideal.nD Cert.Kernel22Ideal.τ).loc Cert.Kernel22Ideal.main_v0_3) = v1 c
          ∧ r.2.mem ((c.tc : Thread Cert.Kernel22Ideal.nD Cert.Kernel22Ideal.τ).loc Cert.Kernel22Ideal.main_v0_4) = v2 c
          ∧ r.2.mem ((c.tc : Thread Cert.Kernel22Ideal.nD Cert.Kernel22Ideal.τ).loc Cert.Kernel22Ideal.main_v0_5) = v3 c
          ∧ r.2.mem ((c.tc : Thread Cert.Kernel22Ideal.nD Cert.Kernel22Ideal.τ).loc Cert.Kernel22Ideal.main_v0_6) = v4 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
          ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
          ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10)
          ∧ r.2.mem ((c.tc : Thread Cert.Kernel22Ideal.nD Cert.Kernel22Ideal.τ).loc Cert.Kernel22Ideal.main_arg11) = m ((c.tc : Thread Cert.Kernel22Ideal.nD Cert.Kernel22Ideal.τ).loc Cert.Kernel22Ideal.main_arg11)
          ∧ r.2.mem ((c.tc : Thread Cert.Kernel22Ideal.nD Cert.Kernel22Ideal.τ).loc Cert.Kernel22Ideal.main_arg12) = m ((c.tc : Thread Cert.Kernel22Ideal.nD Cert.Kernel22Ideal.τ).loc Cert.Kernel22Ideal.main_arg12)
          ∧ r.2.mem ((c.tc : Thread Cert.Kernel22Ideal.nD Cert.Kernel22Ideal.τ).loc Cert.Kernel22Ideal.main_arg13) = m ((c.tc : Thread Cert.Kernel22Ideal.nD Cert.Kernel22Ideal.τ).loc Cert.Kernel22Ideal.main_arg13)
          ∧ r.2.mem ((c.tc : Thread Cert.Kernel22Ideal.nD Cert.Kernel22Ideal.τ).loc Cert.Kernel22Ideal.main_arg14) = m ((c.tc : Thread Cert.Kernel22Ideal.nD Cert.Kernel22Ideal.τ).loc Cert.Kernel22Ideal.main_arg14)
          ∧ r.2.mem ((c.tc : Thread Cert.Kernel22Ideal.nD Cert.Kernel22Ideal.τ).loc Cert.Kernel22Ideal.main_arg15) = m ((c.tc : Thread Cert.Kernel22Ideal.nD Cert.Kernel22Ideal.τ).loc Cert.Kernel22Ideal.main_arg15))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v184) = v0 c
          ∧ r.2.mem ((c.tc : Thread Cert.Reference22Ideal.nD Cert.Reference22Ideal.τ).loc Cert.Reference22Ideal.main_v225) = v1 c
          ∧ r.2.mem ((c.tc : Thread Cert.Reference22Ideal.nD Cert.Reference22Ideal.τ).loc Cert.Reference22Ideal.main_v222) = v2 c
          ∧ r.2.mem ((c.tc : Thread Cert.Reference22Ideal.nD Cert.Reference22Ideal.τ).loc Cert.Reference22Ideal.main_v202) = v3 c
          ∧ r.2.mem ((c.tc : Thread Cert.Reference22Ideal.nD Cert.Reference22Ideal.τ).loc Cert.Reference22Ideal.main_v199) = v4 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8)
          ∧ r.2.mem ((c.tc : Thread Cert.Reference22Ideal.nD Cert.Reference22Ideal.τ).loc Cert.Reference22Ideal.main_arg9) = m' ((c.tc : Thread Cert.Reference22Ideal.nD Cert.Reference22Ideal.τ).loc Cert.Reference22Ideal.main_arg9)
          ∧ r.2.mem ((c.tc : Thread Cert.Reference22Ideal.nD Cert.Reference22Ideal.τ).loc Cert.Reference22Ideal.main_arg10) = m' ((c.tc : Thread Cert.Reference22Ideal.nD Cert.Reference22Ideal.τ).loc Cert.Reference22Ideal.main_arg10)
          ∧ r.2.mem ((c.tc : Thread Cert.Reference22Ideal.nD Cert.Reference22Ideal.τ).loc Cert.Reference22Ideal.main_arg11) = m' ((c.tc : Thread Cert.Reference22Ideal.nD Cert.Reference22Ideal.τ).loc Cert.Reference22Ideal.main_arg11)
          ∧ r.2.mem ((c.tc : Thread Cert.Reference22Ideal.nD Cert.Reference22Ideal.τ).loc Cert.Reference22Ideal.main_arg12) = m' ((c.tc : Thread Cert.Reference22Ideal.nD Cert.Reference22Ideal.τ).loc Cert.Reference22Ideal.main_arg12)
          ∧ r.2.mem ((c.tc : Thread Cert.Reference22Ideal.nD Cert.Reference22Ideal.τ).loc Cert.Reference22Ideal.main_arg13) = m' ((c.tc : Thread Cert.Reference22Ideal.nD Cert.Reference22Ideal.τ).loc Cert.Reference22Ideal.main_arg13)
          ∧ r.2.mem ((c.tc : Thread Cert.Reference22Ideal.nD Cert.Reference22Ideal.τ).loc Cert.Reference22Ideal.main_arg14) = m' ((c.tc : Thread Cert.Reference22Ideal.nD Cert.Reference22Ideal.τ).loc Cert.Reference22Ideal.main_arg14)
          ∧ r.2.mem ((c.tc : Thread Cert.Reference22Ideal.nD Cert.Reference22Ideal.τ).loc Cert.Reference22Ideal.main_arg15) = m' ((c.tc : Thread Cert.Reference22Ideal.nD Cert.Reference22Ideal.τ).loc Cert.Reference22Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Kernel.lean ====
abbrev S2048x768 : Shape := ⟨2, ![2048, 768]⟩
abbrev S2048x512 : Shape := ⟨2, ![2048, 512]⟩
abbrev S768x2048 : Shape := ⟨2, ![768, 2048]⟩
abbrev S512x2048 : Shape := ⟨2, ![512, 2048]⟩
abbrev S2048x12544 : Shape := ⟨2, ![2048, 12544]⟩
abbrev S1x6144 : Shape := ⟨2, ![1, 6144]⟩
abbrev S2048x2048 : Shape := ⟨2, ![2048, 2048]⟩
abbrev S512x768 : Shape := ⟨2, ![512, 768]⟩
abbrev S512x512 : Shape := ⟨2, ![512, 512]⟩
abbrev S768x256 : Shape := ⟨2, ![768, 256]⟩
abbrev S512x256 : Shape := ⟨2, ![512, 256]⟩
abbrev S1x256 : Shape := ⟨2, ![1, 256]⟩

abbrev nBuf : Space → Nat
  | .hbm => 18
  | .vmem => 44
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x512, .f32⟩
  | .hbm, ⟨3, _⟩ => ⟨S768x2048, .bf16⟩
  | .hbm, ⟨4, _⟩ => ⟨S768x2048, .bf16⟩
  | .hbm, ⟨5, _⟩ => ⟨S512x2048, .bf16⟩
  | .hbm, ⟨6, _⟩ => ⟨S2048x12544, .f32⟩
  | .hbm, ⟨7, _⟩ => ⟨S1x6144, .f32⟩
  | .hbm, ⟨8, _⟩ => ⟨S2048x2048, .f32⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S2048x768, .f32⟩
  | .hbm, ⟨16, _⟩ => ⟨S2048x768, .f32⟩
  | .hbm, ⟨17, _⟩ => ⟨S2048x512, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x512, .f32⟩
  | .local _ .vmem, ⟨5, _⟩ => ⟨S512x512, .f32⟩
  | .local _ .vmem, ⟨6, _⟩ => ⟨S768x256, .bf16⟩
  | .local _ .vmem, ⟨7, _⟩ => ⟨S768x256, .bf16⟩
  | .local _ .vmem, ⟨8, _⟩ => ⟨S768x256, .bf16⟩
  | .local _ .vmem, ⟨9, _⟩ => ⟨S768x256, .bf16⟩
  | .local _ .vmem, ⟨10, _⟩ => ⟨S512x256, .bf16⟩
  | .local _ .vmem, ⟨11, _⟩ => ⟨S512x256, .bf16⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S512x256, .f32⟩
  | .local _ .vmem, ⟨25, _⟩ => ⟨S512x256, .f32⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S512x256, .bf16⟩
  | .local _ .vmem, ⟨31, _⟩ => ⟨S512x256, .bf16⟩
  | .local _ .vmem, ⟨32, _⟩ => ⟨S512x256, .bf16⟩
  | .local _ .vmem, ⟨33, _⟩ => ⟨S512x256, .bf16⟩
  | .local _ .vmem, ⟨34, _⟩ => ⟨S512x256, .bf16⟩
  | .local _ .vmem, ⟨35, _⟩ => ⟨S512x256, .bf16⟩
  | .local _ .vmem, ⟨36, _⟩ => ⟨S512x256, .bf16⟩
  | .local _ .vmem, ⟨37, _⟩ => ⟨S512x256, .bf16⟩
  | .local _ .vmem, ⟨38, _⟩ => ⟨S512x768, .f32⟩
  | .local _ .vmem, ⟨39, _⟩ => ⟨S512x768, .f32⟩
  | .local _ .vmem, ⟨40, _⟩ => ⟨S512x768, .f32⟩
  | .local _ .vmem, ⟨41, _⟩ => ⟨S512x768, .f32⟩
  | .local _ .vmem, ⟨42, _⟩ => ⟨S512x512, .f32⟩
  | .local _ .vmem, ⟨43, _⟩ => ⟨S512x512, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.addi c33_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c41_i32 : BitVec 32 := 41#32
  let v0 : BitVec 32 := Scalar.addi c41_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x768 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S512x768 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== ReferenceIdeal.lean ====
abbrev S2048x768 : Shape := ⟨2, ![2048, 768]⟩
abbrev S2048x512 : Shape := ⟨2, ![2048, 512]⟩
abbrev S768x2048 : Shape := ⟨2, ![768, 2048]⟩
abbrev S512x2048 : Shape := ⟨2, ![512, 2048]⟩
abbrev S2048x12544 : Shape := ⟨2, ![2048, 12544]⟩
abbrev S1x6144 : Shape := ⟨2, ![1, 6144]⟩
abbrev S2048x2048 : Shape := ⟨2, ![2048, 2048]⟩
abbrev S2048x6144 : Shape := ⟨2, ![2048, 6144]⟩
abbrev S1x2048 : Shape := ⟨2, ![1, 2048]⟩
abbrev S_ : Shape := ⟨0, ![]⟩

abbrev nBuf : Space → Nat
  | .hbm => 89
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x512, .f32⟩
  | .hbm, ⟨3, _⟩ => ⟨S768x2048, .bf16⟩
  | .hbm, ⟨4, _⟩ => ⟨S768x2048, .bf16⟩
  | .hbm, ⟨5, _⟩ => ⟨S512x2048, .bf16⟩
  | .hbm, ⟨6, _⟩ => ⟨S2048x12544, .f32⟩
  | .hbm, ⟨7, _⟩ => ⟨S1x6144, .f32⟩
  | .hbm, ⟨8, _⟩ => ⟨S2048x2048, .f32⟩
  | .hbm, ⟨9, _⟩ => ⟨S2048x6144, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S768x2048, .f32⟩
  | .hbm, ⟨17, _⟩ => ⟨S768x2048, .f32⟩
  | .hbm, ⟨18, _⟩ => ⟨S512x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S2048x2048, .f32⟩
  | .hbm, ⟨59, _⟩ => ⟨S2048x2048, .f32⟩
  | .hbm, ⟨60, _⟩ => ⟨S_, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S2048x512, .f32⟩
  | .hbm, ⟨81, _⟩ => ⟨S2048x768, .f32⟩
  | .hbm, ⟨82, _⟩ => ⟨S2048x768, .f32⟩
  | .hbm, ⟨83, _⟩ => ⟨S2048x2048, .bf16⟩
  | .hbm, ⟨84, _⟩ => ⟨S2048x2048, .bf16⟩
  | .hbm, ⟨85, _⟩ => ⟨S2048x2048, .bf16⟩
  | .hbm, ⟨86, _⟩ => ⟨S2048x2048, .bf16⟩
  | .hbm, ⟨87, _⟩ => ⟨S2048x2048, .bf16⟩
  | .hbm, ⟨88, _⟩ => ⟨S2048x2048, .bf16⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Kernel2.lean ====
abbrev S2048x12544 : Shape := ⟨2, ![2048, 12544]⟩
abbrev S2048x2048 : Shape := ⟨2, ![2048, 2048]⟩
abbrev S1x2048 : Shape := ⟨2, ![1, 2048]⟩
abbrev S512x896 : Shape := ⟨2, ![512, 896]⟩
abbrev S2048x896 : Shape := ⟨2, ![2048, 896]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 13
  | .smem => 0
  | _ => 0

abbrev bufTy : (tb : Table) → Fin (tcTables nBuf tb) → BufTy
  | .hbm, ⟨0, _⟩ => ⟨S2048x12544, .bf16⟩
  | .hbm, ⟨1, _⟩ => ⟨S2048x12544, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S1x2048, .f32⟩
  | .local _ .vmem, ⟨0, _⟩ => ⟨S512x896, .bf16⟩
  | .local _ .vmem, ⟨1, _⟩ => ⟨S512x896, .bf16⟩
  | .local _ .vmem, ⟨2, _⟩ => ⟨S2048x896, .bf16⟩
  | .local _ .vmem, ⟨3, _⟩ => ⟨S2048x896, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | _, _ => ⟨S2048x12544, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 14], ![false, false]⟩

def k0_cond3 (i : grid0.Coords) : BitVec 1 :=
  let arg1 : BitVec 32 := BitVec.ofNat 32 (i 1).val
  let c13_i32 : BitVec 32 := 13#32
  let v16 : BitVec 1 := Scalar.cmpi .eq arg1 c13_i32
  let v17 : BitVec 32 := Scalar.extui v16
  let c0_i32_11 : BitVec 32 := 0#32
  let v18 : BitVec 1 := Scalar.cmpi .ne v17 c0_i32_11
  v18

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference2Ideal.lean ====
abbrev S2048x12544 : Shape := ⟨2, ![2048, 12544]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x12544, .bf16⟩
  | .hbm, ⟨1, _⟩ => ⟨S2048x12544, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x12544, .f32⟩
  | .hbm, ⟨25, _⟩ => ⟨S2048x12544, .f32⟩
  | .hbm, ⟨26, _⟩ => ⟨S2048x12544, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | _, _ => ⟨S2048x12544, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel3.lean ====
abbrev S2048x2048 : Shape := ⟨2, ![2048, 2048]⟩
abbrev S1x2048 : Shape := ⟨2, ![1, 2048]⟩
abbrev S2048x12544 : Shape := ⟨2, ![2048, 12544]⟩
abbrev S_ : Shape := ⟨0, ![]⟩
abbrev S2048 : Shape := ⟨1, ![2048]⟩
abbrev S2048x1 : Shape := ⟨2, ![2048, 1]⟩
abbrev S2048x3136 : Shape := ⟨2, ![2048, 3136]⟩
abbrev S1x2048x3136 : Shape := ⟨3, ![1, 2048, 3136]⟩
abbrev S4x2048x3136 : Shape := ⟨3, ![4, 2048, 3136]⟩
abbrev S256x2048 : Shape := ⟨2, ![256, 2048]⟩
abbrev S1x256x3136 : Shape := ⟨3, ![1, 256, 3136]⟩
abbrev S256x3136 : Shape := ⟨2, ![256, 3136]⟩

abbrev nBuf : Space → Nat
  | .hbm => 32
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x12544, .bf16⟩
  | .hbm, ⟨3, _⟩ => ⟨S2048x12544, .bf16⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | .hbm, ⟨20, _⟩ => ⟨S2048x3136, .bf16⟩
  | .hbm, ⟨21, _⟩ => ⟨S2048x3136, .bf16⟩
  | .hbm, ⟨22, _⟩ => ⟨S2048x3136, .bf16⟩
  | .hbm, ⟨23, _⟩ => ⟨S2048x3136, .bf16⟩
  | .hbm, ⟨24, _⟩ => ⟨S1x2048x3136, .bf16⟩
  | .hbm, ⟨25, _⟩ => ⟨S1x2048x3136, .bf16⟩
  | .hbm, ⟨26, _⟩ => ⟨S1x2048x3136, .bf16⟩
  | .hbm, ⟨27, _⟩ => ⟨S1x2048x3136, .bf16⟩
  | .hbm, ⟨28, _⟩ => ⟨S4x2048x3136, .bf16⟩
  | .hbm, ⟨29, _⟩ => ⟨S2048x2048, .bf16⟩
  | .hbm, ⟨30, _⟩ => ⟨S4x2048x3136, .f32⟩
  | .hbm, ⟨31, _⟩ => ⟨S4x2048x3136, .bf16⟩
  | .local _ .vmem, ⟨0, _⟩ => ⟨S256x2048, .bf16⟩
  | .local _ .vmem, ⟨1, _⟩ => ⟨S256x2048, .bf16⟩
  | .local _ .vmem, ⟨2, _⟩ => ⟨S1x2048x3136, .bf16⟩
  | .local _ .vmem, ⟨3, _⟩ => ⟨S1x2048x3136, .bf16⟩
  | .local _ .vmem, ⟨4, _⟩ => ⟨S1x256x3136, .f32⟩
  | .local _ .vmem, ⟨5, _⟩ => ⟨S1x256x3136, .f32⟩
  | .local _ .vmem, ⟨6, _⟩ => ⟨S1x256x3136, .bf16⟩
  | .local _ .vmem, ⟨7, _⟩ => ⟨S1x256x3136, .bf16⟩
  | .local _ .vmem, ⟨8, _⟩ => ⟨S256x3136, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x3136 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x3136 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x3136 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S2048x2048 : Shape := ⟨2, ![2048, 2048]⟩
abbrev S1x2048 : Shape := ⟨2, ![1, 2048]⟩
abbrev S2048x12544 : Shape := ⟨2, ![2048, 12544]⟩
abbrev S_ : Shape := ⟨0, ![]⟩
abbrev S2048 : Shape := ⟨1, ![2048]⟩
abbrev S2048x1 : Shape := ⟨2, ![2048, 1]⟩
abbrev S12544x2048 : Shape := ⟨2, ![12544, 2048]⟩
abbrev S2048x3136 : Shape := ⟨2, ![2048, 3136]⟩
abbrev S1x2048x3136 : Shape := ⟨3, ![1, 2048, 3136]⟩
abbrev S4x2048x3136 : Shape := ⟨3, ![4, 2048, 3136]⟩

abbrev nBuf : Space → Nat
  | .hbm => 34
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x12544, .bf16⟩
  | .hbm, ⟨3, _⟩ => ⟨S2048x12544, .bf16⟩
  | .hbm, ⟨4, _⟩ => ⟨S2048x12544, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x12544, .f32⟩
  | .hbm, ⟨21, _⟩ => ⟨S2048x12544, .f32⟩
  | .hbm, ⟨22, _⟩ => ⟨S12544x2048, .f32⟩
  | .hbm, ⟨23, _⟩ => ⟨S2048x12544, .f32⟩
  | .hbm, ⟨24, _⟩ => ⟨S2048x3136, .f32⟩
  | .hbm, ⟨25, _⟩ => ⟨S2048x3136, .f32⟩
  | .hbm, ⟨26, _⟩ => ⟨S2048x3136, .f32⟩
  | .hbm, ⟨27, _⟩ => ⟨S2048x3136, .f32⟩
  | .hbm, ⟨28, _⟩ => ⟨S1x2048x3136, .f32⟩
  | .hbm, ⟨29, _⟩ => ⟨S1x2048x3136, .f32⟩
  | .hbm, ⟨30, _⟩ => ⟨S1x2048x3136, .f32⟩
  | .hbm, ⟨31, _⟩ => ⟨S1x2048x3136, .f32⟩
  | .hbm, ⟨32, _⟩ => ⟨S4x2048x3136, .f32⟩
  | .hbm, ⟨33, _⟩ => ⟨S4x2048x3136, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel4.lean ====
abbrev S2048x12544 : Shape := ⟨2, ![2048, 12544]⟩
abbrev S256x1024 : Shape := ⟨2, ![256, 1024]⟩
abbrev S1x128 : Shape := ⟨2, ![1, 128]⟩
abbrev S2048x512 : Shape := ⟨2, ![2048, 512]⟩
abbrev S512x256 : Shape := ⟨2, ![512, 256]⟩
abbrev S512x512 : Shape := ⟨2, ![512, 512]⟩
abbrev S512x128 : Shape := ⟨2, ![512, 128]⟩
abbrev S256x128 : Shape := ⟨2, ![256, 128]⟩
abbrev S512 : Shape := ⟨1, ![512]⟩
abbrev S512x1 : Shape := ⟨2, ![512, 1]⟩
abbrev S256 : Shape := ⟨1, ![256]⟩
abbrev S256x1 : Shape := ⟨2, ![256, 1]⟩
abbrev S128 : Shape := ⟨1, ![128]⟩

abbrev nBuf : Space → Nat
  | .hbm => 10
  | .vmem => 20
  | .smem => 0
  | _ => 0

abbrev bufTy : (tb : Table) → Fin (tcTables nBuf tb) → BufTy
  | .hbm, ⟨0, _⟩ => ⟨S2048x12544, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S256x1024, .f32⟩
  | .hbm, ⟨8, _⟩ => ⟨S1x128, .f32⟩
  | .hbm, ⟨9, _⟩ => ⟨S1x128, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S256x1024, .f32⟩
  | .local _ .vmem, ⟨9, _⟩ => ⟨S1x128, .f32⟩
  | .local _ .vmem, ⟨10, _⟩ => ⟨S1x128, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S256x1024, .f32⟩
  | .local _ .vmem, ⟨18, _⟩ => ⟨S1x128, .f32⟩
  | .local _ .vmem, ⟨19, _⟩ => ⟨S1x128, .f32⟩
  | _, _ => ⟨S2048x12544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_1 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_2 (i : grid0.Coords) : Fin 2 → Nat :=
  let arg0 : BitVec 32 := BitVec.ofNat 32 (i 0).val
  let c23_i32 : BitVec 32 := 23#32
  let c0_i32 : BitVec 32 := 0#32
  ![arg0.toNat, c23_i32.toNat]

def cc0_transform_3 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference4Ideal.lean ====
abbrev S2048x12544 : Shape := ⟨2, ![2048, 12544]⟩
abbrev S256x1024 : Shape := ⟨2, ![256, 1024]⟩
abbrev S1x128 : Shape := ⟨2, ![1, 128]⟩
abbrev S2048x512 : Shape := ⟨2, ![2048, 512]⟩
abbrev S2048x1024 : Shape := ⟨2, ![2048, 1024]⟩
abbrev S256x512 : Shape := ⟨2, ![256, 512]⟩
abbrev S2048x4x128 : Shape := ⟨3, ![2048, 4, 128]⟩
abbrev S_ : Shape := ⟨0, ![]⟩
abbrev S2048x4 : Shape := ⟨2, ![2048, 4]⟩
abbrev S2048x4x1 : Shape := ⟨3, ![2048, 4, 1]⟩
abbrev S1x1x128 : Shape := ⟨3, ![1, 1, 128]⟩
abbrev S256x4x128 : Shape := ⟨3, ![256, 4, 128]⟩
abbrev S256x4 : Shape := ⟨2, ![256, 4]⟩
abbrev S256x4x1 : Shape := ⟨3, ![256, 4, 1]⟩
abbrev S4x2048x256 : Shape := ⟨3, ![4, 2048, 256]⟩
abbrev S4x2048 : Shape := ⟨2, ![4, 2048]⟩
abbrev S4x2048x1 : Shape := ⟨3, ![4, 2048, 1]⟩
abbrev S4x128x2048 : Shape := ⟨3, ![4, 128, 2048]⟩
abbrev S4x2048x128 : Shape := ⟨3, ![4, 2048, 128]⟩
abbrev S128 : Shape := ⟨1, ![128]⟩

abbrev nBuf : Space → Nat
  | .hbm => 146
  | .vmem => 0
  | .smem => 0
  | _ => 0

abbrev hbmTy0_0 (i : Nat) : BufTy := match i % 128 with
  | 0 => ⟨S2048x12544, .f32⟩
  | 1 => ⟨S256x1024, .f32⟩
  | 2 => ⟨S1x128, .f32⟩
  | 3 => ⟨S1x128, .f32⟩
  | 4 => ⟨S2048x512, .f32⟩
  | 5 => ⟨S2048x1024, .f32⟩
  | 6 => ⟨S2048x512, .f32⟩
  | 7 => ⟨S2048x512, .f32⟩
  | 8 => ⟨S256x512, .f32⟩
  | 9 => ⟨S256x512, .f32⟩
  | 10 => ⟨S2048x4x128, .f32⟩
  | 11 => ⟨S2048x4x128, .f32⟩
  | 12 => ⟨S_, .f32⟩
  | 13 => ⟨S2048x4, .f32⟩
  | 14 => ⟨S2048x4x1, .f32⟩
  | 15 => ⟨S_, .f32⟩
  | 16 => ⟨S2048x4x1, .f32⟩
  | 17 => ⟨S2048x4x1, .f32⟩
  | 18 => ⟨S_, .f32⟩
  | 19 => ⟨S2048x4x1, .f32⟩
  | 20 => ⟨S2048x4x1, .f32⟩
  | 21 => ⟨S2048x4x1, .f32⟩
  | 22 => ⟨S2048x4x1, .f32⟩
  | 23 => ⟨S_, .f32⟩
  | 24 => ⟨S2048x4x1, .f32⟩
  | 25 => ⟨S2048x4x1, .f32⟩
  | 26 => ⟨S2048x4x128, .f32⟩
  | 27 => ⟨S2048x4x128, .f32⟩
  | 28 => ⟨S1x1x128, .f32⟩
  | 29 => ⟨S2048x4x128, .f32⟩
  | 30 => ⟨S2048x4x128, .f32⟩
  | 31 => ⟨S256x4x128, .f32⟩
  | 32 => ⟨S256x4x128, .f32⟩
  | 33 => ⟨S_, .f32⟩
  | 34 => ⟨S256x4, .f32⟩
  | 35 => ⟨S256x4x1, .f32⟩
  | 36 => ⟨S_, .f32⟩
  | 37 => ⟨S256x4x1, .f32⟩
  | 38 => ⟨S256x4x1, .f32⟩
  | 39 => ⟨S_, .f32⟩
  | 40 => ⟨S256x4x1, .f32⟩
  | 41 => ⟨S256x4x1, .f32⟩
  | 42 => ⟨S256x4x1, .f32⟩
  | 43 => ⟨S256x4x128, .f32⟩
  | 44 => ⟨S256x4x128, .f32⟩
  | 45 => ⟨S1x1x128, .f32⟩
  | 46 => ⟨S256x4x128, .f32⟩
  | 47 => ⟨S256x4x128, .f32⟩
  | 48 => ⟨S256x4x128, .f32⟩
  | 49 => ⟨S4x2048x256, .f32⟩
  | 50 => ⟨S_, .f32⟩
  | 51 => ⟨S4x2048x256, .f32⟩
  | 52 => ⟨S4x2048x256, .f32⟩
  | 53 => ⟨S_, .f32⟩
  | 54 => ⟨S4x2048, .f32⟩
  | 55 => ⟨S4x2048x1, .f32⟩
  | 56 => ⟨S4x2048x256, .f32⟩
  | 57 => ⟨S4x2048x256, .i1⟩
  | 58 => ⟨S4x2048x256, .f32⟩
  | 59 => ⟨S_, .f32⟩
  | 60 => ⟨S4x2048, .f32⟩
  | 61 => ⟨S4x2048x1, .f32⟩
  | 62 => ⟨S4x2048x256, .f32⟩
  | 63 => ⟨S4x2048x256, .f32⟩
  | 64 => ⟨S4x2048x256, .f32⟩
  | 65 => ⟨S_, .f32⟩
  | 66 => ⟨S4x2048, .f32⟩
  | 67 => ⟨S4x2048x1, .f32⟩
  | 68 => ⟨S4x2048x256, .f32⟩
  | 69 => ⟨S4x2048x256, .f32⟩
  | 70 => ⟨S4x2048x1, .f32⟩
  | 71 => ⟨S_, .f32⟩
  | 72 => ⟨S4x2048x1, .f32⟩
  | 73 => ⟨S4x2048x1, .f32⟩
  | 74 => ⟨S4x128x2048, .f32⟩
  | 75 => ⟨S2048x4x128, .f32⟩
  | 76 => ⟨S2048x512, .f32⟩
  | 77 => ⟨S2048x512, .f32⟩
  | 78 => ⟨S2048x512, .f32⟩
  | 79 => ⟨S_, .f32⟩
  | 80 => ⟨S2048x512, .f32⟩
  | 81 => ⟨S2048x512, .f32⟩
  | 82 => ⟨S_, .f32⟩
  | 83 => ⟨S2048x512, .f32⟩
  | 84 => ⟨S2048x512, .f32⟩
  | 85 => ⟨S_, .f32⟩
  | 86 => ⟨S2048x512, .f32⟩
  | 87 => ⟨S2048x512, .f32⟩
  | 88 => ⟨S2048x512, .f32⟩
  | 89 => ⟨S2048x512, .f32⟩
  | 90 => ⟨S2048x512, .f32⟩
  | 91 => ⟨S2048x512, .f32⟩
  | 92 => ⟨S2048x512, .f32⟩
  | 93 => ⟨S2048x512, .f32⟩
  | 94 => ⟨S2048x512, .f32⟩
  | 95 => ⟨S2048x512, .f32⟩
  | 96 => ⟨S2048x512, .f32⟩
  | 97 => ⟨S2048x4x128, .f32⟩
  | 98 => ⟨S4x128x2048, .f32⟩
  | 99 => ⟨S4x2048x256, .f32⟩
  | 100 => ⟨S4x2048x256, .f32⟩
  | 101 => ⟨S4x2048x256, .f32⟩
  | 102 => ⟨S4x2048x256, .f32⟩
  | 103 => ⟨S_, .f32⟩
  | 104 => ⟨S4x2048, .f32⟩
  | 105 => ⟨S4x2048x1, .f32⟩
  | 106 => ⟨S4x2048x1, .f32⟩
  | 107 => ⟨S4x2048x256, .f32⟩
  | 108 => ⟨S4x2048x256, .f32⟩
  | 109 => ⟨S_, .f32⟩
  | 110 => ⟨S4x2048, .f32⟩
  | 111 => ⟨S4x2048x256, .f32⟩
  | 112 => ⟨S4x2048x256, .f32⟩
  | 113 => ⟨S4x2048x256, .f32⟩
  | 114 => ⟨S_, .f32⟩
  | 115 => ⟨S4x2048x256, .f32⟩
  | 116 => ⟨S4x2048x256, .f32⟩
  | 117 => ⟨S4x2048x128, .f32⟩
  | 118 => ⟨S2048x4x128, .f32⟩
  | 119 => ⟨S2048x4x128, .f32⟩
  | 120 => ⟨S_, .f32⟩
  | 121 => ⟨S128, .f32⟩
  | 122 => ⟨S1x1x128, .f32⟩
  | 123 => ⟨S2048x4x128, .f32⟩
  | 124 => ⟨S2048x4x128, .f32⟩
  | 125 => ⟨S_, .f32⟩
  | 126 => ⟨S128, .f32⟩
  | 127 => ⟨S1x128, .f32⟩
  | _ => ⟨S2048x12544, .f32⟩

abbrev hbmTy0_1 (i : Nat) : BufTy := match i % 128 with
  | 0 => ⟨S2048x4x128, .f32⟩
  | 1 => ⟨S_, .f32⟩
  | 2 => ⟨S2048x4, .f32⟩
  | 3 => ⟨S2048x4x1, .f32⟩
  | 4 => ⟨S2048x4x128, .f32⟩
  | 5 => ⟨S2048x4x128, .f32⟩
  | 6 => ⟨S2048x4x1, .f32⟩
  | 7 => ⟨S_, .f32⟩
  | 8 => ⟨S2048x4x1, .f32⟩
  | 9 => ⟨S2048x4x1, .f32⟩
  | 10 => ⟨S_, .f32⟩
  | 11 => ⟨S2048x4, .f32⟩
  | 12 => ⟨S2048x4x128, .f32⟩
  | 13 => ⟨S2048x4x128, .f32⟩
  | 14 => ⟨S2048x4x128, .f32⟩
  | 15 => ⟨S2048x4x128, .f32⟩
  | 16 => ⟨S2048x4x128, .f32⟩
  | 17 => ⟨S2048x512, .f32⟩
  | _ => ⟨S2048x12544, .f32⟩

abbrev hbmTy (i : Nat) : BufTy := match i / 128 with
  | 0 => hbmTy0_0 i
  | 1 => hbmTy0_1 i
  | _ => ⟨S2048x12544, .f32⟩

abbrev bufTy : (tb : Table) → Fin (tcTables nBuf tb) → BufTy
  | .hbm, ⟨i, _⟩ => hbmTy i
  | _, _ => ⟨S2048x12544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_11 : Ref sig .tc := ⟨.hbm, 79, rfl⟩
abbrev main_v62 : Ref sig .tc := ⟨.hbm, 80, rfl⟩
abbrev main_v63 : Ref sig .tc := ⟨.hbm, 81, rfl⟩
abbrev main_cst_12 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_14 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_15 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_16 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_17 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_18 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_19 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_20 : Ref sig .tc := ⟨.hbm, 135, rfl⟩
abbrev main_v109 : Ref sig .tc := ⟨.hbm, 136, rfl⟩
abbrev main_v110 : Ref sig .tc := ⟨.hbm, 137, rfl⟩
abbrev main_cst_21 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩

abbrev nD : Nat := 1
abbrev τ : Topo := Topo.v7x

variable {F : FTy → Type} [FloatOps F]
-- ==== Kernel5.lean ====
abbrev S2048x2048 : Shape := ⟨2, ![2048, 2048]⟩
abbrev S1x2048 : Shape := ⟨2, ![1, 2048]⟩
abbrev S2048x12544 : Shape := ⟨2, ![2048, 12544]⟩
abbrev S1024x2048 : Shape := ⟨2, ![1024, 2048]⟩
abbrev S2048x896 : Shape := ⟨2, ![2048, 896]⟩
abbrev S1024x896 : Shape := ⟨2, ![1024, 896]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x12544, .bf16⟩
  | .hbm, ⟨3, _⟩ => ⟨S2048x12544, .f32⟩
  | .hbm, ⟨4, _⟩ => ⟨S2048x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x896, .bf16⟩
  | .local _ .vmem, ⟨4, _⟩ => ⟨S2048x896, .bf16⟩
  | .local _ .vmem, ⟨5, _⟩ => ⟨S1024x896, .f32⟩
  | .local _ .vmem, ⟨6, _⟩ => ⟨S1024x896, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 14], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S2048x2048 : Shape := ⟨2, ![2048, 2048]⟩
abbrev S1x2048 : Shape := ⟨2, ![1, 2048]⟩
abbrev S2048x12544 : Shape := ⟨2, ![2048, 12544]⟩
abbrev S_ : Shape := ⟨0, ![]⟩
abbrev S2048 : Shape := ⟨1, ![2048]⟩
abbrev S2048x1 : Shape := ⟨2, ![2048, 1]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x12544, .bf16⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x12544, .f32⟩
  | .hbm, ⟨19, _⟩ => ⟨S2048x12544, .f32⟩
  | .hbm, ⟨20, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S2048x2048 : Shape := ⟨2, ![2048, 2048]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S2048x2048 : Shape := ⟨2, ![2048, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S2048x2048 : Shape := ⟨2, ![2048, 2048]⟩
abbrev S8x128 : Shape := ⟨2, ![8, 128]⟩
abbrev S1024x2048 : Shape := ⟨2, ![1024, 2048]⟩
abbrev S2048x512 : Shape := ⟨2, ![2048, 512]⟩
abbrev S1024x512 : Shape := ⟨2, ![1024, 512]⟩
abbrev S1x1024x512 : Shape := ⟨3, ![1, 1024, 512]⟩
abbrev S1 : Shape := ⟨1, ![1]⟩
abbrev S1x1x1 : Shape := ⟨3, ![1, 1, 1]⟩

abbrev nBuf : Space → Nat
  | .hbm => 7
  | .vmem => 13
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S8x128, .f32⟩
  | .hbm, ⟨5, _⟩ => ⟨S2048x2048, .f32⟩
  | .hbm, ⟨6, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S8x128, .f32⟩
  | .local _ .vmem, ⟨9, _⟩ => ⟨S1024x512, .f32⟩
  | .local _ .vmem, ⟨10, _⟩ => ⟨S1024x512, .f32⟩
  | .local _ .vmem, ⟨11, _⟩ => ⟨S1024x512, .bf16⟩
  | .local _ .vmem, ⟨12, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S2048x2048 : Shape := ⟨2, ![2048, 2048]⟩
abbrev S_ : Shape := ⟨0, ![]⟩
abbrev S2048 : Shape := ⟨1, ![2048]⟩
abbrev S8x128 : Shape := ⟨2, ![8, 128]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048x2048, .f32⟩
  | .hbm, ⟨34, _⟩ => ⟨S2048x2048, .f32⟩
  | .hbm, ⟨35, _⟩ => ⟨S8x128, .f32⟩
  | .hbm, ⟨36, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_cst_5 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S768x2048 : Shape := ⟨2, ![768, 2048]⟩
abbrev S2048x2048 : Shape := ⟨2, ![2048, 2048]⟩
abbrev S4x768x512 : Shape := ⟨3, ![4, 768, 512]⟩
abbrev S2048x512 : Shape := ⟨2, ![2048, 512]⟩
abbrev S1x768x512 : Shape := ⟨3, ![1, 768, 512]⟩
abbrev S768x512 : Shape := ⟨2, ![768, 512]⟩

abbrev nBuf : Space → Nat
  | .hbm => 5
  | .vmem => 8
  | .smem => 0
  | _ => 0

abbrev bufTy : (tb : Table) → Fin (tcTables nBuf tb) → BufTy
  | .hbm, ⟨0, _⟩ => ⟨S768x2048, .bf16⟩
  | .hbm, ⟨1, _⟩ => ⟨S768x2048, .bf16⟩
  | .hbm, ⟨2, _⟩ => ⟨S2048x2048, .bf16⟩
  | .hbm, ⟨3, _⟩ => ⟨S4x768x512, .f32⟩
  | .hbm, ⟨4, _⟩ => ⟨S4x768x512, .bf16⟩
  | .local _ .vmem, ⟨0, _⟩ => ⟨S768x2048, .bf16⟩
  | .local _ .vmem, ⟨1, _⟩ => ⟨S2048x512, .bf16⟩
  | .local _ .vmem, ⟨2, _⟩ => ⟨S2048x512, .bf16⟩
  | .local _ .vmem, ⟨3, _⟩ => ⟨S1x768x512, .f32⟩
  | .local _ .vmem, ⟨4, _⟩ => ⟨S1x768x512, .f32⟩
  | .local _ .vmem, ⟨5, _⟩ => ⟨S1x768x512, .bf16⟩
  | .local _ .vmem, ⟨6, _⟩ => ⟨S1x768x512, .bf16⟩
  | .local _ .vmem, ⟨7, _⟩ => ⟨S768x512, .f32⟩
  | _, _ => ⟨S768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S768x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S768x2048 : Shape := ⟨2, ![768, 2048]⟩
abbrev S2048x2048 : Shape := ⟨2, ![2048, 2048]⟩
abbrev S2048x768 : Shape := ⟨2, ![2048, 768]⟩
abbrev S768x512 : Shape := ⟨2, ![768, 512]⟩
abbrev S1x768x512 : Shape := ⟨3, ![1, 768, 512]⟩
abbrev S4x768x512 : Shape := ⟨3, ![4, 768, 512]⟩

abbrev nBuf : Space → Nat
  | .hbm => 20
  | .vmem => 0
  | .smem => 0
  | _ => 0

abbrev bufTy : (tb : Table) → Fin (tcTables nBuf tb) → BufTy
  | .hbm, ⟨0, _⟩ => ⟨S768x2048, .bf16⟩
  | .hbm, ⟨1, _⟩ => ⟨S768x2048, .bf16⟩
  | .hbm, ⟨2, _⟩ => ⟨S2048x2048, .bf16⟩
  | .hbm, ⟨3, _⟩ => ⟨S2048x768, .bf16⟩
  | .hbm, ⟨4, _⟩ => ⟨S2048x768, .f32⟩
  | .hbm, ⟨5, _⟩ => ⟨S768x2048, .f32⟩
  | .hbm, ⟨6, _⟩ => ⟨S2048x2048, .f32⟩
  | .hbm, ⟨7, _⟩ => ⟨S2048x2048, .f32⟩
  | .hbm, ⟨8, _⟩ => ⟨S2048x768, .f32⟩
  | .hbm, ⟨9, _⟩ => ⟨S768x2048, .f32⟩
  | .hbm, ⟨10, _⟩ => ⟨S768x512, .f32⟩
  | .hbm, ⟨11, _⟩ => ⟨S768x512, .f32⟩
  | .hbm, ⟨12, _⟩ => ⟨S768x512, .f32⟩
  | .hbm, ⟨13, _⟩ => ⟨S768x512, .f32⟩
  | .hbm, ⟨14, _⟩ => ⟨S1x768x512, .f32⟩
  | .hbm, ⟨15, _⟩ => ⟨S1x768x512, .f32⟩
  | .hbm, ⟨16, _⟩ => ⟨S1x768x512, .f32⟩
  | .hbm, ⟨17, _⟩ => ⟨S1x768x512, .f32⟩
  | .hbm, ⟨18, _⟩ => ⟨S4x768x512, .f32⟩
  | .hbm, ⟨19, _⟩ => ⟨S4x768x512, .bf16⟩
  | _, _ => ⟨S768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Kernel10.lean ====
abbrev S512x2048 : Shape := ⟨2, ![512, 2048]⟩
abbrev S2048x2048 : Shape := ⟨2, ![2048, 2048]⟩
abbrev S4x512x512 : Shape := ⟨3, ![4, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S512x2048, .bf16⟩
  | .hbm, ⟨1, _⟩ => ⟨S512x2048, .bf16⟩
  | .hbm, ⟨2, _⟩ => ⟨S2048x2048, .bf16⟩
  | .hbm, ⟨3, _⟩ => ⟨S4x512x512, .f32⟩
  | .hbm, ⟨4, _⟩ => ⟨S4x512x512, .bf16⟩
  | .local _ .vmem, ⟨0, _⟩ => ⟨S512x2048, .bf16⟩
  | .local _ .vmem, ⟨1, _⟩ => ⟨S2048x512, .bf16⟩
  | .local _ .vmem, ⟨2, _⟩ => ⟨S2048x512, .bf16⟩
  | .local _ .vmem, ⟨3, _⟩ => ⟨S1x512x512, .f32⟩
  | .local _ .vmem, ⟨4, _⟩ => ⟨S1x512x512, .f32⟩
  | .local _ .vmem, ⟨5, _⟩ => ⟨S1x512x512, .bf16⟩
  | .local _ .vmem, ⟨6, _⟩ => ⟨S1x512x512, .bf16⟩
  | .local _ .vmem, ⟨7, _⟩ => ⟨S512x512, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S512x2048 : Shape := ⟨2, ![512, 2048]⟩
abbrev S2048x2048 : Shape := ⟨2, ![2048, 2048]⟩
abbrev S2048x512 : Shape := ⟨2, ![2048, 512]⟩
abbrev S512x512 : Shape := ⟨2, ![512, 512]⟩
abbrev S1x512x512 : Shape := ⟨3, ![1, 512, 512]⟩
abbrev S4x512x512 : Shape := ⟨3, ![4, 512, 512]⟩

abbrev nBuf : Space → Nat
  | .hbm => 20
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S512x2048, .bf16⟩
  | .hbm, ⟨2, _⟩ => ⟨S2048x2048, .bf16⟩
  | .hbm, ⟨3, _⟩ => ⟨S2048x512, .bf16⟩
  | .hbm, ⟨4, _⟩ => ⟨S2048x512, .f32⟩
  | .hbm, ⟨5, _⟩ => ⟨S512x2048, .f32⟩
  | .hbm, ⟨6, _⟩ => ⟨S2048x2048, .f32⟩
  | .hbm, ⟨7, _⟩ => ⟨S2048x2048, .f32⟩
  | .hbm, ⟨8, _⟩ => ⟨S2048x512, .f32⟩
  | .hbm, ⟨9, _⟩ => ⟨S512x2048, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S1x512x512, .f32⟩
  | .hbm, ⟨15, _⟩ => ⟨S1x512x512, .f32⟩
  | .hbm, ⟨16, _⟩ => ⟨S1x512x512, .f32⟩
  | .hbm, ⟨17, _⟩ => ⟨S1x512x512, .f32⟩
  | .hbm, ⟨18, _⟩ => ⟨S4x512x512, .f32⟩
  | .hbm, ⟨19, _⟩ => ⟨S4x512x512, .bf16⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Kernel11.lean ====
abbrev S2048x768 : Shape := ⟨2, ![2048, 768]⟩
abbrev S2048x512 : Shape := ⟨2, ![2048, 512]⟩
abbrev S768x2048 : Shape := ⟨2, ![768, 2048]⟩
abbrev S512x2048 : Shape := ⟨2, ![512, 2048]⟩
abbrev S2048x12544 : Shape := ⟨2, ![2048, 12544]⟩
abbrev S1x6144 : Shape := ⟨2, ![1, 6144]⟩
abbrev S2048x2048 : Shape := ⟨2, ![2048, 2048]⟩
abbrev S512x768 : Shape := ⟨2, ![512, 768]⟩
abbrev S512x512 : Shape := ⟨2, ![512, 512]⟩
abbrev S768x256 : Shape := ⟨2, ![768, 256]⟩
abbrev S512x256 : Shape := ⟨2, ![512, 256]⟩
abbrev S1x256 : Shape := ⟨2, ![1, 256]⟩
abbrev S256x512 : Shape := ⟨2, ![256, 512]⟩

abbrev nBuf : Space → Nat
  | .hbm => 10
  | .vmem => 28
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x512, .f32⟩
  | .hbm, ⟨3, _⟩ => ⟨S768x2048, .bf16⟩
  | .hbm, ⟨4, _⟩ => ⟨S768x2048, .bf16⟩
  | .hbm, ⟨5, _⟩ => ⟨S512x2048, .bf16⟩
  | .hbm, ⟨6, _⟩ => ⟨S2048x12544, .f32⟩
  | .hbm, ⟨7, _⟩ => ⟨S1x6144, .f32⟩
  | .hbm, ⟨8, _⟩ => ⟨S2048x2048, .bf16⟩
  | .hbm, ⟨9, _⟩ => ⟨S2048x2048, .bf16⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x512, .f32⟩
  | .local _ .vmem, ⟨5, _⟩ => ⟨S512x512, .f32⟩
  | .local _ .vmem, ⟨6, _⟩ => ⟨S768x256, .bf16⟩
  | .local _ .vmem, ⟨7, _⟩ => ⟨S768x256, .bf16⟩
  | .local _ .vmem, ⟨8, _⟩ => ⟨S768x256, .bf16⟩
  | .local _ .vmem, ⟨9, _⟩ => ⟨S768x256, .bf16⟩
  | .local _ .vmem, ⟨10, _⟩ => ⟨S512x256, .bf16⟩
  | .local _ .vmem, ⟨11, _⟩ => ⟨S512x256, .bf16⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S512x256, .bf16⟩
  | .local _ .vmem, ⟨25, _⟩ => ⟨S512x256, .bf16⟩
  | .local _ .vmem, ⟨26, _⟩ => ⟨S256x512, .bf16⟩
  | .local _ .vmem, ⟨27, _⟩ => ⟨S256x512, .bf16⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.addi c33_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c41_i32 : BitVec 32 := 41#32
  let v0 : BitVec 32 := Scalar.addi c41_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference11Ideal.lean ====
abbrev S2048x768 : Shape := ⟨2, ![2048, 768]⟩
abbrev S2048x512 : Shape := ⟨2, ![2048, 512]⟩
abbrev S768x2048 : Shape := ⟨2, ![768, 2048]⟩
abbrev S512x2048 : Shape := ⟨2, ![512, 2048]⟩
abbrev S2048x12544 : Shape := ⟨2, ![2048, 12544]⟩
abbrev S1x6144 : Shape := ⟨2, ![1, 6144]⟩
abbrev S2048x6144 : Shape := ⟨2, ![2048, 6144]⟩
abbrev S_ : Shape := ⟨0, ![]⟩
abbrev S2048x2048 : Shape := ⟨2, ![2048, 2048]⟩

abbrev nBuf : Space → Nat
  | .hbm => 36
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x512, .f32⟩
  | .hbm, ⟨3, _⟩ => ⟨S768x2048, .bf16⟩
  | .hbm, ⟨4, _⟩ => ⟨S768x2048, .bf16⟩
  | .hbm, ⟨5, _⟩ => ⟨S512x2048, .bf16⟩
  | .hbm, ⟨6, _⟩ => ⟨S2048x12544, .f32⟩
  | .hbm, ⟨7, _⟩ => ⟨S1x6144, .f32⟩
  | .hbm, ⟨8, _⟩ => ⟨S2048x6144, .f32⟩
  | .hbm, ⟨9, _⟩ => ⟨S2048x6144, .f32⟩
  | .hbm, ⟨10, _⟩ => ⟨S2048x6144, .f32⟩
  | .hbm, ⟨11, _⟩ => ⟨S2048x6144, .f32⟩
  | .hbm, ⟨12, _⟩ => ⟨S2048x6144, .f32⟩
  | .hbm, ⟨13, _⟩ => ⟨S_, .f32⟩
  | .hbm, ⟨14, _⟩ => ⟨S2048x6144, .f32⟩
  | .hbm, ⟨15, _⟩ => ⟨S2048x6144, .f32⟩
  | .hbm, ⟨16, _⟩ => ⟨S_, .f32⟩
  | .hbm, ⟨17, _⟩ => ⟨S2048x6144, .f32⟩
  | .hbm, ⟨18, _⟩ => ⟨S2048x6144, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S768x2048, .f32⟩
  | .hbm, ⟨23, _⟩ => ⟨S2048x2048, .f32⟩
  | .hbm, ⟨24, _⟩ => ⟨S2048x2048, .f32⟩
  | .hbm, ⟨25, _⟩ => ⟨S768x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S512x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .bf16⟩
  | .hbm, ⟨34, _⟩ => ⟨S2048x2048, .f32⟩
  | .hbm, ⟨35, _⟩ => ⟨S2048x2048, .bf16⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel12.lean ====
abbrev S256x2048 : Shape := ⟨2, ![256, 2048]⟩
abbrev S2048x1024 : Shape := ⟨2, ![2048, 1024]⟩
abbrev S256x1024 : Shape := ⟨2, ![256, 1024]⟩
abbrev S256x512 : Shape := ⟨2, ![256, 512]⟩
abbrev S512x512 : Shape := ⟨2, ![512, 512]⟩

abbrev nBuf : Space → Nat
  | .hbm => 5
  | .vmem => 9
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .hbm, ⟨3, _⟩ => ⟨S2048x1024, .f32⟩
  | .hbm, ⟨4, _⟩ => ⟨S2048x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .f32⟩
  | .local _ .vmem, ⟨3, _⟩ => ⟨S256x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S256x2048 : Shape := ⟨2, ![256, 2048]⟩
abbrev S2048x1024 : Shape := ⟨2, ![2048, 1024]⟩
abbrev S256x1024 : Shape := ⟨2, ![256, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .hbm, ⟨3, _⟩ => ⟨S2048x1024, .f32⟩
  | .hbm, ⟨4, _⟩ => ⟨S256x2048, .f32⟩
  | .hbm, ⟨5, _⟩ => ⟨S256x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S2048x6144 : Shape := ⟨2, ![2048, 6144]⟩
abbrev S1x6144 : Shape := ⟨2, ![1, 6144]⟩
abbrev S2048x512 : Shape := ⟨2, ![2048, 512]⟩
abbrev S1x512 : Shape := ⟨2, ![1, 512]⟩
abbrev S512 : Shape := ⟨1, ![512]⟩

abbrev nBuf : Space → Nat
  | .hbm => 4
  | .vmem => 4
  | .smem => 0
  | _ => 0

abbrev bufTy : (tb : Table) → Fin (tcTables nBuf tb) → BufTy
  | .hbm, ⟨0, _⟩ => ⟨S2048x6144, .f32⟩
  | .hbm, ⟨1, _⟩ => ⟨S1x6144, .f32⟩
  | .hbm, ⟨2, _⟩ => ⟨S2048x6144, .bf16⟩
  | .hbm, ⟨3, _⟩ => ⟨S1x6144, .f32⟩
  | .local _ .vmem, ⟨0, _⟩ => ⟨S2048x512, .bf16⟩
  | .local _ .vmem, ⟨1, _⟩ => ⟨S2048x512, .bf16⟩
  | .local _ .vmem, ⟨2, _⟩ => ⟨S1x512, .f32⟩
  | .local _ .vmem, ⟨3, _⟩ => ⟨S1x512, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![12, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== Reference13Ideal.lean ====
abbrev S2048x6144 : Shape := ⟨2, ![2048, 6144]⟩
abbrev S1x6144 : Shape := ⟨2, ![1, 6144]⟩
abbrev S_ : Shape := ⟨0, ![]⟩
abbrev S6144 : Shape := ⟨1, ![6144]⟩

abbrev nBuf : Space → Nat
  | .hbm => 9
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S1x6144, .f32⟩
  | .hbm, ⟨2, _⟩ => ⟨S2048x6144, .bf16⟩
  | .hbm, ⟨3, _⟩ => ⟨S2048x6144, .f32⟩
  | .hbm, ⟨4, _⟩ => ⟨S2048x6144, .f32⟩
  | .hbm, ⟨5, _⟩ => ⟨S2048x6144, .f32⟩
  | .hbm, ⟨6, _⟩ => ⟨S_, .f32⟩
  | .hbm, ⟨7, _⟩ => ⟨S6144, .f32⟩
  | .hbm, ⟨8, _⟩ => ⟨S1x6144, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel14.lean ====
abbrev S256x2048 : Shape := ⟨2, ![256, 2048]⟩
abbrev S2048x1024 : Shape := ⟨2, ![2048, 1024]⟩
abbrev S256x1024 : Shape := ⟨2, ![256, 1024]⟩
abbrev S512x1024 : Shape := ⟨2, ![512, 1024]⟩
abbrev S256x512 : Shape := ⟨2, ![256, 512]⟩

abbrev nBuf : Space → Nat
  | .hbm => 4
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .hbm, ⟨3, _⟩ => ⟨S256x2048, .f32⟩
  | .local _ .vmem, ⟨0, _⟩ => ⟨S256x1024, .f32⟩
  | .local _ .vmem, ⟨1, _⟩ => ⟨S512x1024, .bf16⟩
  | .local _ .vmem, ⟨2, _⟩ => ⟨S512x1024, .bf16⟩
  | .local _ .vmem, ⟨3, _⟩ => ⟨S256x512, .f32⟩
  | .local _ .vmem, ⟨4, _⟩ => ⟨S256x512, .f32⟩
  | .local _ .vmem, ⟨5, _⟩ => ⟨S256x512, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .hbm, ⟨3, _⟩ => ⟨S256x2048, .f32⟩
  | .hbm, ⟨4, _⟩ => ⟨S2048x1024, .f32⟩
  | .hbm, ⟨5, _⟩ => ⟨S256x1024, .f32⟩
  | .hbm, ⟨6, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 4
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference15Ideal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 22
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S2048, .f32⟩
  | .hbm, ⟨21, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel16.lean ====
abbrev S256x2048 : Shape := ⟨2, ![256, 2048]⟩
abbrev S1x2048 : Shape := ⟨2, ![1, 2048]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048x1024, .bf16⟩
  | .hbm, ⟨3, _⟩ => ⟨S256x1024, .f32⟩
  | .hbm, ⟨4, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S2048x1024, .bf16⟩
  | .local _ .vmem, ⟨3, _⟩ => ⟨S256x1024, .f32⟩
  | .local _ .vmem, ⟨4, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference16Ideal.lean ====
abbrev S256x2048 : Shape := ⟨2, ![256, 2048]⟩
abbrev S1x2048 : Shape := ⟨2, ![1, 2048]⟩
abbrev S2048x1024 : Shape := ⟨2, ![2048, 1024]⟩
abbrev S_ : Shape := ⟨0, ![]⟩
abbrev S256 : Shape := ⟨1, ![256]⟩
abbrev S256x1 : Shape := ⟨2, ![256, 1]⟩
abbrev S256x1024 : Shape := ⟨2, ![256, 1024]⟩

abbrev nBuf : Space → Nat
  | .hbm => 21
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048x1024, .bf16⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S2048x1024, .f32⟩
  | .hbm, ⟨19, _⟩ => ⟨S256x1024, .f32⟩
  | .hbm, ⟨20, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel17.lean ====
abbrev S2048x12544 : Shape := ⟨2, ![2048, 12544]⟩
abbrev S1x2560 : Shape := ⟨2, ![1, 2560]⟩
abbrev S2048x2560 : Shape := ⟨2, ![2048, 2560]⟩
abbrev S2048x512 : Shape := ⟨2, ![2048, 512]⟩
abbrev S1x512 : Shape := ⟨2, ![1, 512]⟩
abbrev S512 : Shape := ⟨1, ![512]⟩

abbrev nBuf : Space → Nat
  | .hbm => 5
  | .vmem => 10
  | .smem => 0
  | _ => 0

abbrev bufTy : (tb : Table) → Fin (tcTables nBuf tb) → BufTy
  | .hbm, ⟨0, _⟩ => ⟨S2048x12544, .f32⟩
  | .hbm, ⟨1, _⟩ => ⟨S1x2560, .f32⟩
  | .hbm, ⟨2, _⟩ => ⟨S2048x2560, .f32⟩
  | .hbm, ⟨3, _⟩ => ⟨S2048x2560, .f32⟩
  | .hbm, ⟨4, _⟩ => ⟨S1x2560, .f32⟩
  | .local _ .vmem, ⟨0, _⟩ => ⟨S2048x512, .f32⟩
  | .local _ .vmem, ⟨1, _⟩ => ⟨S2048x512, .f32⟩
  | .local _ .vmem, ⟨2, _⟩ => ⟨S1x512, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1x512, .f32⟩
  | .local _ .vmem, ⟨9, _⟩ => ⟨S1x512, .f32⟩
  | _, _ => ⟨S2048x12544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S2048x12544 : Shape := ⟨2, ![2048, 12544]⟩
abbrev S1x2560 : Shape := ⟨2, ![1, 2560]⟩
abbrev S2048x2560 : Shape := ⟨2, ![2048, 2560]⟩
abbrev S_ : Shape := ⟨0, ![]⟩
abbrev S2049x2560 : Shape := ⟨2, ![2049, 2560]⟩
abbrev S2560 : Shape := ⟨1, ![2560]⟩

abbrev nBuf : Space → Nat
  | .hbm => 24
  | .vmem => 0
  | .smem => 0
  | _ => 0

abbrev bufTy : (tb : Table) → Fin (tcTables nBuf tb) → BufTy
  | .hbm, ⟨0, _⟩ => ⟨S2048x12544, .f32⟩
  | .hbm, ⟨1, _⟩ => ⟨S1x2560, .f32⟩
  | .hbm, ⟨2, _⟩ => ⟨S2048x2560, .f32⟩
  | .hbm, ⟨3, _⟩ => ⟨S2048x2560, .f32⟩
  | .hbm, ⟨4, _⟩ => ⟨S_, .i32⟩
  | .hbm, ⟨5, _⟩ => ⟨S_, .f32⟩
  | .hbm, ⟨6, _⟩ => ⟨S2049x2560, .f32⟩
  | .hbm, ⟨7, _⟩ => ⟨S2048x2560, .f32⟩
  | .hbm, ⟨8, _⟩ => ⟨S_, .i32⟩
  | .hbm, ⟨9, _⟩ => ⟨S_, .f32⟩
  | .hbm, ⟨10, _⟩ => ⟨S2049x2560, .f32⟩
  | .hbm, ⟨11, _⟩ => ⟨S2048x2560, .f32⟩
  | .hbm, ⟨12, _⟩ => ⟨S2048x2560, .f32⟩
  | .hbm, ⟨13, _⟩ => ⟨S_, .f32⟩
  | .hbm, ⟨14, _⟩ => ⟨S2048x2560, .f32⟩
  | .hbm, ⟨15, _⟩ => ⟨S2048x2560, .f32⟩
  | .hbm, ⟨16, _⟩ => ⟨S2048x2560, .f32⟩
  | .hbm, ⟨17, _⟩ => ⟨S2048x2560, .f32⟩
  | .hbm, ⟨18, _⟩ => ⟨S2048x2560, .f32⟩
  | .hbm, ⟨19, _⟩ => ⟨S2048x2560, .f32⟩
  | .hbm, ⟨20, _⟩ => ⟨S2048x2560, .f32⟩
  | .hbm, ⟨21, _⟩ => ⟨S_, .f32⟩
  | .hbm, ⟨22, _⟩ => ⟨S2560, .f32⟩
  | .hbm, ⟨23, _⟩ => ⟨S1x2560, .f32⟩
  | _, _ => ⟨S2048x12544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel18.lean ====
abbrev S2048x768 : Shape := ⟨2, ![2048, 768]⟩
abbrev S2048x2560 : Shape := ⟨2, ![2048, 2560]⟩
abbrev S2048x12544 : Shape := ⟨2, ![2048, 12544]⟩
abbrev S1x768 : Shape := ⟨2, ![1, 768]⟩
abbrev S256x768 : Shape := ⟨2, ![256, 768]⟩
abbrev S768x768 : Shape := ⟨2, ![768, 768]⟩
abbrev S768 : Shape := ⟨1, ![768]⟩

abbrev nBuf : Space → Nat
  | .hbm => 19
  | .vmem => 34
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x2560, .f32⟩
  | .hbm, ⟨3, _⟩ => ⟨S2048x768, .f32⟩
  | .hbm, ⟨4, _⟩ => ⟨S2048x768, .f32⟩
  | .hbm, ⟨5, _⟩ => ⟨S2048x12544, .f32⟩
  | .hbm, ⟨6, _⟩ => ⟨S1x768, .f32⟩
  | .hbm, ⟨7, _⟩ => ⟨S1x768, .f32⟩
  | .hbm, ⟨8, _⟩ => ⟨S1x768, .f32⟩
  | .hbm, ⟨9, _⟩ => ⟨S2048x768, .f32⟩
  | .hbm, ⟨10, _⟩ => ⟨S2048x768, .f32⟩
  | .hbm, ⟨11, _⟩ => ⟨S2048x768, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S2048x768, .f32⟩
  | .hbm, ⟨16, _⟩ => ⟨S1x768, .f32⟩
  | .hbm, ⟨17, _⟩ => ⟨S1x768, .f32⟩
  | .hbm, ⟨18, _⟩ => ⟨S1x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S1x768, .f32⟩
  | .local _ .vmem, ⟨15, _⟩ => ⟨S1x768, .f32⟩
  | .local _ .vmem, ⟨16, _⟩ => ⟨S1x768, .f32⟩
  | .local _ .vmem, ⟨17, _⟩ => ⟨S256x768, .f32⟩
  | .local _ .vmem, ⟨18, _⟩ => ⟨S256x768, .f32⟩
  | .local _ .vmem, ⟨19, _⟩ => ⟨S256x768, .f32⟩
  | .local _ .vmem, ⟨20, _⟩ => ⟨S256x768, .f32⟩
  | .local _ .vmem, ⟨21, _⟩ => ⟨S256x768, .f32⟩
  | .local _ .vmem, ⟨22, _⟩ => ⟨S256x768, .f32⟩
  | .local _ .vmem, ⟨23, _⟩ => ⟨S256x768, .f32⟩
  | .local _ .vmem, ⟨24, _⟩ => ⟨S256x768, .f32⟩
  | .local _ .vmem, ⟨25, _⟩ => ⟨S256x768, .f32⟩
  | .local _ .vmem, ⟨26, _⟩ => ⟨S256x768, .f32⟩
  | .local _ .vmem, ⟨27, _⟩ => ⟨S256x768, .f32⟩
  | .local _ .vmem, ⟨28, _⟩ => ⟨S256x768, .f32⟩
  | .local _ .vmem, ⟨29, _⟩ => ⟨S256x768, .f32⟩
  | .local _ .vmem, ⟨30, _⟩ => ⟨S256x768, .f32⟩
  | .local _ .vmem, ⟨31, _⟩ => ⟨S1x768, .f32⟩
  | .local _ .vmem, ⟨32, _⟩ => ⟨S1x768, .f32⟩
  | .local _ .vmem, ⟨33, _⟩ => ⟨S1x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem18_0 : DmaSem sig := 32
abbrev cc0_sem19_0 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference18Ideal.lean ====
abbrev S2048x768 : Shape := ⟨2, ![2048, 768]⟩
abbrev S2048x2560 : Shape := ⟨2, ![2048, 2560]⟩
abbrev S2048x12544 : Shape := ⟨2, ![2048, 12544]⟩
abbrev S1x768 : Shape := ⟨2, ![1, 768]⟩
abbrev S2048x2304 : Shape := ⟨2, ![2048, 2304]⟩
abbrev S2048x12x64 : Shape := ⟨3, ![2048, 12, 64]⟩
abbrev S1x12x64 : Shape := ⟨3, ![1, 12, 64]⟩
abbrev S_ : Shape := ⟨0, ![]⟩
abbrev S2048x12 : Shape := ⟨2, ![2048, 12]⟩
abbrev S2048x12x1 : Shape := ⟨3, ![2048, 12, 1]⟩
abbrev S768 : Shape := ⟨1, ![768]⟩
abbrev S12x64 : Shape := ⟨2, ![12, 64]⟩

abbrev nBuf : Space → Nat
  | .hbm => 124
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x2560, .f32⟩
  | .hbm, ⟨3, _⟩ => ⟨S2048x768, .f32⟩
  | .hbm, ⟨4, _⟩ => ⟨S2048x768, .f32⟩
  | .hbm, ⟨5, _⟩ => ⟨S2048x12544, .f32⟩
  | .hbm, ⟨6, _⟩ => ⟨S1x768, .f32⟩
  | .hbm, ⟨7, _⟩ => ⟨S1x768, .f32⟩
  | .hbm, ⟨8, _⟩ => ⟨S1x768, .f32⟩
  | .hbm, ⟨9, _⟩ => ⟨S2048x768, .f32⟩
  | .hbm, ⟨10, _⟩ => ⟨S2048x2304, .f32⟩
  | .hbm, ⟨11, _⟩ => ⟨S2048x768, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S2048x768, .f32⟩
  | .hbm, ⟨16, _⟩ => ⟨S2048x12x64, .f32⟩
  | .hbm, ⟨17, _⟩ => ⟨S2048x12x64, .f32⟩
  | .hbm, ⟨18, _⟩ => ⟨S2048x12x64, .f32⟩
  | .hbm, ⟨19, _⟩ => ⟨S1x12x64, .f32⟩
  | .hbm, ⟨20, _⟩ => ⟨S2048x12x64, .f32⟩
  | .hbm, ⟨21, _⟩ => ⟨S2048x12x64, .f32⟩
  | .hbm, ⟨22, _⟩ => ⟨S2048x12x64, .f32⟩
  | .hbm, ⟨23, _⟩ => ⟨S2048x12x64, .f32⟩
  | .hbm, ⟨24, _⟩ => ⟨S_, .f32⟩
  | .hbm, ⟨25, _⟩ => ⟨S2048x12, .f32⟩
  | .hbm, ⟨26, _⟩ => ⟨S2048x12x1, .f32⟩
  | .hbm, ⟨27, _⟩ => ⟨S2048x12x64, .f32⟩
  | .hbm, ⟨28, _⟩ => ⟨S2048x12x64, .f32⟩
  | .hbm, ⟨29, _⟩ => ⟨S2048x12x64, .f32⟩
  | .hbm, ⟨30, _⟩ => ⟨S2048x12x64, .f32⟩
  | .hbm, ⟨31, _⟩ => ⟨S2048x12x64, .f32⟩
  | .hbm, ⟨32, _⟩ => ⟨S2048x12x64, .f32⟩
  | .hbm, ⟨33, _⟩ => ⟨S_, .f32⟩
  | .hbm, ⟨34, _⟩ => ⟨S2048x12, .f32⟩
  | .hbm, ⟨35, _⟩ => ⟨S2048x12x1, .f32⟩
  | .hbm, ⟨36, _⟩ => ⟨S2048x12x64, .f32⟩
  | .hbm, ⟨37, _⟩ => ⟨S2048x12x64, .f32⟩
  | .hbm, ⟨38, _⟩ => ⟨S2048x12x64, .f32⟩
  | .hbm, ⟨39, _⟩ => ⟨S_, .f32⟩
  | .hbm, ⟨40, _⟩ => ⟨S2048x12, .f32⟩
  | .hbm, ⟨41, _⟩ => ⟨S2048x12x1, .f32⟩
  | .hbm, ⟨42, _⟩ => ⟨S_, .f32⟩
  | .hbm, ⟨43, _⟩ => ⟨S2048x12x1, .f32⟩
  | .hbm, ⟨44, _⟩ => ⟨S2048x12x1, .f32⟩
  | .hbm, ⟨45, _⟩ => ⟨S2048x12x64, .f32⟩
  | .hbm, ⟨46, _⟩ => ⟨S2048x12x64, .f32⟩
  | .hbm, ⟨47, _⟩ => ⟨S2048x12x64, .f32⟩
  | .hbm, ⟨48, _⟩ => ⟨S_, .f32⟩
  | .hbm, ⟨49, _⟩ => ⟨S2048x12, .f32⟩
  | .hbm, ⟨50, _⟩ => ⟨S2048x12x1, .f32⟩
  | .hbm, ⟨51, _⟩ => ⟨S_, .f32⟩
  | .hbm, ⟨52, _⟩ => ⟨S2048x12x1, .f32⟩
  | .hbm, ⟨53, _⟩ => ⟨S2048x12x1, .f32⟩
  | .hbm, ⟨54, _⟩ => ⟨S2048x12x64, .f32⟩
  | .hbm, ⟨55, _⟩ => ⟨S2048x12x64, .f32⟩
  | .hbm, ⟨56, _⟩ => ⟨S_, .f32⟩
  | .hbm, ⟨57, _⟩ => ⟨S2048x12x1, .f32⟩
  | .hbm, ⟨58, _⟩ => ⟨S2048x12x1, .f32⟩
  | .hbm, ⟨59, _⟩ => ⟨S2048x12x1, .f32⟩
  | .hbm, ⟨60, _⟩ => ⟨S2048x12x64, .f32⟩
  | .hbm, ⟨61, _⟩ => ⟨S2048x12x64, .f32⟩
  | .hbm, ⟨62, _⟩ => ⟨S2048x768, .f32⟩
  | .hbm, ⟨63, _⟩ => ⟨S2048x768, .f32⟩
  | .hbm, ⟨64, _⟩ => ⟨S2048x768, .f32⟩
  | .hbm, ⟨65, _⟩ => ⟨S2048x768, .f32⟩
  | .hbm, ⟨66, _⟩ => ⟨S2048x768, .f32⟩
  | .hbm, ⟨67, _⟩ => ⟨S2048x768, .f32⟩
  | .hbm, ⟨68, _⟩ => ⟨S2048x768, .f32⟩
  | .hbm, ⟨69, _⟩ => ⟨S2048x768, .f32⟩
  | .hbm, ⟨70, _⟩ => ⟨S2048x768, .f32⟩
  | .hbm, ⟨71, _⟩ => ⟨S_, .f32⟩
  | .hbm, ⟨72, _⟩ => ⟨S2048x768, .f32⟩
  | .hbm, ⟨73, _⟩ => ⟨S2048x768, .f32⟩
  | .hbm, ⟨74, _⟩ => ⟨S_, .f32⟩
  | .hbm, ⟨75, _⟩ => ⟨S2048x768, .f32⟩
  | .hbm, ⟨76, _⟩ => ⟨S2048x768, .f32⟩
  | .hbm, ⟨77, _⟩ => ⟨S2048x768, .f32⟩
  | .hbm, ⟨78, _⟩ => ⟨S2048x768, .f32⟩
  | .hbm, ⟨79, _⟩ => ⟨S2048x768, .f32⟩
  | .hbm, ⟨80, _⟩ => ⟨S2048x12x64, .f32⟩
  | .hbm, ⟨81, _⟩ => ⟨S_, .f32⟩
  | .hbm, ⟨82, _⟩ => ⟨S768, .f32⟩
  | .hbm, ⟨83, _⟩ => ⟨S1x768, .f32⟩
  | .hbm, ⟨84, _⟩ => ⟨S2048x768, .f32⟩
  | .hbm, ⟨85, _⟩ => ⟨S_, .f32⟩
  | .hbm, ⟨86, _⟩ => ⟨S768, .f32⟩
  | .hbm, ⟨87, _⟩ => ⟨S1x768, .f32⟩
  | .hbm, ⟨88, _⟩ => ⟨S2048x12x64, .f32⟩
  | .hbm, ⟨89, _⟩ => ⟨S_, .f32⟩
  | .hbm, ⟨90, _⟩ => ⟨S2048x12, .f32⟩
  | .hbm, ⟨91, _⟩ => ⟨S2048x12x1, .f32⟩
  | .hbm, ⟨92, _⟩ => ⟨S_, .f32⟩
  | .hbm, ⟨93, _⟩ => ⟨S2048x12, .f32⟩
  | .hbm, ⟨94, _⟩ => ⟨S2048x12x64, .f32⟩
  | .hbm, ⟨95, _⟩ => ⟨S2048x12x64, .f32⟩
  | .hbm, ⟨96, _⟩ => ⟨S_, .f32⟩
  | .hbm, ⟨97, _⟩ => ⟨S12x64, .f32⟩
  | .hbm, ⟨98, _⟩ => ⟨S1x12x64, .f32⟩
  | .hbm, ⟨99, _⟩ => ⟨S2048x12x64, .f32⟩
  | .hbm, ⟨100, _⟩ => ⟨S2048x12x64, .f32⟩
  | .hbm, ⟨101, _⟩ => ⟨S2048x12x64, .f32⟩
  | .hbm, ⟨102, _⟩ => ⟨S2048x12x64, .f32⟩
  | .hbm, ⟨103, _⟩ => ⟨S2048x768, .f32⟩
  | .hbm, ⟨104, _⟩ => ⟨S2048x12x64, .f32⟩
  | .hbm, ⟨105, _⟩ => ⟨S_, .f32⟩
  | .hbm, ⟨106, _⟩ => ⟨S2048x12, .f32⟩
  | .hbm, ⟨107, _⟩ => ⟨S2048x12x1, .f32⟩
  | .hbm, ⟨108, _⟩ => ⟨S_, .f32⟩
  | .hbm, ⟨109, _⟩ => ⟨S2048x12, .f32⟩
  | .hbm, ⟨110, _⟩ => ⟨S2048x12x64, .f32⟩
  | .hbm, ⟨111, _⟩ => ⟨S2048x12x64, .f32⟩
  | .hbm, ⟨112, _⟩ => ⟨S_, .f32⟩
  | .hbm, ⟨113, _⟩ => ⟨S12x64, .f32⟩
  | .hbm, ⟨114, _⟩ => ⟨S1x12x64, .f32⟩
  | .hbm, ⟨115, _⟩ => ⟨S1x12x64, .f32⟩
  | .hbm, ⟨116, _⟩ => ⟨S2048x12x64, .f32⟩
  | .hbm, ⟨117, _⟩ => ⟨S2048x12x64, .f32⟩
  | .hbm, ⟨118, _⟩ => ⟨S2048x12x64, .f32⟩
  | .hbm, ⟨119, _⟩ => ⟨S2048x12x64, .f32⟩
  | .hbm, ⟨120, _⟩ => ⟨S2048x12x64, .f32⟩
  | .hbm, ⟨121, _⟩ => ⟨S2048x768, .f32⟩
  | .hbm, ⟨122, _⟩ => ⟨S1x768, .f32⟩
  | .hbm, ⟨123, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_8 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_9 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_10 : Ref sig .tc := ⟨.hbm, 89, rfl⟩
abbrev main_v68 : Ref sig .tc := ⟨.hbm, 90, rfl⟩
abbrev main_v69 : Ref sig .tc := ⟨.hbm, 91, rfl⟩
abbrev main_cst_11 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_12 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_13 : Ref sig .tc := ⟨.hbm, 105, rfl⟩
abbrev main_v81 : Ref sig .tc := ⟨.hbm, 106, rfl⟩
abbrev main_v82 : Ref sig .tc := ⟨.hbm, 107, rfl⟩
abbrev main_cst_14 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_15 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩

abbrev nD : Nat := 1
abbrev τ : Topo := Topo.v7x

variable {F : FTy → Type} [FloatOps F]
-- ==== Kernel19.lean ====
abbrev S2048x12544 : Shape := ⟨2, ![2048, 12544]⟩
abbrev S256x1024 : Shape := ⟨2, ![256, 1024]⟩
abbrev S1x128 : Shape := ⟨2, ![1, 128]⟩
abbrev S2048x512 : Shape := ⟨2, ![2048, 512]⟩
abbrev S512x2048 : Shape := ⟨2, ![512, 2048]⟩
abbrev S512x256 : Shape := ⟨2, ![512, 256]⟩
abbrev S512x512 : Shape := ⟨2, ![512, 512]⟩
abbrev S512x128 : Shape := ⟨2, ![512, 128]⟩
abbrev S256x128 : Shape := ⟨2, ![256, 128]⟩
abbrev S512 : Shape := ⟨1, ![512]⟩
abbrev S512x1 : Shape := ⟨2, ![512, 1]⟩
abbrev S256 : Shape := ⟨1, ![256]⟩
abbrev S256x1 : Shape := ⟨2, ![256, 1]⟩

abbrev nBuf : Space → Nat
  | .hbm => 6
  | .vmem => 15
  | .smem => 0
  | _ => 0

abbrev bufTy : (tb : Table) → Fin (tcTables nBuf tb) → BufTy
  | .hbm, ⟨0, _⟩ => ⟨S2048x12544, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S2048x512, .f32⟩
  | .hbm, ⟨5, _⟩ => ⟨S512x2048, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S256x1024, .f32⟩
  | .local _ .vmem, ⟨9, _⟩ => ⟨S1x128, .f32⟩
  | .local _ .vmem, ⟨10, _⟩ => ⟨S1x128, .f32⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | _, _ => ⟨S2048x12544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_1 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_2 (i : grid0.Coords) : Fin 2 → Nat :=
  let arg0 : BitVec 32 := BitVec.ofNat 32 (i 0).val
  let c23_i32 : BitVec 32 := 23#32
  let c0_i32 : BitVec 32 := 0#32
  ![arg0.toNat, c23_i32.toNat]

def cc0_transform_3 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S2048x12544 : Shape := ⟨2, ![2048, 12544]⟩
abbrev S256x1024 : Shape := ⟨2, ![256, 1024]⟩
abbrev S1x128 : Shape := ⟨2, ![1, 128]⟩
abbrev S2048x1024 : Shape := ⟨2, ![2048, 1024]⟩
abbrev S2048x512 : Shape := ⟨2, ![2048, 512]⟩
abbrev S256x512 : Shape := ⟨2, ![256, 512]⟩
abbrev S2048x4x128 : Shape := ⟨3, ![2048, 4, 128]⟩
abbrev S_ : Shape := ⟨0, ![]⟩
abbrev S2048x4 : Shape := ⟨2, ![2048, 4]⟩
abbrev S2048x4x1 : Shape := ⟨3, ![2048, 4, 1]⟩
abbrev S1x1x128 : Shape := ⟨3, ![1, 1, 128]⟩
abbrev S256x4x128 : Shape := ⟨3, ![256, 4, 128]⟩
abbrev S256x4 : Shape := ⟨2, ![256, 4]⟩
abbrev S256x4x1 : Shape := ⟨3, ![256, 4, 1]⟩
abbrev S4x2048x256 : Shape := ⟨3, ![4, 2048, 256]⟩
abbrev S4x2048 : Shape := ⟨2, ![4, 2048]⟩
abbrev S4x2048x1 : Shape := ⟨3, ![4, 2048, 1]⟩
abbrev S4x128x2048 : Shape := ⟨3, ![4, 128, 2048]⟩
abbrev S512x2048 : Shape := ⟨2, ![512, 2048]⟩

abbrev nBuf : Space → Nat
  | .hbm => 74
  | .vmem => 0
  | .smem => 0
  | _ => 0

abbrev bufTy : (tb : Table) → Fin (tcTables nBuf tb) → BufTy
  | .hbm, ⟨0, _⟩ => ⟨S2048x12544, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S2048x1024, .f32⟩
  | .hbm, ⟨5, _⟩ => ⟨S2048x512, .f32⟩
  | .hbm, ⟨6, _⟩ => ⟨S2048x512, .f32⟩
  | .hbm, ⟨7, _⟩ => ⟨S256x512, .f32⟩
  | .hbm, ⟨8, _⟩ => ⟨S256x512, .f32⟩
  | .hbm, ⟨9, _⟩ => ⟨S2048x4x128, .f32⟩
  | .hbm, ⟨10, _⟩ => ⟨S2048x4x128, .f32⟩
  | .hbm, ⟨11, _⟩ => ⟨S_, .f32⟩
  | .hbm, ⟨12, _⟩ => ⟨S2048x4, .f32⟩
  | .hbm, ⟨13, _⟩ => ⟨S2048x4x1, .f32⟩
  | .hbm, ⟨14, _⟩ => ⟨S_, .f32⟩
  | .hbm, ⟨15, _⟩ => ⟨S2048x4x1, .f32⟩
  | .hbm, ⟨16, _⟩ => ⟨S2048x4x1, .f32⟩
  | .hbm, ⟨17, _⟩ => ⟨S_, .f32⟩
  | .hbm, ⟨18, _⟩ => ⟨S2048x4x1, .f32⟩
  | .hbm, ⟨19, _⟩ => ⟨S2048x4x1, .f32⟩
  | .hbm, ⟨20, _⟩ => ⟨S2048x4x1, .f32⟩
  | .hbm, ⟨21, _⟩ => ⟨S2048x4x128, .f32⟩
  | .hbm, ⟨22, _⟩ => ⟨S2048x4x128, .f32⟩
  | .hbm, ⟨23, _⟩ => ⟨S1x1x128, .f32⟩
  | .hbm, ⟨24, _⟩ => ⟨S2048x4x128, .f32⟩
  | .hbm, ⟨25, _⟩ => ⟨S2048x4x128, .f32⟩
  | .hbm, ⟨26, _⟩ => ⟨S256x4x128, .f32⟩
  | .hbm, ⟨27, _⟩ => ⟨S256x4x128, .f32⟩
  | .hbm, ⟨28, _⟩ => ⟨S_, .f32⟩
  | .hbm, ⟨29, _⟩ => ⟨S256x4, .f32⟩
  | .hbm, ⟨30, _⟩ => ⟨S256x4x1, .f32⟩
  | .hbm, ⟨31, _⟩ => ⟨S_, .f32⟩
  | .hbm, ⟨32, _⟩ => ⟨S256x4x1, .f32⟩
  | .hbm, ⟨33, _⟩ => ⟨S256x4x1, .f32⟩
  | .hbm, ⟨34, _⟩ => ⟨S_, .f32⟩
  | .hbm, ⟨35, _⟩ => ⟨S256x4x1, .f32⟩
  | .hbm, ⟨36, _⟩ => ⟨S256x4x1, .f32⟩
  | .hbm, ⟨37, _⟩ => ⟨S256x4x1, .f32⟩
  | .hbm, ⟨38, _⟩ => ⟨S256x4x128, .f32⟩
  | .hbm, ⟨39, _⟩ => ⟨S256x4x128, .f32⟩
  | .hbm, ⟨40, _⟩ => ⟨S1x1x128, .f32⟩
  | .hbm, ⟨41, _⟩ => ⟨S256x4x128, .f32⟩
  | .hbm, ⟨42, _⟩ => ⟨S256x4x128, .f32⟩
  | .hbm, ⟨43, _⟩ => ⟨S256x4x128, .f32⟩
  | .hbm, ⟨44, _⟩ => ⟨S4x2048x256, .f32⟩
  | .hbm, ⟨45, _⟩ => ⟨S_, .f32⟩
  | .hbm, ⟨46, _⟩ => ⟨S4x2048x256, .f32⟩
  | .hbm, ⟨47, _⟩ => ⟨S4x2048x256, .f32⟩
  | .hbm, ⟨48, _⟩ => ⟨S_, .f32⟩
  | .hbm, ⟨49, _⟩ => ⟨S4x2048, .f32⟩
  | .hbm, ⟨50, _⟩ => ⟨S4x2048x1, .f32⟩
  | .hbm, ⟨51, _⟩ => ⟨S4x2048x256, .f32⟩
  | .hbm, ⟨52, _⟩ => ⟨S4x2048x256, .f32⟩
  | .hbm, ⟨53, _⟩ => ⟨S4x2048x256, .f32⟩
  | .hbm, ⟨54, _⟩ => ⟨S_, .f32⟩
  | .hbm, ⟨55, _⟩ => ⟨S4x2048, .f32⟩
  | .hbm, ⟨56, _⟩ => ⟨S4x2048x1, .f32⟩
  | .hbm, ⟨57, _⟩ => ⟨S4x2048x256, .f32⟩
  | .hbm, ⟨58, _⟩ => ⟨S4x2048x256, .f32⟩
  | .hbm, ⟨59, _⟩ => ⟨S4x128x2048, .f32⟩
  | .hbm, ⟨60, _⟩ => ⟨S2048x4x128, .f32⟩
  | .hbm, ⟨61, _⟩ => ⟨S2048x512, .f32⟩
  | .hbm, ⟨62, _⟩ => ⟨S2048x512, .f32⟩
  | .hbm, ⟨63, _⟩ => ⟨S2048x512, .f32⟩
  | .hbm, ⟨64, _⟩ => ⟨S_, .f32⟩
  | .hbm, ⟨65, _⟩ => ⟨S2048x512, .f32⟩
  | .hbm, ⟨66, _⟩ => ⟨S2048x512, .f32⟩
  | .hbm, ⟨67, _⟩ => ⟨S_, .f32⟩
  | .hbm, ⟨68, _⟩ => ⟨S2048x512, .f32⟩
  | .hbm, ⟨69, _⟩ => ⟨S2048x512, .f32⟩
  | .hbm, ⟨70, _⟩ => ⟨S2048x512, .f32⟩
  | .hbm, ⟨71, _⟩ => ⟨S2048x512, .f32⟩
  | .hbm, ⟨72, _⟩ => ⟨S512x2048, .f32⟩
  | .hbm, ⟨73, _⟩ => ⟨S512x2048, .bf16⟩
  | _, _ => ⟨S2048x12544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== Kernel20.lean ====
abbrev S2048x12544 : Shape := ⟨2, ![2048, 12544]⟩
abbrev S1x2560 : Shape := ⟨2, ![1, 2560]⟩
abbrev S2048x2560 : Shape := ⟨2, ![2048, 2560]⟩
abbrev S2048x512 : Shape := ⟨2, ![2048, 512]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x12544, .f32⟩
  | .hbm, ⟨1, _⟩ => ⟨S1x2560, .f32⟩
  | .hbm, ⟨2, _⟩ => ⟨S2048x2560, .f32⟩
  | .local _ .vmem, ⟨0, _⟩ => ⟨S2048x512, .f32⟩
  | .local _ .vmem, ⟨1, _⟩ => ⟨S2048x512, .f32⟩
  | .local _ .vmem, ⟨2, _⟩ => ⟨S1x512, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S2048x12544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S2048x12544 : Shape := ⟨2, ![2048, 12544]⟩
abbrev S1x2560 : Shape := ⟨2, ![1, 2560]⟩
abbrev S2048x2560 : Shape := ⟨2, ![2048, 2560]⟩
abbrev S_ : Shape := ⟨0, ![]⟩
abbrev S2049x2560 : Shape := ⟨2, ![2049, 2560]⟩

abbrev nBuf : Space → Nat
  | .hbm => 19
  | .vmem => 0
  | .smem => 0
  | _ => 0

abbrev bufTy : (tb : Table) → Fin (tcTables nBuf tb) → BufTy
  | .hbm, ⟨0, _⟩ => ⟨S2048x12544, .f32⟩
  | .hbm, ⟨1, _⟩ => ⟨S1x2560, .f32⟩
  | .hbm, ⟨2, _⟩ => ⟨S2048x2560, .f32⟩
  | .hbm, ⟨3, _⟩ => ⟨S_, .i32⟩
  | .hbm, ⟨4, _⟩ => ⟨S_, .f32⟩
  | .hbm, ⟨5, _⟩ => ⟨S2049x2560, .f32⟩
  | .hbm, ⟨6, _⟩ => ⟨S2048x2560, .f32⟩
  | .hbm, ⟨7, _⟩ => ⟨S_, .i32⟩
  | .hbm, ⟨8, _⟩ => ⟨S_, .f32⟩
  | .hbm, ⟨9, _⟩ => ⟨S2049x2560, .f32⟩
  | .hbm, ⟨10, _⟩ => ⟨S2048x2560, .f32⟩
  | .hbm, ⟨11, _⟩ => ⟨S2048x2560, .f32⟩
  | .hbm, ⟨12, _⟩ => ⟨S_, .f32⟩
  | .hbm, ⟨13, _⟩ => ⟨S2048x2560, .f32⟩
  | .hbm, ⟨14, _⟩ => ⟨S2048x2560, .f32⟩
  | .hbm, ⟨15, _⟩ => ⟨S2048x2560, .f32⟩
  | .hbm, ⟨16, _⟩ => ⟨S2048x2560, .f32⟩
  | .hbm, ⟨17, _⟩ => ⟨S2048x2560, .f32⟩
  | .hbm, ⟨18, _⟩ => ⟨S2048x2560, .f32⟩
  | _, _ => ⟨S2048x12544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Kernel21.lean ====
abbrev S528x128 : Shape := ⟨2, ![528, 128]⟩
abbrev S16x128 : Shape := ⟨2, ![16, 128]⟩

abbrev nBuf : Space → Nat
  | .hbm => 8
  | .vmem => 16
  | .smem => 0
  | _ => 0

abbrev bufTy : (tb : Table) → Fin (tcTables nBuf tb) → BufTy
  | .hbm, ⟨0, _⟩ => ⟨S528x128, .f32⟩
  | .hbm, ⟨1, _⟩ => ⟨S528x128, .f32⟩
  | .hbm, ⟨2, _⟩ => ⟨S528x128, .f32⟩
  | .hbm, ⟨3, _⟩ => ⟨S528x128, .f32⟩
  | .hbm, ⟨4, _⟩ => ⟨S528x128, .f32⟩
  | .hbm, ⟨5, _⟩ => ⟨S528x128, .f32⟩
  | .hbm, ⟨6, _⟩ => ⟨S528x128, .f32⟩
  | .hbm, ⟨7, _⟩ => ⟨S528x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S16x128, .f32⟩
  | .local _ .vmem, ⟨15, _⟩ => ⟨S16x128, .f32⟩
  | _, _ => ⟨S528x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S528x128 : Shape := ⟨2, ![528, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S528x128, .f32⟩
  | .hbm, ⟨1, _⟩ => ⟨S528x128, .f32⟩
  | .hbm, ⟨2, _⟩ => ⟨S528x128, .f32⟩
  | .hbm, ⟨3, _⟩ => ⟨S528x128, .f32⟩
  | .hbm, ⟨4, _⟩ => ⟨S_, .f32⟩
  | .hbm, ⟨5, _⟩ => ⟨S528x128, .f32⟩
  | .hbm, ⟨6, _⟩ => ⟨S528x128, .f32⟩
  | .hbm, ⟨7, _⟩ => ⟨S_, .f32⟩
  | .hbm, ⟨8, _⟩ => ⟨S528x128, .f32⟩
  | .hbm, ⟨9, _⟩ => ⟨S528x128, .f32⟩
  | .hbm, ⟨10, _⟩ => ⟨S528x128, .f32⟩
  | .hbm, ⟨11, _⟩ => ⟨S_, .f32⟩
  | .hbm, ⟨12, _⟩ => ⟨S528x128, .f32⟩
  | .hbm, ⟨13, _⟩ => ⟨S528x128, .f32⟩
  | .hbm, ⟨14, _⟩ => ⟨S528x128, .f32⟩
  | .hbm, ⟨15, _⟩ => ⟨S_, .f32⟩
  | .hbm, ⟨16, _⟩ => ⟨S528x128, .f32⟩
  | .hbm, ⟨17, _⟩ => ⟨S528x128, .f32⟩
  | .hbm, ⟨18, _⟩ => ⟨S528x128, .f32⟩
  | .hbm, ⟨19, _⟩ => ⟨S_, .f32⟩
  | .hbm, ⟨20, _⟩ => ⟨S528x128, .f32⟩
  | .hbm, ⟨21, _⟩ => ⟨S528x128, .f32⟩
  | .hbm, ⟨22, _⟩ => ⟨S_, .f32⟩
  | .hbm, ⟨23, _⟩ => ⟨S528x128, .f32⟩
  | .hbm, ⟨24, _⟩ => ⟨S528x128, .f32⟩
  | .hbm, ⟨25, _⟩ => ⟨S528x128, .f32⟩
  | .hbm, ⟨26, _⟩ => ⟨S_, .f32⟩
  | .hbm, ⟨27, _⟩ => ⟨S528x128, .f32⟩
  | .hbm, ⟨28, _⟩ => ⟨S528x128, .f32⟩
  | .hbm, ⟨29, _⟩ => ⟨S528x128, .f32⟩
  | .hbm, ⟨30, _⟩ => ⟨S_, .f32⟩
  | .hbm, ⟨31, _⟩ => ⟨S528x128, .f32⟩
  | .hbm, ⟨32, _⟩ => ⟨S528x128, .f32⟩
  | .hbm, ⟨33, _⟩ => ⟨S528x128, .f32⟩
  | .hbm, ⟨34, _⟩ => ⟨S_, .f32⟩
  | .hbm, ⟨35, _⟩ => ⟨S528x128, .f32⟩
  | .hbm, ⟨36, _⟩ => ⟨S528x128, .f32⟩
  | _, _ => ⟨S528x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2048x2560 : Shape := ⟨2, ![2048, 2560]⟩
abbrev S1x768 : Shape := ⟨2, ![1, 768]⟩
abbrev S2x768 : Shape := ⟨2, ![2, 768]⟩
abbrev S2x64x768 : Shape := ⟨3, ![2, 64, 768]⟩
abbrev S2048x768 : Shape := ⟨2, ![2048, 768]⟩
abbrev S256x2560 : Shape := ⟨2, ![256, 2560]⟩
abbrev S256x768 : Shape := ⟨2, ![256, 768]⟩
abbrev S256x64 : Shape := ⟨2, ![256, 64]⟩
abbrev S1x64x768 : Shape := ⟨3, ![1, 64, 768]⟩
abbrev S64x768 : Shape := ⟨2, ![64, 768]⟩
abbrev S768x768 : Shape := ⟨2, ![768, 768]⟩
abbrev S768 : Shape := ⟨1, ![768]⟩

abbrev nBuf : Space → Nat
  | .hbm => 23
  | .vmem => 34
  | .smem => 0
  | _ => 0

abbrev bufTy : (tb : Table) → Fin (tcTables nBuf tb) → BufTy
  | .hbm, ⟨0, _⟩ => ⟨S2048x2560, .f32⟩
  | .hbm, ⟨1, _⟩ => ⟨S1x768, .f32⟩
  | .hbm, ⟨2, _⟩ => ⟨S1x768, .f32⟩
  | .hbm, ⟨3, _⟩ => ⟨S2x768, .f32⟩
  | .hbm, ⟨4, _⟩ => ⟨S2x64x768, .f32⟩
  | .hbm, ⟨5, _⟩ => ⟨S2x768, .f32⟩
  | .hbm, ⟨6, _⟩ => ⟨S2x64x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S2048x768, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S2048x768, .f32⟩
  | .hbm, ⟨16, _⟩ => ⟨S2048x2560, .f32⟩
  | .hbm, ⟨17, _⟩ => ⟨S1x768, .f32⟩
  | .hbm, ⟨18, _⟩ => ⟨S1x768, .f32⟩
  | .hbm, ⟨19, _⟩ => ⟨S2x768, .f32⟩
  | .hbm, ⟨20, _⟩ => ⟨S2x64x768, .f32⟩
  | .hbm, ⟨21, _⟩ => ⟨S2x768, .f32⟩
  | .hbm, ⟨22, _⟩ => ⟨S2x64x768, .f32⟩
  | .local _ .vmem, ⟨0, _⟩ => ⟨S256x2560, .f32⟩
  | .local _ .vmem, ⟨1, _⟩ => ⟨S256x2560, .f32⟩
  | .local _ .vmem, ⟨2, _⟩ => ⟨S1x768, .f32⟩
  | .local _ .vmem, ⟨3, _⟩ => ⟨S1x768, .f32⟩
  | .local _ .vmem, ⟨4, _⟩ => ⟨S2x768, .f32⟩
  | .local _ .vmem, ⟨5, _⟩ => ⟨S2x64x768, .f32⟩
  | .local _ .vmem, ⟨6, _⟩ => ⟨S2x768, .f32⟩
  | .local _ .vmem, ⟨7, _⟩ => ⟨S2x64x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S256x768, .f32⟩
  | .local _ .vmem, ⟨18, _⟩ => ⟨S256x768, .f32⟩
  | .local _ .vmem, ⟨19, _⟩ => ⟨S256x768, .f32⟩
  | .local _ .vmem, ⟨20, _⟩ => ⟨S256x768, .f32⟩
  | .local _ .vmem, ⟨21, _⟩ => ⟨S256x768, .f32⟩
  | .local _ .vmem, ⟨22, _⟩ => ⟨S256x768, .f32⟩
  | .local _ .vmem, ⟨23, _⟩ => ⟨S256x768, .f32⟩
  | .local _ .vmem, ⟨24, _⟩ => ⟨S256x768, .f32⟩
  | .local _ .vmem, ⟨25, _⟩ => ⟨S256x768, .f32⟩
  | .local _ .vmem, ⟨26, _⟩ => ⟨S256x2560, .f32⟩
  | .local _ .vmem, ⟨27, _⟩ => ⟨S256x2560, .f32⟩
  | .local _ .vmem, ⟨28, _⟩ => ⟨S1x768, .f32⟩
  | .local _ .vmem, ⟨29, _⟩ => ⟨S1x768, .f32⟩
  | .local _ .vmem, ⟨30, _⟩ => ⟨S2x768, .f32⟩
  | .local _ .vmem, ⟨31, _⟩ => ⟨S2x64x768, .f32⟩
  | .local _ .vmem, ⟨32, _⟩ => ⟨S2x768, .f32⟩
  | .local _ .vmem, ⟨33, _⟩ => ⟨S2x64x768, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem22_0 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x64x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x64x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2560 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2x64x768 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S2x768 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S2x64x768 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== Reference22Ideal.lean ====
abbrev S2048x2560 : Shape := ⟨2, ![2048, 2560]⟩
abbrev S1x768 : Shape := ⟨2, ![1, 768]⟩
abbrev S2x768 : Shape := ⟨2, ![2, 768]⟩
abbrev S2x64x768 : Shape := ⟨3, ![2, 64, 768]⟩
abbrev S2048x768 : Shape := ⟨2, ![2048, 768]⟩
abbrev S2048x256 : Shape := ⟨2, ![2048, 256]⟩
abbrev S2048x64 : Shape := ⟨2, ![2048, 64]⟩
abbrev S2048x12x64 : Shape := ⟨3, ![2048, 12, 64]⟩
abbrev S_ : Shape := ⟨0, ![]⟩
abbrev S2048x12 : Shape := ⟨2, ![2048, 12]⟩
abbrev S2048x12x1 : Shape := ⟨3, ![2048, 12, 1]⟩
abbrev S768 : Shape := ⟨1, ![768]⟩
abbrev S1x64x768 : Shape := ⟨3, ![1, 64, 768]⟩
abbrev S64x768 : Shape := ⟨2, ![64, 768]⟩
abbrev S768x64 : Shape := ⟨2, ![768, 64]⟩

abbrev nBuf : Space → Nat
  | .hbm => 295
  | .vmem => 0
  | .smem => 0
  | _ => 0

abbrev hbmTy0_0 (i : Nat) : BufTy := match i % 128 with
  | 0 => ⟨S2048x2560, .f32⟩
  | 1 => ⟨S1x768, .f32⟩
  | 2 => ⟨S1x768, .f32⟩
  | 3 => ⟨S2x768, .f32⟩
  | 4 => ⟨S2x64x768, .f32⟩
  | 5 => ⟨S2x768, .f32⟩
  | 6 => ⟨S2x64x768, .f32⟩
  | 7 => ⟨S2048x768, .f32⟩
  | 8 => ⟨S2048x768, .f32⟩
  | 9 => ⟨S2048x768, .f32⟩
  | 10 => ⟨S2048x768, .f32⟩
  | 11 => ⟨S2048x768, .f32⟩
  | 12 => ⟨S2048x768, .f32⟩
  | 13 => ⟨S2048x768, .f32⟩
  | 14 => ⟨S2048x768, .f32⟩
  | 15 => ⟨S2048x768, .f32⟩
  | 16 => ⟨S2048x768, .f32⟩
  | 17 => ⟨S2048x256, .f32⟩
  | 18 => ⟨S2048x64, .f32⟩
  | 19 => ⟨S2048x64, .f32⟩
  | 20 => ⟨S2048x64, .f32⟩
  | 21 => ⟨S2048x64, .f32⟩
  | 22 => ⟨S2048x768, .f32⟩
  | 23 => ⟨S2048x768, .f32⟩
  | 24 => ⟨S2048x12x64, .f32⟩
  | 25 => ⟨S2048x12x64, .f32⟩
  | 26 => ⟨S_, .f32⟩
  | 27 => ⟨S2048x12, .f32⟩
  | 28 => ⟨S2048x12x1, .f32⟩
  | 29 => ⟨S2048x12x1, .f32⟩
  | 30 => ⟨S_, .f32⟩
  | 31 => ⟨S2048x12x1, .f32⟩
  | 32 => ⟨S2048x12x1, .f32⟩
  | 33 => ⟨S2048x12x64, .f32⟩
  | 34 => ⟨S2048x12x64, .f32⟩
  | 35 => ⟨S2048x768, .f32⟩
  | 36 => ⟨S1x768, .f32⟩
  | 37 => ⟨S768, .f32⟩
  | 38 => ⟨S2048x64, .f32⟩
  | 39 => ⟨S1x64x768, .f32⟩
  | 40 => ⟨S64x768, .f32⟩
  | 41 => ⟨S2048x768, .f32⟩
  | 42 => ⟨S1x768, .f32⟩
  | 43 => ⟨S2048x768, .f32⟩
  | 44 => ⟨S2048x768, .f32⟩
  | 45 => ⟨S2048x768, .f32⟩
  | 46 => ⟨S_, .f32⟩
  | 47 => ⟨S2048x768, .f32⟩
  | 48 => ⟨S2048x768, .f32⟩
  | 49 => ⟨S_, .f32⟩
  | 50 => ⟨S2048x768, .f32⟩
  | 51 => ⟨S2048x768, .i1⟩
  | 52 => ⟨S_, .f32⟩
  | 53 => ⟨S2048x768, .f32⟩
  | 54 => ⟨S2048x768, .i1⟩
  | 55 => ⟨S_, .f32⟩
  | 56 => ⟨S2048x768, .f32⟩
  | 57 => ⟨S_, .f32⟩
  | 58 => ⟨S2048x768, .f32⟩
  | 59 => ⟨S_, .f32⟩
  | 60 => ⟨S2048x768, .f32⟩
  | 61 => ⟨S2048x768, .f32⟩
  | 62 => ⟨S2048x768, .f32⟩
  | 63 => ⟨S2048x768, .f32⟩
  | 64 => ⟨S_, .f32⟩
  | 65 => ⟨S2048x768, .f32⟩
  | 66 => ⟨S2048x768, .i1⟩
  | 67 => ⟨S2048x768, .f32⟩
  | 68 => ⟨S2048x768, .f32⟩
  | 69 => ⟨S_, .f32⟩
  | 70 => ⟨S2048x768, .f32⟩
  | 71 => ⟨S2048x768, .f32⟩
  | 72 => ⟨S2048x768, .f32⟩
  | 73 => ⟨S2048x768, .f32⟩
  | 74 => ⟨S2048x768, .f32⟩
  | 75 => ⟨S_, .f32⟩
  | 76 => ⟨S2048x768, .f32⟩
  | 77 => ⟨S2048x768, .f32⟩
  | 78 => ⟨S1x768, .f32⟩
  | 79 => ⟨S768, .f32⟩
  | 80 => ⟨S1x64x768, .f32⟩
  | 81 => ⟨S64x768, .f32⟩
  | 82 => ⟨S2048x768, .f32⟩
  | 83 => ⟨S1x768, .f32⟩
  | 84 => ⟨S2048x768, .f32⟩
  | 85 => ⟨S2048x768, .f32⟩
  | 86 => ⟨S2048x768, .f32⟩
  | 87 => ⟨S2048x768, .f32⟩
  | 88 => ⟨S_, .f32⟩
  | 89 => ⟨S2048x768, .f32⟩
  | 90 => ⟨S2048x768, .f32⟩
  | 91 => ⟨S_, .f32⟩
  | 92 => ⟨S2048x768, .f32⟩
  | 93 => ⟨S2048x768, .f32⟩
  | 94 => ⟨S_, .f32⟩
  | 95 => ⟨S2048x768, .f32⟩
  | 96 => ⟨S2048x768, .f32⟩
  | 97 => ⟨S2048x768, .f32⟩
  | 98 => ⟨S2048x768, .f32⟩
  | 99 => ⟨S2048x768, .f32⟩
  | 100 => ⟨S2048x768, .f32⟩
  | 101 => ⟨S_, .f32⟩
  | 102 => ⟨S2048x768, .f32⟩
  | 103 => ⟨S2048x768, .f32⟩
  | 104 => ⟨S2048x768, .f32⟩
  | 105 => ⟨S2048x768, .f32⟩
  | 106 => ⟨S_, .f32⟩
  | 107 => ⟨S2048x768, .f32⟩
  | 108 => ⟨S2048x768, .f32⟩
  | 109 => ⟨S2048x768, .f32⟩
  | 110 => ⟨S2048x768, .f32⟩
  | 111 => ⟨S1x768, .f32⟩
  | 112 => ⟨S768, .f32⟩
  | 113 => ⟨S2048x64, .f32⟩
  | 114 => ⟨S1x64x768, .f32⟩
  | 115 => ⟨S64x768, .f32⟩
  | 116 => ⟨S2048x768, .f32⟩
  | 117 => ⟨S1x768, .f32⟩
  | 118 => ⟨S2048x768, .f32⟩
  | 119 => ⟨S2048x768, .f32⟩
  | 120 => ⟨S2048x768, .f32⟩
  | 121 => ⟨S_, .f32⟩
  | 122 => ⟨S2048x768, .f32⟩
  | 123 => ⟨S2048x768, .f32⟩
  | 124 => ⟨S_, .f32⟩
  | 125 => ⟨S2048x768, .f32⟩
  | 126 => ⟨S2048x768, .i1⟩
  | 127 => ⟨S_, .f32⟩
  | _ => ⟨S2048x2560, .f32⟩

abbrev hbmTy0_1 (i : Nat) : BufTy := match i % 128 with
  | 0 => ⟨S2048x768, .f32⟩
  | 1 => ⟨S2048x768, .i1⟩
  | 2 => ⟨S_, .f32⟩
  | 3 => ⟨S2048x768, .f32⟩
  | 4 => ⟨S_, .f32⟩
  | 5 => ⟨S2048x768, .f32⟩
  | 6 => ⟨S_, .f32⟩
  | 7 => ⟨S2048x768, .f32⟩
  | 8 => ⟨S2048x768, .f32⟩
  | 9 => ⟨S2048x768, .f32⟩
  | 10 => ⟨S2048x768, .f32⟩
  | 11 => ⟨S_, .f32⟩
  | 12 => ⟨S2048x768, .f32⟩
  | 13 => ⟨S2048x768, .i1⟩
  | 14 => ⟨S2048x768, .f32⟩
  | 15 => ⟨S2048x768, .f32⟩
  | 16 => ⟨S_, .f32⟩
  | 17 => ⟨S2048x768, .f32⟩
  | 18 => ⟨S2048x768, .f32⟩
  | 19 => ⟨S2048x768, .f32⟩
  | 20 => ⟨S2048x768, .f32⟩
  | 21 => ⟨S2048x768, .f32⟩
  | 22 => ⟨S_, .f32⟩
  | 23 => ⟨S2048x768, .f32⟩
  | 24 => ⟨S2048x768, .f32⟩
  | 25 => ⟨S1x768, .f32⟩
  | 26 => ⟨S768, .f32⟩
  | 27 => ⟨S1x64x768, .f32⟩
  | 28 => ⟨S64x768, .f32⟩
  | 29 => ⟨S2048x768, .f32⟩
  | 30 => ⟨S1x768, .f32⟩
  | 31 => ⟨S2048x768, .f32⟩
  | 32 => ⟨S2048x768, .f32⟩
  | 33 => ⟨S2048x768, .f32⟩
  | 34 => ⟨S2048x768, .f32⟩
  | 35 => ⟨S_, .f32⟩
  | 36 => ⟨S2048x768, .f32⟩
  | 37 => ⟨S2048x768, .f32⟩
  | 38 => ⟨S_, .f32⟩
  | 39 => ⟨S2048x768, .f32⟩
  | 40 => ⟨S2048x768, .f32⟩
  | 41 => ⟨S_, .f32⟩
  | 42 => ⟨S2048x768, .f32⟩
  | 43 => ⟨S2048x768, .f32⟩
  | 44 => ⟨S2048x768, .f32⟩
  | 45 => ⟨S2048x768, .f32⟩
  | 46 => ⟨S2048x768, .f32⟩
  | 47 => ⟨S2048x768, .f32⟩
  | 48 => ⟨S_, .f32⟩
  | 49 => ⟨S2048x768, .f32⟩
  | 50 => ⟨S2048x768, .f32⟩
  | 51 => ⟨S2048x768, .f32⟩
  | 52 => ⟨S2048x768, .f32⟩
  | 53 => ⟨S_, .f32⟩
  | 54 => ⟨S2048x768, .f32⟩
  | 55 => ⟨S2048x768, .f32⟩
  | 56 => ⟨S2048x768, .f32⟩
  | 57 => ⟨S2048x768, .f32⟩
  | 58 => ⟨S2048x768, .f32⟩
  | 59 => ⟨S2048x768, .f32⟩
  | 60 => ⟨S2048x768, .f32⟩
  | 61 => ⟨S_, .f32⟩
  | 62 => ⟨S768, .f32⟩
  | 63 => ⟨S1x768, .f32⟩
  | 64 => ⟨S2048x768, .f32⟩
  | 65 => ⟨S2048x768, .f32⟩
  | 66 => ⟨S2048x768, .f32⟩
  | 67 => ⟨S2048x768, .f32⟩
  | 68 => ⟨S2048x768, .f32⟩
  | 69 => ⟨S2048x768, .f32⟩
  | 70 => ⟨S2048x768, .f32⟩
  | 71 => ⟨S_, .f32⟩
  | 72 => ⟨S768, .f32⟩
  | 73 => ⟨S1x768, .f32⟩
  | 74 => ⟨S_, .f32⟩
  | 75 => ⟨S768, .f32⟩
  | 76 => ⟨S768x64, .f32⟩
  | 77 => ⟨S64x768, .f32⟩
  | 78 => ⟨S1x64x768, .f32⟩
  | 79 => ⟨S_, .f32⟩
  | 80 => ⟨S2x64x768, .f32⟩
  | 81 => ⟨S1x768, .f32⟩
  | 82 => ⟨S_, .f32⟩
  | 83 => ⟨S2x768, .f32⟩
  | 84 => ⟨S2048x768, .f32⟩
  | 85 => ⟨S2048x768, .f32⟩
  | 86 => ⟨S2048x768, .f32⟩
  | 87 => ⟨S2048x768, .f32⟩
  | 88 => ⟨S_, .f32⟩
  | 89 => ⟨S2048x768, .f32⟩
  | 90 => ⟨S2048x768, .f32⟩
  | 91 => ⟨S2048x768, .f32⟩
  | 92 => ⟨S2048x768, .f32⟩
  | 93 => ⟨S2048x768, .f32⟩
  | 94 => ⟨S2048x768, .f32⟩
  | 95 => ⟨S2048x768, .f32⟩
  | 96 => ⟨S2048x768, .f32⟩
  | 97 => ⟨S_, .f32⟩
  | 98 => ⟨S768, .f32⟩
  | 99 => ⟨S1x768, .f32⟩
  | 100 => ⟨S_, .f32⟩
  | 101 => ⟨S768, .f32⟩
  | 102 => ⟨S768x64, .f32⟩
  | 103 => ⟨S64x768, .f32⟩
  | 104 => ⟨S1x64x768, .f32⟩
  | 105 => ⟨S_, .f32⟩
  | 106 => ⟨S2x64x768, .f32⟩
  | 107 => ⟨S1x768, .f32⟩
  | 108 => ⟨S_, .f32⟩
  | 109 => ⟨S2x768, .f32⟩
  | 110 => ⟨S2048x768, .f32⟩
  | 111 => ⟨S2048x768, .f32⟩
  | 112 => ⟨S2048x768, .f32⟩
  | 113 => ⟨S_, .f32⟩
  | 114 => ⟨S768, .f32⟩
  | 115 => ⟨S1x768, .f32⟩
  | 116 => ⟨S1x768, .f32⟩
  | 117 => ⟨S2048x768, .f32⟩
  | 118 => ⟨S2048x768, .f32⟩
  | 119 => ⟨S2048x768, .f32⟩
  | 120 => ⟨S2048x768, .f32⟩
  | 121 => ⟨S2048x768, .f32⟩
  | 122 => ⟨S2048x768, .f32⟩
  | 123 => ⟨S2048x768, .f32⟩
  | 124 => ⟨S_, .f32⟩
  | 125 => ⟨S768, .f32⟩
  | 126 => ⟨S1x768, .f32⟩
  | 127 => ⟨S_, .f32⟩
  | _ => ⟨S2048x2560, .f32⟩

abbrev hbmTy0_2 (i : Nat) : BufTy := match i % 128 with
  | 0 => ⟨S768, .f32⟩
  | 1 => ⟨S768x64, .f32⟩
  | 2 => ⟨S64x768, .f32⟩
  | 3 => ⟨S1x64x768, .f32⟩
  | 4 => ⟨S_, .f32⟩
  | 5 => ⟨S2x64x768, .f32⟩
  | 6 => ⟨S2x64x768, .f32⟩
  | 7 => ⟨S1x768, .f32⟩
  | 8 => ⟨S_, .f32⟩
  | 9 => ⟨S2x768, .f32⟩
  | 10 => ⟨S2x768, .f32⟩
  | 11 => ⟨S2048x768, .f32⟩
  | 12 => ⟨S2048x768, .f32⟩
  | 13 => ⟨S2048x768, .f32⟩
  | 14 => ⟨S2048x768, .f32⟩
  | 15 => ⟨S_, .f32⟩
  | 16 => ⟨S2048x768, .f32⟩
  | 17 => ⟨S2048x768, .f32⟩
  | 18 => ⟨S2048x768, .f32⟩
  | 19 => ⟨S2048x768, .f32⟩
  | 20 => ⟨S2048x768, .f32⟩
  | 21 => ⟨S2048x768, .f32⟩
  | 22 => ⟨S2048x768, .f32⟩
  | 23 => ⟨S2048x768, .f32⟩
  | 24 => ⟨S_, .f32⟩
  | 25 => ⟨S768, .f32⟩
  | 26 => ⟨S1x768, .f32⟩
  | 27 => ⟨S_, .f32⟩
  | 28 => ⟨S768, .f32⟩
  | 29 => ⟨S768x64, .f32⟩
  | 30 => ⟨S64x768, .f32⟩
  | 31 => ⟨S1x64x768, .f32⟩
  | 32 => ⟨S_, .f32⟩
  | 33 => ⟨S2x64x768, .f32⟩
  | 34 => ⟨S2x64x768, .f32⟩
  | 35 => ⟨S1x768, .f32⟩
  | 36 => ⟨S_, .f32⟩
  | 37 => ⟨S2x768, .f32⟩
  | 38 => ⟨S2x768, .f32⟩
  | _ => ⟨S2048x2560, .f32⟩

abbrev hbmTy (i : Nat) : BufTy := match i / 128 with
  | 0 => hbmTy0_0 i
  | 1 => hbmTy0_1 i
  | 2 => hbmTy0_2 i
  | _ => ⟨S2048x2560, .f32⟩

abbrev bufTy : (tb : Table) → Fin (tcTables nBuf tb) → BufTy
  | .hbm, ⟨i, _⟩ => hbmTy i
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call0_v0 : Ref sig .tc := ⟨.hbm, 25, rfl⟩
abbrev main_call0_cst : Ref sig .tc := ⟨.hbm, 26, rfl⟩
abbrev main_call0_v1 : Ref sig .tc := ⟨.hbm, 27, rfl⟩
abbrev main_call0_v2 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_0 : Ref sig .tc := ⟨.hbm, 46, rfl⟩
abbrev main_v25 : Ref sig .tc := ⟨.hbm, 47, rfl⟩
abbrev main_v26 : Ref sig .tc := ⟨.hbm, 48, rfl⟩
abbrev main_cst_1 : Ref sig .tc := ⟨.hbm, 49, rfl⟩
abbrev main_v27 : Ref sig .tc := ⟨.hbm, 50, rfl⟩
abbrev main_v28 : Ref sig .tc := ⟨.hbm, 51, rfl⟩
abbrev main_cst_2 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_9 : Ref sig .tc := ⟨.hbm, 88, rfl⟩
abbrev main_v58 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_v61 : Ref sig .tc := ⟨.hbm, 93, rfl⟩
abbrev main_cst_11 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_12 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_13 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_14 : Ref sig .tc := ⟨.hbm, 121, rfl⟩
abbrev main_v86 : Ref sig .tc := ⟨.hbm, 122, rfl⟩
abbrev main_v87 : Ref sig .tc := ⟨.hbm, 123, rfl⟩
abbrev main_cst_15 : Ref sig .tc := ⟨.hbm, 124, rfl⟩
abbrev main_v88 : Ref sig .tc := ⟨.hbm, 125, rfl⟩
abbrev main_v89 : Ref sig .tc := ⟨.hbm, 126, rfl⟩
abbrev main_cst_16 : Ref sig .tc := ⟨.hbm, 127, rfl⟩
abbrev main_v90 : Ref sig .tc := ⟨.hbm, 128, rfl⟩
abbrev main_v91 : Ref sig .tc := ⟨.hbm, 129, rfl⟩
abbrev main_cst_17 : Ref sig .tc := ⟨.hbm, 130, rfl⟩
abbrev main_v92 : Ref sig .tc := ⟨.hbm, 131, rfl⟩
abbrev main_cst_18 : Ref sig .tc := ⟨.hbm, 132, rfl⟩
abbrev main_v93 : Ref sig .tc := ⟨.hbm, 133, rfl⟩
abbrev main_cst_19 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_20 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_21 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_22 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_cst_23 : Ref sig .tc := ⟨.hbm, 163, rfl⟩
abbrev main_v119 : Ref sig .tc := ⟨.hbm, 164, rfl⟩
abbrev main_v120 : Ref sig .tc := ⟨.hbm, 165, rfl⟩
abbrev main_cst_24 : Ref sig .tc := ⟨.hbm, 166, rfl⟩
abbrev main_v121 : Ref sig .tc := ⟨.hbm, 167, rfl⟩
abbrev main_v122 : Ref sig .tc := ⟨.hbm, 168, rfl⟩
abbrev main_cst_25 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_26 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_cst_27 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_cst_28 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_cst_29 : Ref sig .tc := ⟨.hbm, 199, rfl⟩
abbrev main_v149 : Ref sig .tc := ⟨.hbm, 200, rfl⟩
abbrev main_v150 : Ref sig .tc := ⟨.hbm, 201, rfl⟩
abbrev main_cst_30 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_cst_31 : Ref sig .tc := ⟨.hbm, 207, rfl⟩
abbrev main_v155 : Ref sig .tc := ⟨.hbm, 208, rfl⟩
abbrev main_v156 : Ref sig .tc := ⟨.hbm, 209, rfl⟩
abbrev main_cst_32 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_cst_33 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_cst_34 : Ref sig .tc := ⟨.hbm, 225, rfl⟩
abbrev main_v170 : Ref sig .tc := ⟨.hbm, 226, rfl⟩
abbrev main_v171 : Ref sig .tc := ⟨.hbm, 227, rfl⟩
abbrev main_cst_35 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_cst_36 : Ref sig .tc := ⟨.hbm, 233, rfl⟩
abbrev main_v176 : Ref sig .tc := ⟨.hbm, 234, rfl⟩
abbrev main_v177 : Ref sig .tc := ⟨.hbm, 235, rfl⟩
abbrev main_cst_37 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_cst_38 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_cst_39 : Ref sig .tc := ⟨.hbm, 252, rfl⟩
abbrev main_v192 : Ref sig .tc := ⟨.hbm, 253, rfl⟩
abbrev main_v193 : Ref sig .tc := ⟨.hbm, 254, rfl⟩
abbrev main_cst_40 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_cst_41 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_cst_42 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_cst_43 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_cst_44 : Ref sig .tc := ⟨.hbm, 280, rfl⟩
abbrev main_v215 : Ref sig .tc := ⟨.hbm, 281, rfl⟩
abbrev main_v216 : Ref sig .tc := ⟨.hbm, 282, rfl⟩
abbrev main_cst_45 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_cst_46 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_cst_47 : Ref sig .tc := ⟨.hbm, 292, rfl⟩
abbrev main_v224 : Ref sig .tc := ⟨.hbm, 293, rfl⟩
abbrev main_v225 : Ref sig .tc := ⟨.hbm, 294, rfl⟩

abbrev nD : Nat := 1
abbrev τ : Topo := Topo.v7x

variable {F : FTy → Type} [FloatOps F]
-- ==== Proof.Merge.Index.lean ====
module

public import proofs.«01_k».proof.Proof.Gen.KernelIdeal.Frame
public import proofs.«01_k».proof.Proof.Gen.ReferenceIdeal.Read
public import Idealize.ShloMosaic.Lib.Pipeline.ValueKit
public import Idealize.ShloMosaic.Lib.Pointwise

@[expose] public section

/-! # The backward pass of the gated merge: where the blocks lie

The grid has 4 row tiles of 512 rows by 8 column tiles of 256 columns; point `t` is row tile `t / 8`, column tile `t % 8`.
The three gate pre-activations are columns 6400, 8448, 10496 and on of one array, hence the block numbers 25, 33, 41. -/

set_option maxRecDepth 16384

noncomputable section

open Idealize.ShloMosaic Idealize.ShloMosaic.TcCoe Idealize.SL.Sem
open Idealize.ShloMosaic.Pipeline (Dat)

namespace Cert.KernelIdeal.Merge

open Cert.KernelIdeal Cert.KernelIdeal.Gen

/-- The block every window stages at a grid point. -/
theorem idx : ∀ t : Fin cfg0.N,
    win0_0.index t = ![t.val / 8, 0] ∧ win0_1.index t = ![t.val / 8, 0] ∧ win0_2.index t = ![t.val / 8, 0]
    ∧ win0_3.index t = ![0, t.val % 8] ∧ win0_4.index t = ![0, t.val % 8] ∧ win0_5.index t = ![0, t.val % 8]
    ∧ win0_6.index t = ![t.val / 8, 25 + t.val % 8] ∧ win0_7.index t = ![t.val / 8, 33 + t.val % 8]
    ∧ win0_8.index t = ![t.val / 8, 41 + t.val % 8]
    ∧ win0_9.index t = ![0, t.val % 8] ∧ win0_10.index t = ![0, 8 + t.val % 8] ∧ win0_11.index t = ![0, 16 + t.val % 8]
    ∧ win0_12.index t = ![t.val / 8, t.val % 8]
    ∧ win0_13.index t = ![t.val / 8, t.val % 8] ∧ win0_14.index t = ![t.val / 8, t.val % 8]
    ∧ win0_15.index t = ![t.val / 8, t.val % 8] ∧ win0_16.index t = ![t.val / 8, t.val % 8]
    ∧ win0_17.index t = ![t.val / 8, t.val % 8] ∧ win0_18.index t = ![t.val / 8, t.val % 8]
    ∧ win0_19.index t = ![t.val / 8, 0] ∧ win0_20.index t = ![t.val / 8, 0] ∧ win0_21.index t = ![t.val / 8, 0] :=
  (by decide +kernel : ∀ t : Fin grid0.N, _)

end Cert.KernelIdeal.Merge

end
-- ==== Proof.Merge.Gates.lean ====
module

public import proofs.«01_k».proof.Proof.Merge.Index

@[expose] public section

/-! # The backward pass of the gated merge: the gradients of the three gates

With `s` the gate, `u` the branch's projected output and `d` the gradient of the merged sum, the gate's pre-activation has
gradient `d u s (1 - s)`. Kernel and reference bracket the product differently. -/

set_option maxRecDepth 16384

noncomputable section

open Idealize.ShloMosaic Idealize.ShloMosaic.TcCoe Idealize.SL.Sem
open Idealize.ShloMosaic.Pipeline (Dat)

namespace Cert.KernelIdeal.Merge

open Cert.KernelIdeal Cert.KernelIdeal.Gen

variable (m : (ℓ : Loc nD τ sig) → Buf (Elt Ideal) ℓ)

open Cert.ReferenceIdeal.Read

/-- What a point stores of the attention gate's gradient is the reference's there. -/
theorem point13 (c : Dev nD) (t : Fin cfg0.N) (y) :
    k0_pay15 (iblk m c 12 t) (k0_pay6 (iblk m c 3 t) (iblk m c 0 t)) (k0_pay9 (iblk m c 6 t) (iblk m c 9 t)) y
    = val_main_v65 (F := Ideal) (m ((c : Thread nD τ).loc main_arg0)) (m ((c : Thread nD τ).loc main_arg3))
        (m ((c : Thread nD τ).loc main_arg6)) (m ((c : Thread nD τ).loc main_arg7)) (m ((c : Thread nD τ).loc main_arg8))
        (((cfg0.win 13).blk t).view.emb y) := by
  pointwise [k0_pay15, k0_pay6, k0_pay9, val_main_v65, val_main_v61, val_main_v58, val_main_v51, val_main_v10,
    val_main_v7, val_main_v23, val_main_v22, val_main_v21, val_main_cst_1, val_main_v20, val_main_v19, val_main_cst_0,
    val_main_v18, val_main_v17, val_main_cst, val_main_v16, val_main_v15, val_main_v14, val_main_v13, val_main_v4,
    val_main_v1, val_main_v0, Ideal.logistic]
  rw [mul_assoc (_ * _)]
  blk_point [iblk, V, idx t]

/-- The gradient of the attention gate's pre-activation, the whole array. -/
theorem final13 (c : Dev nD) : (dats m 0 c).arrAt 13 (cfgs 0).N
    = val_main_v65 (F := Ideal) (m ((c : Thread nD τ).loc main_arg0)) (m ((c : Thread nD τ).loc main_arg3))
        (m ((c : Thread nD τ).loc main_arg6)) (m ((c : Thread nD τ).loc main_arg7)) (m ((c : Thread nD τ).loc main_arg8)) := by
  refine (dats m 0 c).arrAt_eq_of_covers 13 _ (by decide +kernel) fun t hf y => ?_
  blk_simp
  rw [after0_13]
  by_cases h0 : t.val % 8 = 0
  · rw [outsAt0_A m c t h0]
    frame_out
    exact point13 m c t y
  · rw [outsAt0_B m c t h0]
    frame_out
    exact point13 m c t y

/-- What a point stores of the recurrent gate's gradient is the reference's there. -/
theorem point14 (c : Dev nD) (t : Fin cfg0.N) (y) :
    k0_pay17 (iblk m c 12 t) (k0_pay7 (iblk m c 4 t) (iblk m c 1 t)) (k0_pay10 (iblk m c 7 t) (iblk m c 10 t)) y
    = val_main_v66 (F := Ideal) (m ((c : Thread nD τ).loc main_arg1)) (m ((c : Thread nD τ).loc main_arg4))
        (m ((c : Thread nD τ).loc main_arg6)) (m ((c : Thread nD τ).loc main_arg7)) (m ((c : Thread nD τ).loc main_arg8))
        (((cfg0.win 14).blk t).view.emb y) := by
  pointwise [k0_pay17, k0_pay7, k0_pay10, val_main_v66, val_main_v60, val_main_v56, val_main_v51, val_main_v11,
    val_main_v8, val_main_v34, val_main_v33, val_main_v32, val_main_cst_4, val_main_v31, val_main_v30, val_main_cst_3,
    val_main_v29, val_main_v28, val_main_cst_2, val_main_v27, val_main_v26, val_main_v25, val_main_v24, val_main_v5,
    val_main_v2, val_main_v0, Ideal.logistic]
  rw [mul_assoc (_ * _)]
  blk_point [iblk, V, idx t]

/-- The gradient of the recurrent gate's pre-activation, the whole array. -/
theorem final14 (c : Dev nD) : (dats m 0 c).arrAt 14 (cfgs 0).N
    = val_main_v66 (F := Ideal) (m ((c : Thread nD τ).loc main_arg1)) (m ((c : Thread nD τ).loc main_arg4))
        (m ((c : Thread nD τ).loc main_arg6)) (m ((c : Thread nD τ).loc main_arg7)) (m ((c : Thread nD τ).loc main_arg8)) := by
  refine (dats m 0 c).arrAt_eq_of_covers 14 _ (by decide +kernel) fun t hf y => ?_
  blk_simp
  rw [after0_14]
  by_cases h0 : t.val % 8 = 0
  · rw [outsAt0_A m c t h0]
    frame_out
    exact point14 m c t y
  · rw [outsAt0_B m c t h0]
    frame_out
    exact point14 m c t y

/-- What a point stores of the memory gate's gradient is the reference's there. -/
theorem point15 (c : Dev nD) (t : Fin cfg0.N) (y) :
    k0_pay1 (iblk m c 12 t) (k0_pay8 (iblk m c 5 t) (iblk m c 2 t)) (k0_pay11 (iblk m c 8 t) (iblk m c 11 t)) y
    = val_main_v67 (F := Ideal) (m ((c : Thread nD τ).loc main_arg2)) (m ((c : Thread nD τ).loc main_arg5))
        (m ((c : Thread nD τ).loc main_arg6)) (m ((c : Thread nD τ).loc main_arg7)) (m ((c : Thread nD τ).loc main_arg8))
        (((cfg0.win 15).blk t).view.emb y) := by
  pointwise [k0_pay1, k0_pay8, k0_pay11, val_main_v67, val_main_v59, val_main_v54, val_main_v52, val_main_v12,
    val_main_v9, val_main_v45, val_main_v44, val_main_v43, val_main_cst_7, val_main_v42, val_main_v41, val_main_cst_6,
    val_main_v40, val_main_v39, val_main_cst_5, val_main_v38, val_main_v37, val_main_v36, val_main_v35, val_main_v6,
    val_main_v3, val_main_v0, Ideal.logistic]
  rw [mul_assoc (_ * _)]
  blk_point [iblk, V, idx t]

/-- The gradient of the memory gate's pre-activation, the whole array. -/
theorem final15 (c : Dev nD) : (dats m 0 c).arrAt 15 (cfgs 0).N
    = val_main_v67 (F := Ideal) (m ((c : Thread nD τ).loc main_arg2)) (m ((c : Thread nD τ).loc main_arg5))
        (m ((c : Thread nD τ).loc main_arg6)) (m ((c : Thread nD τ).loc main_arg7)) (m ((c : Thread nD τ).loc main_arg8)) := by
  refine (dats m 0 c).arrAt_eq_of_covers 15 _ (by decide +kernel) fun t hf y => ?_
  blk_simp
  rw [after0_15]
  by_cases h0 : t.val % 8 = 0
  · rw [outsAt0_A m c t h0]
    frame_out
    exact point15 m c t y
  · rw [outsAt0_B m c t h0]
    frame_out
    exact point15 m c t y

end Cert.KernelIdeal.Merge

end
-- ==== Proof.Merge.Mixed.lean ====
module

public import proofs.«01_k».proof.Proof.Merge.Index

@[expose] public section

/-! # The backward pass of the gated merge: the gradients of the three projected branch outputs

Each is the gate times the gradient of the merged sum; the factors stand in the other order in the reference. -/

set_option maxRecDepth 16384

noncomputable section

open Idealize.ShloMosaic Idealize.ShloMosaic.TcCoe Idealize.SL.Sem
open Idealize.ShloMosaic.Pipeline (Dat)

namespace Cert.KernelIdeal.Merge

open Cert.KernelIdeal Cert.KernelIdeal.Gen

variable (m : (ℓ : Loc nD τ sig) → Buf (Elt Ideal) ℓ)

open Cert.ReferenceIdeal.Read

/-- What a point stores of the gradient of the attention branch's projected output is the reference's there. -/
theorem point16 (c : Dev nD) (t : Fin cfg0.N) (y) :
    k0_pay12 (iblk m c 12 t) (k0_pay9 (iblk m c 6 t) (iblk m c 9 t)) y
    = val_main_v68 (F := Ideal) (m ((c : Thread nD τ).loc main_arg6)) (m ((c : Thread nD τ).loc main_arg7)) (m ((c : Thread nD τ).loc main_arg8))
        (((cfg0.win 16).blk t).view.emb y) := by
  pointwise [k0_pay12, k0_pay9, val_main_v68, val_main_v57, val_main_v51, val_main_v20, val_main_v19, val_main_cst_0,
    val_main_v18, val_main_v17, val_main_cst, val_main_v16, val_main_v15, val_main_v14, val_main_v13, val_main_v4,
    val_main_v1, val_main_v0, Ideal.logistic]
  blk_point [iblk, V, idx t]

/-- The gradient of the attention branch's projected output, the whole array. -/
theorem final16 (c : Dev nD) : (dats m 0 c).arrAt 16 (cfgs 0).N
    = val_main_v68 (F := Ideal) (m ((c : Thread nD τ).loc main_arg6)) (m ((c : Thread nD τ).loc main_arg7)) (m ((c : Thread nD τ).loc main_arg8)) := by
  refine (dats m 0 c).arrAt_eq_of_covers 16 _ (by decide +kernel) fun t hf y => ?_
  blk_simp
  rw [after0_16]
  by_cases h0 : t.val % 8 = 0
  · rw [outsAt0_A m c t h0]
    frame_out
    exact point16 m c t y
  · rw [outsAt0_B m c t h0]
    frame_out
    exact point16 m c t y

/-- What a point stores of the gradient of the recurrent branch's projected output is the reference's there. -/
theorem point17 (c : Dev nD) (t : Fin cfg0.N) (y) :
    k0_pay13 (iblk m c 12 t) (k0_pay10 (iblk m c 7 t) (iblk m c 10 t)) y
    = val_main_v69 (F := Ideal) (m ((c : Thread nD τ).loc main_arg6)) (m ((c : Thread nD τ).loc main_arg7)) (m ((c : Thread nD τ).loc main_arg8))
        (((cfg0.win 17).blk t).view.emb y) := by
  pointwise [k0_pay13, k0_pay10, val_main_v69, val_main_v55, val_main_v51, val_main_v31, val_main_v30, val_main_cst_3,
    val_main_v29, val_main_v28, val_main_cst_2, val_main_v27, val_main_v26, val_main_v25, val_main_v24, val_main_v5,
    val_main_v2, val_main_v0, Ideal.logistic]
  blk_point [iblk, V, idx t]

/-- The gradient of the recurrent branch's projected output, the whole array. -/
theorem final17 (c : Dev nD) : (dats m 0 c).arrAt 17 (cfgs 0).N
    = val_main_v69 (F := Ideal) (m ((c : Thread nD τ).loc main_arg6)) (m ((c : Thread nD τ).loc main_arg7)) (m ((c : Thread nD τ).loc main_arg8)) := by
  refine (dats m 0 c).arrAt_eq_of_covers 17 _ (by decide +kernel) fun t hf y => ?_
  blk_simp
  rw [after0_17]
  by_cases h0 : t.val % 8 = 0
  · rw [outsAt0_A m c t h0]
    frame_out
    exact point17 m c t y
  · rw [outsAt0_B m c t h0]
    frame_out
    exact point17 m c t y

/-- What a point stores of the gradient of the memory branch's projected output is the reference's there. -/
theorem point18 (c : Dev nD) (t : Fin cfg0.N) (y) :
    k0_pay14 (iblk m c 12 t) (iblk m c 8 t) (iblk m c 11 t) y
    = val_main_v70 (F := Ideal) (m ((c : Thread nD τ).loc main_arg6)) (m ((c : Thread nD τ).loc main_arg7)) (m ((c : Thread nD τ).loc main_arg8))
        (((cfg0.win 18).blk t).view.emb y) := by
  pointwise [k0_pay14, k0_pay11, val_main_v70, val_main_v53, val_main_v52, val_main_v42, val_main_v41, val_main_cst_6,
    val_main_v40, val_main_v39, val_main_cst_5, val_main_v38, val_main_v37, val_main_v36, val_main_v35, val_main_v6,
    val_main_v3, val_main_v0, Ideal.logistic]
  blk_point [iblk, V, idx t]

/-- The gradient of the memory branch's projected output, the whole array. -/
theorem final18 (c : Dev nD) : (dats m 0 c).arrAt 18 (cfgs 0).N
    = val_main_v70 (F := Ideal) (m ((c : Thread nD τ).loc main_arg6)) (m ((c : Thread nD τ).loc main_arg7)) (m ((c : Thread nD τ).loc main_arg8)) := by
  refine (dats m 0 c).arrAt_eq_of_covers 18 _ (by decide +kernel) fun t hf y => ?_
  blk_simp
  rw [after0_18]
  by_cases h0 : t.val % 8 = 0
  · rw [outsAt0_A m c t h0]
    frame_out
    exact point18 m c t y
  · rw [outsAt0_B m c t h0]
    frame_out
    exact point18 m c t y

end Cert.KernelIdeal.Merge

end
-- ==== Proof.Merge.Back.lean ====
module

public import proofs.«01_k».proof.Proof.Merge.Index

@[expose] public section

/-! # The backward pass of the gated merge: the gradients of the three branch outputs

Each is the product of the projected output's gradient with the transposed weight, summed one column tile of 256 at a time
over the eight points of a row tile. -/

set_option maxRecDepth 16384

noncomputable section

open Idealize.ShloMosaic Idealize.ShloMosaic.TcCoe Idealize.SL.Sem
open Idealize.ShloMosaic.Pipeline (Dat)

namespace Cert.KernelIdeal.Merge

open Cert.KernelIdeal Cert.KernelIdeal.Gen

variable (m : (ℓ : Loc nD τ sig) → Buf (Elt Ideal) ℓ)

open Cert.ReferenceIdeal.Read

/-- The zero block that opens a run of column tiles (attention branch). -/
theorem zero19 (j) : k0_pay3 (F := Ideal) j = 0 := by pointwise [k0_pay3]

/-- One column tile's part of the gradient of the attention branch's output. -/
theorem pay19 (acc : FVec Ideal S512x768 .f32) (dm : FVec Ideal S512x256 .f32) (w : FVec Ideal S768x256 .bf16)
    (g : FVec Ideal S512x256 .f32) (j) :
    k0_pay16 dm w g acc j
      = acc j + ∑ k : Fin 256, (dm (ix2 (j 0) k) * g (ix2 (j 0) k)) * w (ix2 (j 1) k) := by
  pointwise [k0_pay16, k0_pay12]

/-- The gradient of the attention branch's output, the whole array: the eight column tiles' parts are the
reference's one product. -/
theorem final19 (c : Dev nD) : (dats m 0 c).arrAt 19 (cfgs 0).N
    = val_main_v64 (F := Ideal) (m ((c : Thread nD τ).loc main_arg3)) (m ((c : Thread nD τ).loc main_arg6))
        (m ((c : Thread nD τ).loc main_arg7)) (m ((c : Thread nD τ).loc main_arg8)) := by
  refine (dats m 0 c).arrAt_eq_of_covers 19 _ (by decide +kernel) fun t hf y => ?_
  blk_simp
  rw [after0_19, Pipeline.eq_sum_fin_of_reset_step_apply_of_flush (fun n h => (outsAt0 m c n h).2.2.2.2.2.2.1) 8 (fun _ => 0) _
    (fun t h j => by rw [outsAt0_A m c t h]; frame_out; rw [pay19, zero19])
    (fun t h j => by rw [outsAt0_B m c t h]; frame_out; rw [pay19])
    t ((flush0_19 t).mp hf) _, zero_add]
  pointwise [k0_pay9, val_main_v64, val_main_v57, val_main_v51, val_main_v7, val_main_v20, val_main_v19, val_main_cst_0,
    val_main_v18, val_main_v17, val_main_cst, val_main_v16, val_main_v15, val_main_v14, val_main_v13, val_main_v4,
    val_main_v1, val_main_v0, Ideal.logistic]
  refine Fin.sum_mul_add_congr fun s k hl => ?_
  blk_point [iblk, V, idx t, idx ⟨_, Pipeline.run_point_lt_of_flush t ((flush0_19 t).mp hf) s⟩]

/-- The zero block that opens a run of column tiles (recurrent branch). -/
theorem zero20 (j) : k0_pay4 (F := Ideal) j = 0 := by pointwise [k0_pay4]

/-- One column tile's part of the gradient of the recurrent branch's output. -/
theorem pay20 (acc : FVec Ideal S512x768 .f32) (dm : FVec Ideal S512x256 .f32) (w : FVec Ideal S768x256 .bf16)
    (g : FVec Ideal S512x256 .f32) (j) :
    k0_pay18 dm w g acc j
      = acc j + ∑ k : Fin 256, (dm (ix2 (j 0) k) * g (ix2 (j 0) k)) * w (ix2 (j 1) k) := by
  pointwise [k0_pay18, k0_pay13]

/-- The gradient of the recurrent branch's output, the whole array: the eight column tiles' parts are the
reference's one product. -/
theorem final20 (c : Dev nD) : (dats m 0 c).arrAt 20 (cfgs 0).N
    = val_main_v63 (F := Ideal) (m ((c : Thread nD τ).loc main_arg4)) (m ((c : Thread nD τ).loc main_arg6))
        (m ((c : Thread nD τ).loc main_arg7)) (m ((c : Thread nD τ).loc main_arg8)) := by
  refine (dats m 0 c).arrAt_eq_of_covers 20 _ (by decide +kernel) fun t hf y => ?_
  blk_simp
  rw [after0_20, Pipeline.eq_sum_fin_of_reset_step_apply_of_flush (fun n h => (outsAt0 m c n h).2.2.2.2.2.2.2.1) 8 (fun _ => 0) _
    (fun t h j => by rw [outsAt0_A m c t h]; frame_out; rw [pay20, zero20])
    (fun t h j => by rw [outsAt0_B m c t h]; frame_out; rw [pay20])
    t ((flush0_20 t).mp hf) _, zero_add]
  pointwise [k0_pay10, val_main_v63, val_main_v55, val_main_v51, val_main_v8, val_main_v31, val_main_v30, val_main_cst_3,
    val_main_v29, val_main_v28, val_main_cst_2, val_main_v27, val_main_v26, val_main_v25, val_main_v24, val_main_v5,
    val_main_v2, val_main_v0, Ideal.logistic]
  refine Fin.sum_mul_add_congr fun s k hl => ?_
  blk_point [iblk, V, idx t, idx ⟨_, Pipeline.run_point_lt_of_flush t ((flush0_20 t).mp hf) s⟩]

/-- The zero block that opens a run of column tiles (memory branch). -/
theorem zero21 (j) : k0_pay5 (F := Ideal) j = 0 := by pointwise [k0_pay5]

/-- One column tile's part of the gradient of the memory branch's output. -/
theorem pay21 (acc : FVec Ideal S512x512 .f32) (w : FVec Ideal S512x256 .bf16) (d : FVec Ideal S512x256 .bf16) (j) :
    k0_pay2 w d acc j = acc j + ∑ k : Fin 256, d (ix2 (j 0) k) * w (ix2 (j 1) k) := by
  pointwise [k0_pay2]

/-- The gradient of the memory branch's output, the whole array: the eight column tiles' parts are the
reference's one product. -/
theorem final21 (c : Dev nD) : (dats m 0 c).arrAt 21 (cfgs 0).N
    = val_main_v62 (F := Ideal) (m ((c : Thread nD τ).loc main_arg5)) (m ((c : Thread nD τ).loc main_arg6))
        (m ((c : Thread nD τ).loc main_arg7)) (m ((c : Thread nD τ).loc main_arg8)) := by
  refine (dats m 0 c).arrAt_eq_of_covers 21 _ (by decide +kernel) fun t hf y => ?_
  blk_simp
  rw [after0_21, Pipeline.eq_sum_fin_of_reset_step_apply_of_flush (fun n h => (outsAt0 m c n h).2.2.2.2.2.2.2.2) 8 (fun _ => 0) _
    (fun t h j => by rw [outsAt0_A m c t h]; frame_out; rw [pay21, zero21])
    (fun t h j => by rw [outsAt0_B m c t h]; frame_out; rw [pay21])
    t ((flush0_21 t).mp hf) _, zero_add]
  pointwise [k0_pay11, k0_pay14, val_main_v62, val_main_v53, val_main_v52, val_main_v9, val_main_v42, val_main_v41,
    val_main_cst_6, val_main_v40, val_main_v39, val_main_cst_5, val_main_v38, val_main_v37, val_main_v36, val_main_v35,
    val_main_v6, val_main_v3, val_main_v0, Ideal.logistic]
  refine Fin.sum_mul_add_congr fun s k hl => ?_
  blk_point [iblk, V, idx t, idx ⟨_, Pipeline.run_point_lt_of_flush t ((flush0_21 t).mp hf) s⟩]

end Cert.KernelIdeal.Merge

end
-- ==== Proof.Merge.Claims.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Merge.Gates
public import proofs.«01_k».proof.Proof.Merge.Mixed
public import proofs.«01_k».proof.Proof.Merge.Back
public import proofs.«01_k».proof.Proof.Gen.KernelIdeal.Value
public import proofs.«01_k».proof.Proof.Gen.ReferenceIdeal.Read
public import Idealize.ShloMosaic.Lib.Quiescent

@[expose] public section

/-! # The backward pass of the gated merge: its five claims -/

set_option maxRecDepth 16384

noncomputable section

namespace Cert.Merge

open Idealize.ShloMosaic Idealize.ShloMosaic.TcCoe Idealize.SL.Sem

/-- The kernel runs to completion, keeps its arguments and leaves every semaphore at zero. -/
theorem kernel_frame : Cert.quiescent_Kernel := fun m g _ => Cert.Kernel.Gen.frame m g

/-- The same over the extended reals. -/
theorem ideal_frame : Cert.quiescent_KernelIdeal := fun m g _ => Cert.KernelIdeal.Gen.frame m g

/-- The same for the reference. -/
theorem reference_frame : Cert.quiescent_ReferenceIdeal := fun m g _ =>
  (θ_run Cert.ReferenceIdeal.defs _ _).mono
    (fun r h => ⟨fun c => (h c).2.2.2.2.2.2.2.2.2, sem_eq_zero_of_no_sems (by decide) r.2⟩)
    (Cert.ReferenceIdeal.Value.run (F := Ideal) m g)

open Cert.ReferenceIdeal.Read in
/-- Over the extended reals kernel and reference have the same nine results. -/
theorem algebraic : Cert.algebraic_KernelIdeal_ReferenceIdeal := by
  intro m g m' g' _ hag
  refine ⟨_, _, _, _, _, _, _, _, _, Cert.KernelIdeal.Value.run_blocks m g,
    (θ_run Cert.ReferenceIdeal.defs _ _).mono (fun r h c => ?_) (Cert.ReferenceIdeal.Value.run m' g')⟩
  obtain ⟨h0, h1, h2, h3, h4, h5, h6, h7, h8, hargs⟩ := h c
  obtain ⟨e0, e1, e2, e3, e4, e5, e6, e7, e8⟩ := hag c
  rw [val_main_v65_eq, e0, e3, e6, e7, e8] at h0
  rw [val_main_v66_eq, e1, e4, e6, e7, e8] at h1
  rw [val_main_v67_eq, e2, e5, e6, e7, e8] at h2
  rw [val_main_v68_eq, e6, e7, e8] at h3
  rw [val_main_v69_eq, e6, e7, e8] at h4
  rw [val_main_v70_eq, e6, e7, e8] at h5
  rw [val_main_v64_eq, e3, e6, e7, e8] at h6
  rw [val_main_v63_eq, e4, e6, e7, e8] at h7
  rw [val_main_v62_eq, e5, e6, e7, e8] at h8
  exact ⟨h0.trans (Cert.KernelIdeal.Merge.final13 m c).symm, h1.trans (Cert.KernelIdeal.Merge.final14 m c).symm,
    h2.trans (Cert.KernelIdeal.Merge.final15 m c).symm, h3.trans (Cert.KernelIdeal.Merge.final16 m c).symm,
    h4.trans (Cert.KernelIdeal.Merge.final17 m c).symm, h5.trans (Cert.KernelIdeal.Merge.final18 m c).symm,
    h6.trans (Cert.KernelIdeal.Merge.final19 m c).symm, h7.trans (Cert.KernelIdeal.Merge.final20 m c).symm,
    h8.trans (Cert.KernelIdeal.Merge.final21 m c).symm, hargs⟩

end Cert.Merge

end
-- ==== Proof.InBwd.Index.lean ====
module

public import proofs.«01_k».proof.Proof.Gen.Kernel2Ideal.Frame
public import proofs.«01_k».proof.Proof.Gen.Reference2Ideal.Read
public import Idealize.ShloMosaic.Lib.Pipeline.ValueKit
public import Idealize.ShloMosaic.Lib.Pointwise

@[expose] public section

/-! # The backward pass of the first projection: where the blocks lie

The grid has 4 row tiles of 512 rows by 14 tiles of 896 columns of the projection; point `t` is row tile `t / 14`, column
tile `t % 14`. -/

set_option maxRecDepth 16384

noncomputable section

open Idealize.ShloMosaic Idealize.ShloMosaic.TcCoe Idealize.SL.Sem
open Idealize.ShloMosaic.Pipeline (Dat)

namespace Cert.Kernel2Ideal.InBwd

open Cert.Kernel2Ideal Cert.Kernel2Ideal.Gen

/-- The block every window stages at a grid point. -/
theorem idx : ∀ t : Fin cfg0.N,
    win0_0.index t = ![t.val / 14, t.val % 14] ∧ win0_1.index t = ![0, t.val % 14] ∧ win0_2.index t = ![t.val / 14, 0]
    ∧ win0_3.index t = ![0, 0] ∧ win0_4.index t = ![t.val / 14, 0] ∧ win0_5.index t = ![t.val / 14, 0]
    ∧ win0_6.index t = ![0, 0] :=
  (by decide +kernel : ∀ t : Fin grid0.N, _)

end Cert.Kernel2Ideal.InBwd

end
-- ==== Proof.InBwd.Product.lean ====
module

public import proofs.«01_k».proof.Proof.InBwd.Index
public import Idealize.ShloMosaic.Lib.Pipeline.ReadBack

@[expose] public section

/-! # The backward pass of the first projection: the gradient of the scaled, normalised input

The scratch sums, one column tile after another, the projection's gradient times the transposed weight. After the last of the
fourteen column tiles it holds the reference's one product. -/

set_option maxRecDepth 16384

noncomputable section

open Idealize.ShloMosaic Idealize.ShloMosaic.TcCoe Idealize.SL.Sem
open Idealize.ShloMosaic.Pipeline (Dat)

namespace Cert.Kernel2Ideal.InBwd

open Cert.Kernel2Ideal Cert.Kernel2Ideal.Gen

variable (m : (ℓ : Loc nD τ sig) → Buf (Elt Ideal) ℓ)

open Cert.Reference2Ideal.Read

/-- The zero block that opens a run of column tiles. -/
theorem zero (j) : k0_pay2 (F := Ideal) j = 0 := by pointwise [k0_pay2]

/-- One column tile's part of the product. -/
def tile (d : FVec Ideal S512x896 .bf16) (w : FVec Ideal S2048x896 .bf16) (j : S512x2048.Idx) : EReal :=
  ∑ k : Fin 896, d (ix2 (j 0) k) * w (ix2 (j 1) k)

/-- A column tile adds its part to the scratch. -/
theorem part (acc : FVec Ideal S512x2048 .f32) (d : FVec Ideal S512x896 .bf16) (w : FVec Ideal S2048x896 .bf16) (j) :
    k0_pay3 acc d w j = acc j + tile d w j := by
  pointwise [k0_pay3, tile]

/-- What the scratch holds after the last column tile of a row tile: that row tile of the reference's product. -/
theorem product (c : Dev nD) (t : Fin cfg0.N) (ht : t.val % 14 = 13) (y : S512x2048.Idx) :
    (outsAt0 m c t.val t.isLt).2.2 y
      = val_main_v18 (F := Ideal) (m ((c : Thread nD τ).loc main_arg0)) (m ((c : Thread nD τ).loc main_arg1))
          (((cfg0.win 5).blk t).view.emb y) := by
  have e := Pipeline.eq_sum_fin_of_reset_step_apply_of_flush (fun n h => (outsAt0 m c n h).2.2) 14 (fun _ => 0)
    (fun p j => tile (iblk m c 0 p) (iblk m c 1 p) j)
    (fun t h j => by
      have h2 : ¬t.val % 14 = 13 := by omega
      by_cases h0 : t.val % 56 = 0
      · rw [outsAt0_A m c t h0 h h2]
        frame_out
        rw [part, zero]
      · rw [outsAt0_D m c t h0 h h2]
        frame_out
        rw [part, zero])
    (fun t h j => by
      have h0 : ¬t.val % 56 = 0 := by omega
      by_cases h2 : t.val % 14 = 13
      · rw [outsAt0_C m c t h0 h h2]
        frame_out
        rw [part, read_unread_whole]
      · rw [outsAt0_B m c t h0 h h2]
        frame_out
        rw [part, read_unread_whole])
    t ht y
  refine e.trans ?_
  rw [zero_add]
  pointwise [tile, val_main_v18, val_main_v17, val_main_v15]
  refine Fin.sum_mul_add_congr fun s k hl => ?_
  blk_point [iblk, V, idx t, idx ⟨_, Pipeline.run_point_lt_of_flush t ht s⟩]

end Cert.Kernel2Ideal.InBwd

end
-- ==== Proof.InBwd.Norm.lean ====
module

public import Idealize.ShloMosaic.PureOps.Ideal.Laws

@[expose] public section

/-! # The gradient through a root-mean-square normalisation, over the extended reals

A row `x` of 2048 entries is normalised to `x r` with `r = 1 / √(mean(x²) + ε)`. With `a` the gradient of the normalised
row, the kernel writes the gradient of `x` as `r (a - (x r) mean(a (x r)))`; reverse-mode differentiation writes it as
`a r + x t + t x` with `t = (∑ x a) (-1/2 · r / (mean(x²) + ε)) / 2048`. The two agree at every input, infinities included:
where the mean of squares is `+∞` the scale `r` is zero and both vanish; elsewhere `r` is a positive real, and the product
with a positive real distributes over any sum of extended reals. -/

noncomputable section

namespace Cert.RmsBack

open Idealize.ShloMosaic
open scoped BigOperators

/-- The row length, as the constant both programs divide by. -/
theorem len_f32 : Ideal.ofBits .f32 0x45000000#32 = ((2048 : ℝ) : EReal) := by
  simp [Ideal.ofBits, Ideal.ieee, -EReal.coe_mul]; norm_num

/-- The factor `-1/2` of the derivative of the inverse square root. -/
theorem neg_half_f32 : Ideal.ofBits .f32 0xBF000000#32 = ((-(1 / 2) : ℝ) : EReal) := by
  simp [Ideal.ofBits, Ideal.ieee, -EReal.coe_mul, -EReal.coe_neg]; norm_num

/-- The constant `ε` is a positive real. -/
theorem eps_f32 : ∃ e : ℝ, 0 < e ∧ Ideal.ofBits .f32 0x358637BD#32 = (e : EReal) := by
  refine ⟨_, ?_, by simp [Ideal.ofBits, Ideal.ieee, -EReal.coe_mul]; rfl⟩
  norm_num

/-- The product with a nonnegative real distributes over a finite sum. -/
theorem sum_mul_real {n : ℕ} (f : Fin n → EReal) {r : ℝ} (hr : 0 ≤ r) :
    (∑ k, f k) * (r : EReal) = ∑ k, f k * (r : EReal) := by
  classical
  induction (Finset.univ : Finset (Fin n)) using Finset.induction_on with
  | empty => simp
  | insert k s hk ih =>
    rw [Finset.sum_insert hk, Finset.sum_insert hk,
      EReal.right_distrib_of_nonneg_of_ne_top (EReal.coe_nonneg.mpr hr) (EReal.coe_ne_top r), ih]

/-- A square is not negative. -/
theorem mul_self_nonneg (x : EReal) : 0 ≤ x * x := by
  induction x with
  | bot => simp
  | top => simp
  | coe x => rw [← EReal.coe_mul]; exact EReal.coe_nonneg.mpr (_root_.mul_self_nonneg x)

/-- The mean of squares plus `ε` is `+∞` or a positive real. -/
theorem mean_sq {n : ℕ} (x : Fin n → EReal) :
    Ideal.div (∑ k, x k * x k) (Ideal.ofBits .f32 0x45000000#32) + Ideal.ofBits .f32 0x358637BD#32 = ⊤
    ∨ ∃ q : ℝ, 0 < q ∧
      Ideal.div (∑ k, x k * x k) (Ideal.ofBits .f32 0x45000000#32) + Ideal.ofBits .f32 0x358637BD#32 = (q : EReal) := by
  obtain ⟨e, he, hE⟩ := eps_f32
  rw [hE, len_f32, Ideal.div_coe (by norm_num)]
  have h0 : 0 ≤ ∑ k, x k * x k := Finset.sum_nonneg fun k _ => mul_self_nonneg (x k)
  generalize ∑ k, x k * x k = s at h0
  induction s with
  | bot => simp at h0
  | top => left; rw [EReal.top_mul_coe_of_pos (by norm_num), EReal.top_add_coe]
  | coe s =>
    right
    refine ⟨s * (1 / 2048) + e, ?_, by push_cast; rfl⟩
    have := EReal.coe_nonneg.mp h0
    positivity

/-- `y + y` is `y` doubled. -/
theorem add_self_real (y : EReal) : y + y = y * ((2 : ℝ) : EReal) := by
  induction y with
  | bot => rw [EReal.bot_mul_coe_of_pos (by norm_num)]; rfl
  | top => rw [EReal.top_mul_coe_of_pos (by norm_num)]; rfl
  | coe y => rw [← EReal.coe_add, ← EReal.coe_mul]; congr 1; ring

/-- The kernel's gradient of a normalised row is the reverse-mode one. -/
theorem back {n : ℕ} (x a : Fin n → EReal) (d xj aj q : EReal)
    (hq : q = Ideal.div (∑ k, x k * x k) (Ideal.ofBits .f32 0x45000000#32) + Ideal.ofBits .f32 0x358637BD#32) :
    d + Ideal.rsqrt q * (aj - (xj * Ideal.rsqrt q)
        * Ideal.div (∑ k, a k * (x k * Ideal.rsqrt q)) (Ideal.ofBits .f32 0x45000000#32))
      = ((d + aj * Ideal.rsqrt q)
          + xj * Ideal.div ((∑ k, x k * a k) * (Ideal.ofBits .f32 0xBF000000#32 * Ideal.div (Ideal.rsqrt q) q))
              (Ideal.ofBits .f32 0x45000000#32))
        + Ideal.div ((∑ k, x k * a k) * (Ideal.ofBits .f32 0xBF000000#32 * Ideal.div (Ideal.rsqrt q) q))
              (Ideal.ofBits .f32 0x45000000#32) * xj := by
  rw [len_f32, neg_half_f32, Ideal.div_coe (by norm_num), Ideal.div_coe (by norm_num)]
  rcases hq ▸ mean_sq x with h | ⟨q', hq', h⟩
  · simp [h, Ideal.div]
  · rw [h, Ideal.rsqrt_coe, if_neg (not_lt.mpr hq'.le), if_neg hq'.ne', Ideal.div_coe hq'.ne']
    have hr : 0 < (Real.sqrt q')⁻¹ := inv_pos.mpr (Real.sqrt_pos.mpr hq')
    have hrr : 1 / q' = (Real.sqrt q')⁻¹ * (Real.sqrt q')⁻¹ := by
      rw [← mul_inv, Real.mul_self_sqrt hq'.le, one_div]
    rw [hrr]
    generalize (Real.sqrt q')⁻¹ = r at hr
    have hs : ∑ k, a k * (x k * (r : EReal)) = (∑ k, x k * a k) * (r : EReal) := by
      rw [sum_mul_real _ hr.le]
      exact Finset.sum_congr rfl fun k _ => by rw [← mul_assoc, mul_comm (a k)]
    rw [hs, EReal.mul_sub_of_nonneg_of_ne_top (EReal.coe_nonneg.mpr hr.le) (EReal.coe_ne_top r), sub_eq_add_neg,
      mul_comm (r : EReal) aj, mul_comm _ xj, add_assoc (d + _), add_self_real, ← add_assoc]
    congr 1
    generalize ∑ k, x k * a k = s
    have e1 : (r : EReal) * (xj * (r : EReal) * (s * (r : EReal) * ((1 / 2048 : ℝ) : EReal)))
        = xj * s * ((r * (r * (r * (1 / 2048))) : ℝ) : EReal) := by
      push_cast; ac_rfl
    have e2 : xj * (s * (((-(1 / 2) : ℝ) : EReal) * ((r : EReal) * ((r * r : ℝ) : EReal))) * ((1 / 2048 : ℝ) : EReal))
          * ((2 : ℝ) : EReal)
        = xj * s * ((-(1 / 2) * (r * (r * r)) * (1 / 2048) * 2 : ℝ) : EReal) := by
      push_cast; ac_rfl
    rw [e1, e2, ← mul_neg, ← EReal.coe_neg]
    congr 2
    ring

end Cert.RmsBack

end
-- ==== Proof.InBwd.GradX.lean ====
module

public import proofs.«01_k».proof.Proof.InBwd.Product
public import proofs.«01_k».proof.Proof.InBwd.Norm

@[expose] public section

/-! # The backward pass of the first projection: the gradient of the input

The kernel folds the normalisation's gradient into one expression; the reference differentiates the mean, the root and the
product one after another. The two agree row by row (`Cert.RmsBack.back`). -/

set_option maxRecDepth 16384

noncomputable section

open Idealize.ShloMosaic Idealize.ShloMosaic.TcCoe Idealize.SL.Sem
open Idealize.ShloMosaic.Pipeline (Dat)

namespace Cert.Kernel2Ideal.InBwd

open Cert.Kernel2Ideal Cert.Kernel2Ideal.Gen

variable (m : (ℓ : Loc nD τ sig) → Buf (Elt Ideal) ℓ)

open Cert.Reference2Ideal.Read

/-- What a row tile's last point stores of the input's gradient is the reference's there. -/
theorem pointX (c : Dev nD) (t : Fin cfg0.N) (b : FVec Ideal S512x2048 .f32)
    (hb : ∀ y, b y = val_main_v18 (F := Ideal) (m ((c : Thread nD τ).loc main_arg0)) (m ((c : Thread nD τ).loc main_arg1))
      (((cfg0.win 5).blk t).view.emb y)) (y : S512x2048.Idx) :
    k0_pay7 (iblk m c 2 t) b (iblk m c 3 t) (iblk m c 4 t) y
      = val_main_v38 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (((cfg0.win 5).blk t).view.emb y) := by
  pointwise [k0_pay7, k0_pay5, k0_pay4, val_main_v38, val_main_v37, val_main_v36, val_main_v35, val_main_v34, val_main_v33,
    val_main_cst_6, val_main_v32, val_main_v31, val_main_cst_5, val_main_v30, val_main_v29, val_main_v28, val_main_v27,
    val_main_v26, val_main_v25, val_main_cst_4, val_main_v24, val_main_v23, val_main_v22, val_main_v10, val_main_v9,
    val_main_cst_2, val_main_v8, val_main_v7, val_main_v6, val_main_v5, val_main_cst_1, val_main_v4, val_main_v3,
    val_main_cst_0, val_main_v2, val_main_v1, val_main_cst, val_main_v0]
  simp only [hb, Fin.sum_univ_one]
  refine Eq.trans (Cert.RmsBack.back _ _ _ _ _ _ ?_) ?_
  rotate_left 2
  · rfl
  blk_point [iblk, V, idx t]

/-- The gradient of the input, the whole array. -/
theorem final5 (c : Dev nD) : (dats m 0 c).arrAt 5 (cfgs 0).N
    = val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  have h2 := (flush0_5 t).mp hf
  have hp := product m c t h2
  blk_simp
  rw [after0_5]
  have h1 : ¬t.val % 14 = 0 := by omega
  have h0 : ¬t.val % 56 = 0 := by omega
  rw [outsAt0_C m c t h0 h1 h2] at hp ⊢
  revert hp
  frame_out
  intro hp
  exact pointX m c t _ hp y

end Cert.Kernel2Ideal.InBwd

end
-- ==== Proof.InBwd.GradG.lean ====
module

public import proofs.«01_k».proof.Proof.InBwd.Product

@[expose] public section

/-! # The backward pass of the first projection: the gradient of the norm's gain

One row vector is accumulated over the whole grid; only the last column tile of each of the four row tiles adds to it. -/

set_option maxRecDepth 16384

noncomputable section

open Idealize.ShloMosaic Idealize.ShloMosaic.TcCoe Idealize.SL.Sem
open Idealize.ShloMosaic.Pipeline (Dat)

namespace Cert.Kernel2Ideal.InBwd

open Cert.Kernel2Ideal Cert.Kernel2Ideal.Gen

variable (m : (ℓ : Loc nD τ sig) → Buf (Elt Ideal) ℓ)

open Cert.Reference2Ideal.Read

/-- The zero row that opens the sum. -/
theorem zeroG (j) : k0_pay1 (F := Ideal) j = 0 := by pointwise [k0_pay1]

/-- One row tile's part of the gain's gradient. -/
def rows (x b : FVec Ideal S512x2048 .f32) (j : S1x2048.Idx) : EReal :=
  ∑ r : Fin 512, b (ix2 r (j 1)) * k0_pay5 (F := Ideal) x (ix2 r (j 1))

/-- A row tile adds its part to the row. -/
theorem partG (x b : FVec Ideal S512x2048 .f32) (acc : FVec Ideal S1x2048 .f32) (j) :
    k0_pay6 x b acc j = acc j + rows x b j := by
  obtain ⟨k, rfl⟩ : ∃ k : Fin 2048, j = ix2 0 k := ⟨j 1, by blk_ext⟩
  pointwise [k0_pay6, rows]

/-- A sum over the grid to which only the last column tiles contribute is a sum over the four row tiles. -/
theorem sum_last {N : ℕ} (hN : N = 56) (f : Fin N → EReal) :
    (∑ p : Fin N, if p.val % 14 = 13 then f p else 0) = ∑ i : Fin 4, f ⟨14 * i.val + 13, by omega⟩ := by
  subst hN
  rw [← Finset.sum_filter, (by decide +kernel : Finset.univ.filter (fun p : Fin 56 => p.val % 14 = 13)
    = Finset.univ.map ⟨fun i : Fin 4 => (⟨14 * i.val + 13, by omega⟩ : Fin 56), by decide⟩), Finset.sum_map]
  rfl

/-- The row after the last point: every row tile's part. -/
theorem row (c : Dev nD) (t : Fin cfg0.N) (ht : t.val + 1 = cfg0.N) (j : S1x2048.Idx) :
    (outsAt0 m c t.val t.isLt).2.1 j = 0 + ∑ p : Fin cfg0.N,
      if p.val % 14 = 13 then rows (iblk m c 2 p) (outsAt0 m c p.val p.isLt).2.2 j else 0 :=
  Pipeline.eq_sum_fin_of_reset_step_apply_last (fun n h => (outsAt0 m c n h).2.1) 56 (fun _ => 0)
    (fun p j => if p.val % 14 = 13 then rows (iblk m c 2 p) (outsAt0 m c p.val p.isLt).2.2 j else 0)
    (fun t h j => by
      have h1 : t.val % 14 = 0 := by omega
      have h2 : ¬t.val % 14 = 13 := by omega
      rw [if_neg h2, outsAt0_A m c t h h1 h2]
      frame_out
      rw [zeroG, add_zero])
    (fun t h j => by
      by_cases h1 : t.val % 14 = 0
      · have h2 : ¬t.val % 14 = 13 := by omega
        rw [if_neg h2, outsAt0_D m c t h h1 h2, add_zero]
        rfl
      · by_cases h2 : t.val % 14 = 13
        · rw [if_pos h2, outsAt0_C m c t h h1 h2]
          frame_out
          rw [partG, read_unread_whole]
        · rw [if_neg h2, outsAt0_B m c t h h1 h2, add_zero]
          rfl)
    N_0.le t ht j

/-- A row tile's part, over the reference's product. -/
theorem rows_product (c : Dev nD) (t : Fin cfg0.N) (ht : t.val % 14 = 13) (j : S1x2048.Idx) :
    rows (iblk m c 2 t) (outsAt0 m c t.val t.isLt).2.2 j
      = rows (iblk m c 2 t) (fun y => val_main_v18 (F := Ideal) (m ((c : Thread nD τ).loc main_arg0))
          (m ((c : Thread nD τ).loc main_arg1)) (((cfg0.win 5).blk t).view.emb y)) j :=
  congrArg (fun b => rows (iblk m c 2 t) b j) (funext (product m c t ht))

/-- The gradient of the gain, the whole row. -/
theorem final6 (c : Dev nD) : (dats m 0 c).arrAt 6 (cfgs 0).N
    = val_main_v21 (F := Ideal) (m ((c : Thread nD τ).loc main_arg0)) (m ((c : Thread nD τ).loc main_arg1))
        (m ((c : Thread nD τ).loc main_arg2)) := by
  refine (dats m 0 c).arrAt_eq_of_covers 6 _ (by decide +kernel) fun t hf y => ?_
  have ht : t.val + 1 = cfg0.N := by
    have h := (flush0_6 t).mp hf
    have hN : cfg0.N = 56 := N_0
    have := t.isLt
    omega
  blk_simp
  rw [after0_6, row m c t ht, zero_add, sum_last N_0]
  rw [Finset.sum_congr rfl fun i _ => rows_product m c ⟨14 * i.val + 13, _⟩ (by show (14 * i.val + 13) % 14 = 13; omega) _]
  pointwise [rows, k0_pay5, k0_pay4, val_main_v21, val_main_v20, val_main_cst_3, val_main_v19, val_main_v12, val_main_v11,
    val_main_v7, val_main_v6, val_main_v5, val_main_cst_1, val_main_v4, val_main_v3, val_main_cst_0, val_main_v2,
    val_main_v1, val_main_cst, val_main_v0]
  refine Fin.sum_mul_add_congr fun s k hl => ?_
  blk_point [iblk, V, idx t, idx ⟨14 * s.val + 13, lt_of_lt_of_eq (by omega) N_0.symm⟩]

end Cert.Kernel2Ideal.InBwd

end
-- ==== Proof.InBwd.Claims.lean ====
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.InBwd.GradX
public import proofs.«01_k».proof.Proof.InBwd.GradG
public import proofs.«01_k».proof.Proof.Gen.Kernel2Ideal.Value
public import proofs.«01_k».proof.Proof.Gen.Reference2Ideal.Read
public import Idealize.ShloMosaic.Lib.Quiescent

@[expose] public section

/-! # The backward pass of the first projection and its norm: its claims -/

set_option maxRecDepth 16384

noncomputable section

namespace Cert.InBwd

open Idealize.ShloMosaic Idealize.ShloMosaic.TcCoe Idealize.SL.Sem

/-- The kernel runs to completion, keeps its arguments and leaves every semaphore at zero. -/
theorem kernel_frame : Cert.quiescent_Kernel2 := fun m g _ => Cert.Kernel2.Gen.frame m g

/-- The same over the extended reals. -/
theorem ideal_frame : Cert.quiescent_Kernel2Ideal := fun m g _ => Cert.Kernel2Ideal.Gen.frame m g

/-- The same for the reference. -/
theorem reference_frame : Cert.quiescent_Reference2Ideal := fun m g _ =>
  (θ_run Cert.Reference2Ideal.defs _ _).mono
    (fun r h => ⟨fun c => (h c).2.2, sem_eq_zero_of_no_sems (by decide) r.2⟩)
    (Cert.Reference2Ideal.Value.run (F := Ideal) m g)

open Cert.Reference2Ideal.Read in
/-- Over the extended reals kernel and reference have the same two results: the input's gradient and the gain's. -/
theorem algebraic : Cert.algebraic_Kernel2Ideal_Reference2Ideal := by
  intro m g m' g' _ hag
  refine ⟨_, _, Cert.Kernel2Ideal.Value.run_blocks m g,
    (θ_run Cert.Reference2Ideal.defs _ _).mono (fun r h c => ?_) (Cert.Reference2Ideal.Value.run m' g')⟩
  obtain ⟨h0, h1, hargs⟩ := h c
  obtain ⟨e0, e1, e2, e3, e4⟩ := hag c
  rw [val_main_v38_eq, e0, e1, e2, e3, e4] at h0
  rw [val_main_v21_eq, e0, e1, e2] at h1
  exact ⟨h0.trans (Cert.Kernel2Ideal.InBwd.final5 m c).symm, h1.trans (Cert.Kernel2Ideal.InBwd.final6 m c).symm, hargs⟩

end Cert.InBwd

end
-- ==== Proof.GradWIn.Operands.lean ====
module

public import proofs.«01_k».proof.Proof.Gen.Kernel3Ideal.Frame
public import proofs.«01_k».proof.Proof.Gen.Reference3Ideal.Read
public import Idealize.ShloMosaic.Lib.Pipeline.ValueKit
public import Idealize.ShloMosaic.Lib.Pointwise
public import Idealize.ShloMosaic.Lib.Claim

@[expose] public section

/-! # The gradient of the input projection's weight: the operands and where the blocks lie

The grid has four column groups of 3136 by 8 row tiles of 256; point `t` is column group `t / 8`, row tile `t % 8`. -/

set_option maxRecDepth 16384

noncomputable section

open Idealize.ShloMosaic Idealize.ShloMosaic.TcCoe Idealize.SL.Sem
open Idealize.ShloMosaic.Pipeline (Dat)

namespace Cert.Kernel3Ideal.GradWIn

open Cert.Kernel3Ideal Cert.Kernel3Ideal.Gen

variable (m : (ℓ : Loc nD τ sig) → Buf (Elt Ideal) ℓ)

open Cert.Reference3Ideal.Read

/-- The block every window stages at a grid point. -/
theorem idx : ∀ t : Fin cfg0.N,
    win0_0.index t = ![t.val % 8, 0] ∧ win0_1.index t = ![t.val / 8, 0, 0] ∧ win0_2.index t = ![t.val / 8, t.val % 8, 0]
    ∧ win0_3.index t = ![t.val / 8, t.val % 8, 0] :=
  (by decide +kernel : ∀ t : Fin grid0.N, _)

/-- The first operand is the transposed normalised input. -/
theorem operandA (c : Dev nD) (i : S2048x2048.Idx) :
    V m c main_v22 i = val_main_v12 (F := Ideal) (m ((c : Thread nD τ).loc main_arg0)) (m ((c : Thread nD τ).loc main_arg1))
      (ix2 (i 1) (i 0)) := by
  entry_read
  pointwise [val_main_v12, val_main_v11, val_main_v10, val_main_v9, val_main_v8, val_main_v7, val_main_v6, val_main_cst_1,
    val_main_v5, val_main_v4, val_main_cst_0, val_main_v3, val_main_v2, val_main_v1, val_main_cst]

/-- A column group of an array, as one of the stacked pieces. -/
theorem column {α : Type} (X : S2048x12544.Idx → α) (o : ℕ) (hs) (j : S1x2048x3136.Idx) (ho : o + 3136 ≤ 12544) :
    broadcastInDim (s := S2048x3136) S1x2048x3136 ![1, 2] bcast_S2048x3136_S1x2048x3136_1_2
      (extractStridedSlice S2048x3136 ![0, o] X hs) j
      = X (ix2 (j 1) ⟨o + (j 2).val, by have h2 : (j 2).val < 3136 := (j 2).isLt; omega⟩) := by
  pointwise []

set_option maxHeartbeats 4000000 in
/-- The second operand stacks the four column groups of the projection's gradient. -/
theorem operandB (c : Dev nD) (i : S4x2048x3136.Idx) :
    V m c main_v21 i = m ((c : Thread nD τ).loc main_arg3)
      (ix2 (i 1) ⟨3136 * (i 0).val + (i 2).val, by have h0 : (i 0).val < 4 := (i 0).isLt; have h2 : (i 2).val < 3136 := (i 2).isLt; omega⟩) := by
  show StableHlo.after hostOps0 (fun b => m (c, b)) main_v21 i = _
  simp only [StableHlo.after_cons, StableHlo.after_nil, hostOps0]
  rw [StableHlo.unary_result_ne]; rotate_left; decide
  rw [StableHlo.nary4_result]
  after_results_steps
  concat_tiles i h
  · refine (column (m ((c : Thread nD τ).loc main_arg3)) 0 slices_S2048x12544_S2048x3136_0_0 i (by norm_num)).trans ?_
    blk_ext
  · refine (column (m ((c : Thread nD τ).loc main_arg3)) 3136 slices_S2048x12544_S2048x3136_0_3136 i (by norm_num)).trans ?_
    blk_ext
  · refine (column (m ((c : Thread nD τ).loc main_arg3)) 6272 slices_S2048x12544_S2048x3136_0_6272 i (by norm_num)).trans ?_
    blk_ext
  · refine (column (m ((c : Thread nD τ).loc main_arg3)) 9408 slices_S2048x12544_S2048x3136_0_9408 i (by norm_num)).trans ?_
    blk_ext

end Cert.Kernel3Ideal.GradWIn

end
-- ==== Proof.GradWIn.Product.lean ====
module

public import proofs.«01_k».proof.Proof.GradWIn.Operands

@[expose] public section

/-! # The gradient of the input projection's weight: the product

Every point computes one block of the transposed input times the projection's gradient. The reference multiplies in the other
order, transposes and stacks the four column groups. -/

set_option maxRecDepth 16384

noncomputable section

open Idealize.ShloMosaic Idealize.ShloMosaic.TcCoe Idealize.SL.Sem
open Idealize.ShloMosaic.Pipeline (Dat)

namespace Cert.Kernel3Ideal.GradWIn

open Cert.Kernel3Ideal Cert.Kernel3Ideal.Gen

variable (m : (ℓ : Loc nD τ sig) → Buf (Elt Ideal) ℓ)

open Cert.Reference3Ideal.Read

/-- The reference's stack, read through to its product. -/
theorem stack_apply (x0 x1 x3) (i : S4x2048x3136.Idx) :
    val_main_v25 (F := Ideal) x0 x1 x3 i = val_main_v15 (F := Ideal) x0 x1 x3
      (ix2 ⟨3136 * (i 0).val + (i 2).val, by
        have h0 : (i 0).val < 4 := (i 0).isLt; have h2 : (i 2).val < 3136 := (i 2).isLt; omega⟩ (i 1)) := by
  pointwise [val_main_v25, val_main_v24, val_main_v23, val_main_v22, val_main_v21, val_main_v20, val_main_v19,
    val_main_v18, val_main_v17, val_main_v16]
  split_ifs with h1 h2 h3 <;> blk_ext

/-- A point's block of the first operand. -/
theorem blockA (c : Dev nD) (t : Fin cfg0.N) (j : S256x2048.Idx) :
    iblk m c 0 t j = val_main_v12 (F := Ideal) (m ((c : Thread nD τ).loc main_arg0)) (m ((c : Thread nD τ).loc main_arg1))
      (ix2 (j 1) ⟨256 * (t.val % 8) + (j 0).val, by have h : (j 0).val < 256 := (j 0).isLt; omega⟩) := by
  show V m c main_v22 (((cfg0.win 0).blk t).view.emb j) = _
  rw [operandA]
  refine congrArg _ ?_
  blk_ext [idx t]

/-- A point's block of the second operand. -/
theorem blockB (c : Dev nD) (t : Fin cfg0.N) (j : S1x2048x3136.Idx) :
    iblk m c 1 t j = m ((c : Thread nD τ).loc main_arg3)
      (ix2 (j 1) ⟨3136 * (t.val / 8) + (j 2).val, by
        have h : (j 2).val < 3136 := (j 2).isLt
        have h' : t.val < 32 := t.isLt
        omega⟩) := by
  show V m c main_v21 (((cfg0.win 1).blk t).view.emb j) = _
  rw [operandB]
  refine congrArg _ ?_
  blk_ext [idx t]

/-- What a point leaves in its accumulator is the reference's product there. -/
theorem point (c : Dev nD) (t : Fin cfg0.N) (y : S1x256x3136.Idx) :
    k0_pay3 (F := Ideal) (k0_pay2 k0_pay1 (iblk m c 0 t) (iblk m c 1 t)) y
      = val_main_v25 (F := Ideal) (m ((c : Thread nD τ).loc main_arg0)) (m ((c : Thread nD τ).loc main_arg1))
          (m ((c : Thread nD τ).loc main_arg3)) (((cfg0.win 2).blk t).view.emb y) := by
  rw [stack_apply]
  pointwise [k0_pay3, k0_pay2, k0_pay1, val_main_v15, val_main_v14]
  simp only [blockA, blockB]
  refine Finset.sum_congr rfl fun k _ => (mul_comm _ _).trans ?_
  blk_point [idx t]

/-- The gradient of the weight, the whole stack. -/
theorem final2 (c : Dev nD) : (dats m 0 c).arrAt 2 (cfgs 0).N
    = val_main_v25 (F := Ideal) (m ((c : Thread nD τ).loc main_arg0)) (m ((c : Thread nD τ).loc main_arg1))
        (m ((c : Thread nD τ).loc main_arg3)) := by
  refine (dats m 0 c).arrAt_eq_of_covers 2 _ (by decide +kernel) fun t hf y => ?_
  blk_simp
  rw [after0_2]
  unfold Gen.outsAt0
  frame_out
  exact point m c t y

/-- Its copy in half precision, the whole stack. -/
theorem final3 (c : Dev nD) : (dats m 0 c).arrAt 3 (cfgs 0).N
    = val_main_v26 (F := Ideal) (m ((c : Thread nD τ).loc main_arg0)) (m ((c : Thread nD τ).loc main_arg1))
        (m ((c : Thread nD τ).loc main_arg3)) := by
  refine (dats m 0 c).arrAt_eq_of_covers 3 _ (by decide +kernel) fun t hf y => ?_
  blk_simp
  rw [after0_3]
  unfold Gen.outsAt0
  frame_out
  exact point m c t y

end Cert.Kernel3Ideal.GradWIn

end
-- ==== Proof.GradWIn.Claims.lean ====
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.GradWIn.Product
public import proofs.«01_k».proof.Proof.Gen.Kernel3Ideal.Value
public import proofs.«01_k».proof.Proof.Gen.Reference3Ideal.Read
public import Idealize.ShloMosaic.Lib.Quiescent

@[expose] public section

/-! # The gradient of the input projection's weight: its claims -/

set_option maxRecDepth 16384

noncomputable section

namespace Cert.GradWIn

open Idealize.ShloMosaic Idealize.ShloMosaic.TcCoe Idealize.SL.Sem

/-- The kernel runs to completion, keeps its arguments and leaves every semaphore at zero. -/
theorem kernel_frame : Cert.quiescent_Kernel3 := fun m g _ => Cert.Kernel3.Gen.frame m g

/-- The same over the extended reals. -/
theorem ideal_frame : Cert.quiescent_Kernel3Ideal := fun m g _ => Cert.Kernel3Ideal.Gen.frame m g

/-- The same for the reference. -/
theorem reference_frame : Cert.quiescent_Reference3Ideal := fun m g _ =>
  (θ_run Cert.Reference3Ideal.defs _ _).mono
    (fun r h => ⟨fun c => (h c).2.2, sem_eq_zero_of_no_sems (by decide) r.2⟩)
    (Cert.Reference3Ideal.Value.run (F := Ideal) m g)

open Cert.Reference3Ideal.Read in
/-- Over the extended reals kernel and reference have the same two results: the weight's gradient and its copy in half
precision. -/
theorem algebraic : Cert.algebraic_Kernel3Ideal_Reference3Ideal := by
  intro m g m' g' _ hag
  refine ⟨_, _, Cert.Kernel3Ideal.Value.run_blocks m g,
    (θ_run Cert.Reference3Ideal.defs _ _).mono (fun r h c => ?_) (Cert.Reference3Ideal.Value.run m' g')⟩
  obtain ⟨h0, h1, hargs⟩ := h c
  obtain ⟨e0, e1, e2, e3⟩ := hag c
  rw [val_main_v25_eq, e0, e1, e3] at h0
  rw [val_main_v26_eq, e0, e1, e3] at h1
  exact ⟨h0.trans (Cert.Kernel3Ideal.GradWIn.final2 m c).symm, h1.trans (Cert.Kernel3Ideal.GradWIn.final3 m c).symm, hargs⟩

end Cert.GradWIn

end
-- ==== Proof.Xattn.Head.lean ====
module

public import proofs.«01_k».proof.Proof.Gen.Kernel4Ideal.Frame
public import proofs.«01_k».proof.Proof.Gen.Reference4Ideal.Read
public import Idealize.ShloMosaic.Lib.Pipeline.ValueKit
public import Idealize.ShloMosaic.Lib.Pointwise
public import Idealize.ShloMosaic.Lib.KernelVsHost

@[expose] public section

/-! # The memory attention's backward pass: one head of one row tile

Each value the kernel computes for a head and a row tile is the reference's value of the same name, read at that head and
those rows.  The row tile is any choice `row` of 512 rows and the head any `h`: the blocks below are what the kernel reads
there. -/

set_option maxRecDepth 16384

noncomputable section

open Idealize.ShloMosaic Idealize.ShloMosaic.TcCoe Idealize.SL.Sem

namespace Cert.Kernel4Ideal.Xattn

open Cert.Kernel4Ideal Cert.Kernel4Ideal.Gen
open Cert.Reference4Ideal.Read

variable {P : FVec Ideal S2048x12544 .f32} {M : FVec Ideal S256x1024 .f32} {gq gk : FVec Ideal S1x128 .f32}
  {D : FVec Ideal S2048x512 .f32} {row : Fin 512 → Fin 2048} {h : Fin 4}

/-- Column `128 h + d` of the four heads side by side. -/
def col (h : Fin 4) (d : Fin 128) : Fin 512 := ⟨128 * h.val + d.val, by omega⟩

/-- The rows `row` of head `h` of the queries. -/
abbrev IsQ (P : FVec Ideal S2048x12544 .f32) (row : Fin 512 → Fin 2048) (h : Fin 4) (q : FVec Ideal S512x128 .f32) : Prop :=
  ∀ (s : Fin 512) (d : Fin 128), q (ix2 s d) = val_main_v5 (F := Ideal) P (ix3 (row s) h d)
/-- Head `h` of the keys. -/
abbrev IsK (M : FVec Ideal S256x1024 .f32) (h : Fin 4) (k : FVec Ideal S256x128 .f32) : Prop :=
  ∀ (n : Fin 256) (d : Fin 128), k (ix2 n d) = val_main_v22 (F := Ideal) M (ix3 n h d)
/-- Head `h` of the values. -/
abbrev IsV (M : FVec Ideal S256x1024 .f32) (h : Fin 4) (v : FVec Ideal S256x128 .f32) : Prop :=
  ∀ (n : Fin 256) (d : Fin 128), v (ix2 n d) = val_main_v36 (F := Ideal) M (ix3 n h d)
/-- The rows `row` of head `h` of the gate's argument. -/
abbrev IsG (P : FVec Ideal S2048x12544 .f32) (row : Fin 512 → Fin 2048) (h : Fin 4) (g : FVec Ideal S512x128 .f32) : Prop :=
  ∀ (s : Fin 512) (d : Fin 128), g (ix2 s d) = val_main_v2 (F := Ideal) P (ix2 (row s) (col h d))
/-- The rows `row` of head `h` of the gradient the pass is given. -/
abbrev IsD (D : FVec Ideal S2048x512 .f32) (row : Fin 512 → Fin 2048) (h : Fin 4) (y : FVec Ideal S512x128 .f32) : Prop :=
  ∀ (s : Fin 512) (d : Fin 128), y (ix2 s d) = D (ix2 (row s) (col h d))

/-! ## The normalized queries and keys -/

theorem mean_q {q : FVec Ideal S512x128 .f32} (hq : IsQ P row h q) (s : Fin 512) :
    k0_pay4 (F := Ideal) q (ix2 s 0) = val_main_v12 (F := Ideal) P (ix3 (row s) h 0) := by
  pointwise [k0_pay4, val_main_v12, val_main_v11, val_main_v10, val_main_v9, val_main_v8, val_main_v7, val_main_v6, val_main_cst,
    val_main_cst_0, val_main_cst_1, hq]

theorem root_q {q : FVec Ideal S512x128 .f32} (hq : IsQ P row h q) (s : Fin 512) :
    k0_pay5 (F := Ideal) q (ix2 s 0) = val_main_v13 (F := Ideal) P (ix3 (row s) h 0) := by
  pointwise [k0_pay5, val_main_v13, mean_q hq]

theorem slope_q {q : FVec Ideal S512x128 .f32} (hq : IsQ P row h q) (s : Fin 512) :
    k0_pay6 (F := Ideal) q (ix2 s 0) = val_main_v16 (F := Ideal) P (ix3 (row s) h 0) := by
  pointwise [k0_pay6, val_main_v16, val_main_v15, val_main_v14, val_main_cst_2, mean_q hq, root_q hq]

theorem unit_q {q : FVec Ideal S512x128 .f32} (hq : IsQ P row h q) (s : Fin 512) (d : Fin 128) :
    k0_pay7 (F := Ideal) q (ix2 s d) = val_main_v18 (F := Ideal) P (ix3 (row s) h d) := by
  pointwise [k0_pay7, val_main_v18, val_main_v17, hq, root_q hq]

theorem norm_q {q : FVec Ideal S512x128 .f32} (hq : IsQ P row h q) (s : Fin 512) (d : Fin 128) :
    k0_pay8 (F := Ideal) q gq (ix2 s d) = val_main_v21 (F := Ideal) P gq (ix3 (row s) h d) := by
  pointwise [k0_pay8, val_main_v21, val_main_v20, val_main_v19, unit_q hq]

theorem norm_k {k : FVec Ideal S256x128 .f32} (hk : IsK M h k) (n : Fin 256) (d : Fin 128) :
    k0_pay29 (F := Ideal) k gk (ix2 n d) = val_main_v35 (F := Ideal) M gk (ix3 n h d) := by
  pointwise [k0_pay25, k0_pay26, k0_pay28, k0_pay29, val_main_v35, val_main_v34, val_main_v33, val_main_v32, val_main_v31, val_main_v30,
    val_main_v29, val_main_v28, val_main_v27, val_main_v26, val_main_v25, val_main_v24, val_main_v23, val_main_cst_3, val_main_cst_4,
    val_main_cst_5, hk]

/-! ## The weights -/

/-- The scaled scores of a head. -/
def score (q : FVec Ideal S512x128 .f32) (k : FVec Ideal S256x128 .f32) (gq gk : FVec Ideal S1x128 .f32) : FVec Ideal S512x256 .f32 :=
  k0_pay46 (F := Ideal) (k0_pay8 q gq) (k0_pay29 k gk)

theorem score_eq {q : FVec Ideal S512x128 .f32} {k : FVec Ideal S256x128 .f32} (hq : IsQ P row h q) (hk : IsK M h k) (s : Fin 512)
    (n : Fin 256) : score q k gq gk (ix2 s n) = val_main_v39 (F := Ideal) P M gq gk (ix3 h (row s) n) := by
  pointwise [score, k0_pay46, val_main_v39, val_main_v38, val_main_v37, val_main_cst_6, norm_q hq, norm_k hk]

/-- Any block of scores that is the reference's. -/
abbrev IsS (P : FVec Ideal S2048x12544 .f32) (M : FVec Ideal S256x1024 .f32) (gq gk : FVec Ideal S1x128 .f32)
    (row : Fin 512 → Fin 2048) (h : Fin 4) (x : FVec Ideal S512x256 .f32) : Prop :=
  ∀ (s : Fin 512) (n : Fin 256), x (ix2 s n) = val_main_v39 (F := Ideal) P M gq gk (ix3 h (row s) n)

variable {x : FVec Ideal S512x256 .f32}

theorem exp_eq (hx : IsS P M gq gk row h x) (s : Fin 512) (n : Fin 256) :
    k0_pay51 (F := Ideal) x (ix2 s n) = val_main_v49 (F := Ideal) P M gq gk (ix3 h (row s) n) := by
  pointwise [k0_pay51, val_main_v49, val_main_v48, val_main_v47, val_main_v46, val_main_v40, val_main_cst_7, hx]

theorem total_eq (hx : IsS P M gq gk row h x) (s : Fin 512) :
    k0_pay55 (F := Ideal) x (ix2 s 0) = val_main_v51 (F := Ideal) P M gq gk (ix3 h (row s) 0) := by
  pointwise [k0_pay55, val_main_v51, val_main_v50, val_main_cst_9, exp_eq hx]

theorem weight_eq (hx : IsS P M gq gk row h x) (s : Fin 512) (n : Fin 256) :
    k0_pay56 (F := Ideal) x (ix2 s n) = val_main_v53 (F := Ideal) P M gq gk (ix3 h (row s) n) := by
  pointwise [k0_pay56, val_main_v53, val_main_v52, exp_eq hx, total_eq hx]

theorem square_eq (hx : IsS P M gq gk row h x) (s : Fin 512) :
    k0_pay57 (F := Ideal) x (ix2 s 0) = val_main_v56 (F := Ideal) P M gq gk (ix3 h (row s) 0) := by
  pointwise [k0_pay57, val_main_v56, val_main_v55, val_main_v54, val_main_cst_10, total_eq hx]

end Cert.Kernel4Ideal.Xattn

end
-- ==== Proof.Xattn.Grad.lean ====
module

public import proofs.«01_k».proof.Proof.Xattn.Head

@[expose] public section

/-! # The memory attention's backward pass: the gradients of one head of one row tile -/

set_option maxRecDepth 16384

noncomputable section

open Idealize.ShloMosaic Idealize.ShloMosaic.TcCoe Idealize.SL.Sem

namespace Cert.Kernel4Ideal.Xattn

open Cert.Kernel4Ideal Cert.Kernel4Ideal.Gen
open Cert.Reference4Ideal.Read

variable {P : FVec Ideal S2048x12544 .f32} {M : FVec Ideal S256x1024 .f32} {gq gk : FVec Ideal S1x128 .f32}
  {D : FVec Ideal S2048x512 .f32} {row : Fin 512 → Fin 2048} {h : Fin 4}
  {q g y : FVec Ideal S512x128 .f32} {k v : FVec Ideal S256x128 .f32} {x : FVec Ideal S512x256 .f32}

/-! ## The gate -/

theorem sigmoid_eq (hg : IsG P row h g) (s : Fin 512) (d : Fin 128) :
    k0_pay70 (F := Ideal) g (ix2 s d) = val_main_v65 (F := Ideal) P (ix2 (row s) (col h d)) := by
  pointwise [k0_pay70, Ideal.logistic, val_main_v65, val_main_v64, val_main_v63, val_main_v62, val_main_v61, val_main_v60,
    val_main_cst_11, val_main_cst_12, hg]

theorem sigmoid_slope_eq (hg : IsG P row h g) (s : Fin 512) (d : Fin 128) :
    k0_pay71 (F := Ideal) g (ix2 s d) = val_main_v68 (F := Ideal) P (ix2 (row s) (col h d)) := by
  pointwise [k0_pay71, val_main_v68, val_main_v67, val_main_v66, val_main_cst_13, sigmoid_eq hg]

theorem gate_eq (hg : IsG P row h g) (s : Fin 512) (d : Fin 128) :
    k0_pay72 (F := Ideal) g (ix2 s d) = val_main_v69 (F := Ideal) P (ix2 (row s) (col h d)) := by
  pointwise [k0_pay72, val_main_v69, hg, sigmoid_eq hg]

theorem gated_eq (hg : IsG P row h g) (hy : IsD D row h y) (s : Fin 512) (d : Fin 128) :
    k0_pay95 (F := Ideal) (k0_pay72 g) y (ix2 s d) = val_main_v72 (F := Ideal) P D (ix2 (row s) (col h d)) := by
  pointwise [k0_pay95, val_main_v72, gate_eq hg, hy]

/-- The reference's rows split into heads: head `h`, lane `d` is column `128 h + d`. -/
theorem heads_eq (r : Fin 2048) (d : Fin 128) :
    val_main_v77 (F := Ideal) P D (ix3 r h d) = val_main_v72 (F := Ideal) P D (ix2 r (col h d)) := by
  rw [val_main_v77_apply]
  refine congrArg _ ?_
  blk_ext [col]

theorem joined_eq (r : Fin 2048) (d : Fin 128) :
    val_main_v59 (F := Ideal) P M gq gk (ix2 r (col h d)) = val_main_v58 (F := Ideal) P M gq gk (ix3 r h d) := by
  rw [val_main_v59_apply]
  refine congrArg _ ?_
  blk_ext [col]

theorem out_joined_eq (r : Fin 2048) (d : Fin 128) :
    val_main_v117 (F := Ideal) P M gq gk D (ix2 r (col h d)) = val_main_v116 (F := Ideal) P M gq gk D (ix3 r h d) := by
  rw [val_main_v117_apply]
  refine congrArg _ ?_
  blk_ext [col]

/-! ## The gradient of the gate's argument -/

theorem mixed_eq (hv : IsV M h v) (hx : IsS P M gq gk row h x) (s : Fin 512) (d : Fin 128) :
    k0_pay69 (F := Ideal) v (k0_pay56 x) (ix2 s d) = val_main_v59 (F := Ideal) P M gq gk (ix2 (row s) (col h d)) := by
  rw [joined_eq]
  pointwise [k0_pay69, val_main_v58, val_main_v57, weight_eq hx, hv]
  refine Finset.sum_congr rfl fun n _ => mul_comm _ _

theorem grad_gate_eq (hv : IsV M h v) (hx : IsS P M gq gk row h x) (hg : IsG P row h g) (hy : IsD D row h y) (s : Fin 512)
    (d : Fin 128) :
    k0_pay96 (F := Ideal) g (k0_pay69 v (k0_pay56 x)) (k0_pay70 g) (k0_pay71 g) y (ix2 s d)
      = val_main_v76 (F := Ideal) P M gq gk D (ix2 (row s) (col h d)) := by
  pointwise [k0_pay96, val_main_v76, val_main_v75, val_main_v74, val_main_v73, val_main_v71, mixed_eq hv hx, sigmoid_eq hg,
    sigmoid_slope_eq hg, hg, hy]

/-! ## The gradient of the queries -/

theorem grad_weight_eq (hv : IsV M h v) (hg : IsG P row h g) (hy : IsD D row h y) (s : Fin 512) (n : Fin 256) :
    k0_pay97 (F := Ideal) v (k0_pay72 g) y (ix2 s n) = val_main_v79 (F := Ideal) P M D (ix3 h (row s) n) := by
  pointwise [k0_pay97, val_main_v79, val_main_v78, heads_eq, gated_eq hg hy, hv]

/-- Any block of gradients of the weights that is the reference's. -/
abbrev IsW (P : FVec Ideal S2048x12544 .f32) (M : FVec Ideal S256x1024 .f32) (D : FVec Ideal S2048x512 .f32)
    (row : Fin 512 → Fin 2048) (h : Fin 4) (w : FVec Ideal S512x256 .f32) : Prop :=
  ∀ (s : Fin 512) (n : Fin 256), w (ix2 s n) = val_main_v79 (F := Ideal) P M D (ix3 h (row s) n)

theorem grad_score_eq {w : FVec Ideal S512x256 .f32} (hx : IsS P M gq gk row h x) (hw : IsW P M D row h w) (s : Fin 512)
    (n : Fin 256) :
    k0_pay103 (F := Ideal) (k0_pay51 x) (k0_pay55 x) (k0_pay57 x) w (ix2 s n)
      = val_main_v91 (F := Ideal) P M gq gk D (ix3 h (row s) n) := by
  pointwise [k0_pay103, val_main_v91, val_main_v90, val_main_v89, val_main_v88, val_main_v87, val_main_v86, val_main_v85, val_main_v84,
    val_main_v83, val_main_v82, val_main_v81, val_main_v80, val_main_cst_14, val_main_cst_15, exp_eq hx, total_eq hx, square_eq hx, hw,
    zero_sub]

/-- Any block of gradients of the scores, before the scale, that is the reference's. -/
abbrev IsZ (P : FVec Ideal S2048x12544 .f32) (M : FVec Ideal S256x1024 .f32) (gq gk : FVec Ideal S1x128 .f32)
    (D : FVec Ideal S2048x512 .f32) (row : Fin 512 → Fin 2048) (h : Fin 4) (z : FVec Ideal S512x256 .f32) : Prop :=
  ∀ (s : Fin 512) (n : Fin 256), z (ix2 s n) = val_main_v91 (F := Ideal) P M gq gk D (ix3 h (row s) n)

theorem grad_norm_eq {z : FVec Ideal S512x256 .f32} (hk : IsK M h k) (hz : IsZ P M gq gk D row h z) (s : Fin 512) (d : Fin 128) :
    k0_pay114 (F := Ideal) (k0_pay29 k gk) z (ix2 s d) = val_main_v95 (F := Ideal) P M gq gk D (ix3 (row s) h d) := by
  pointwise [k0_pay114, k0_pay113, val_main_v95, val_main_v94, val_main_v93, val_main_v92, val_main_cst_16, norm_k hk, hz]

/-- Any block of gradients of the normalized queries that is the reference's. -/
abbrev IsN (P : FVec Ideal S2048x12544 .f32) (M : FVec Ideal S256x1024 .f32) (gq gk : FVec Ideal S1x128 .f32)
    (D : FVec Ideal S2048x512 .f32) (row : Fin 512 → Fin 2048) (h : Fin 4) (n : FVec Ideal S512x128 .f32) : Prop :=
  ∀ (s : Fin 512) (d : Fin 128), n (ix2 s d) = val_main_v95 (F := Ideal) P M gq gk D (ix3 (row s) h d)

theorem grad_q_eq {n : FVec Ideal S512x128 .f32} (hq : IsQ P row h q) (hn : IsN P M gq gk D row h n) (s : Fin 512) (d : Fin 128) :
    k0_pay134 (F := Ideal) q gq (k0_pay5 q) (k0_pay6 q) n (ix2 s d)
      = val_main_v117 (F := Ideal) P M gq gk D (ix2 (row s) (col h d)) := by
  rw [out_joined_eq]
  pointwise [k0_pay134, val_main_v116, val_main_v115, val_main_v114, val_main_v113, val_main_v112, val_main_v111, val_main_v110,
    val_main_v109, val_main_v108, val_main_v107, val_main_v106, val_main_v105, val_main_v104, val_main_v103, val_main_v100,
    val_main_v99, val_main_v19, val_main_cst_19, val_main_cst_20, val_main_cst_21, root_q hq, slope_q hq, hn, hq, Fin.sum_univ_one]

/-- A head's term of the gradient of the queries' gain. -/
theorem grad_gain_eq {n : FVec Ideal S512x128 .f32} (hq : IsQ P row h q) (hn : IsN P M gq gk D row h n) (s : Fin 512)
    (d : Fin 128) :
    k0_pay7 (F := Ideal) q (ix2 s d) * n (ix2 s d) = val_main_v96 (F := Ideal) P M gq gk D (ix3 (row s) h d) := by
  pointwise [val_main_v96, unit_q hq, hn]

/-! ## A head's gradients as the kernel composes them -/

/-- The gradient of a head's normalized queries. -/
def backNorm (q g y : FVec Ideal S512x128 .f32) (k v : FVec Ideal S256x128 .f32) (gq gk : FVec Ideal S1x128 .f32) :
    FVec Ideal S512x128 .f32 :=
  k0_pay114 (F := Ideal) (k0_pay29 k gk) (k0_pay103 (k0_pay51 (score q k gq gk)) (k0_pay55 (score q k gq gk))
    (k0_pay57 (score q k gq gk)) (k0_pay97 v (k0_pay72 g) y))

/-- The gradient of a head's queries. -/
def backQ (q g y : FVec Ideal S512x128 .f32) (k v : FVec Ideal S256x128 .f32) (gq gk : FVec Ideal S1x128 .f32) :
    FVec Ideal S512x128 .f32 :=
  k0_pay134 (F := Ideal) q gq (k0_pay5 q) (k0_pay6 q) (backNorm q g y k v gq gk)

/-- The gradient of a head's gate argument. -/
def backG (q g y : FVec Ideal S512x128 .f32) (k v : FVec Ideal S256x128 .f32) (gq gk : FVec Ideal S1x128 .f32) :
    FVec Ideal S512x128 .f32 :=
  k0_pay96 (F := Ideal) g (k0_pay69 v (k0_pay56 (score q k gq gk))) (k0_pay70 g) (k0_pay71 g) y

/-- The five blocks the kernel reads for head `h` of the rows `row`. -/
structure Blocks (P : FVec Ideal S2048x12544 .f32) (M : FVec Ideal S256x1024 .f32) (D : FVec Ideal S2048x512 .f32)
    (row : Fin 512 → Fin 2048) (h : Fin 4) (q g y : FVec Ideal S512x128 .f32) (k v : FVec Ideal S256x128 .f32) : Prop where
  q : IsQ P row h q
  g : IsG P row h g
  y : IsD D row h y
  k : IsK M h k
  v : IsV M h v

theorem backNorm_eq (b : Blocks P M D row h q g y k v) : IsN P M gq gk D row h (backNorm q g y k v gq gk) := fun s d =>
  grad_norm_eq b.k (grad_score_eq (score_eq b.q b.k) (grad_weight_eq b.v b.g b.y)) s d

theorem backQ_eq (b : Blocks P M D row h q g y k v) (s : Fin 512) (d : Fin 128) :
    backQ q g y k v gq gk (ix2 s d) = val_main_v117 (F := Ideal) P M gq gk D (ix2 (row s) (col h d)) :=
  grad_q_eq b.q (backNorm_eq b) s d

theorem backG_eq (b : Blocks P M D row h q g y k v) (s : Fin 512) (d : Fin 128) :
    backG q g y k v gq gk (ix2 s d) = val_main_v76 (F := Ideal) P M gq gk D (ix2 (row s) (col h d)) :=
  grad_gate_eq b.v (score_eq b.q b.k) b.g b.y s d

/-- A head's term of the gradient of the queries' gain, summed over the rows of the tile. -/
theorem backGain_eq (b : Blocks P M D row h q g y k v) (d : Fin 128) :
    ∑ s : Fin 512, k0_pay7 (F := Ideal) q (ix2 s d) * backNorm q g y k v gq gk (ix2 s d)
      = ∑ s : Fin 512, val_main_v96 (F := Ideal) P M gq gk D (ix3 (row s) h d) :=
  Finset.sum_congr rfl fun s _ => grad_gain_eq b.q (backNorm_eq b) s d

end Cert.Kernel4Ideal.Xattn

end
-- ==== Proof.Xattn.Index.lean ====
module

public import proofs.«01_k».proof.Proof.Gen.Kernel4Ideal.Frame
public import Idealize.ShloMosaic.Lib.Pipeline.ValueKit
public import Idealize.ShloMosaic.Lib.Pointwise

@[expose] public section

/-! # The memory attention's backward pass: where the blocks lie

The grid has 4 row tiles of 512 rows.  The queries are columns 5376 and on of one array and the gate's argument columns 5888
and on, hence the numbers 21 to 24 of blocks of 256 columns. -/

set_option maxRecDepth 16384

noncomputable section

open Idealize.ShloMosaic Idealize.ShloMosaic.TcCoe Idealize.SL.Sem
open Idealize.ShloMosaic.Pipeline (Dat)

namespace Cert.Kernel4Ideal.Xattn

open Cert.Kernel4Ideal Cert.Kernel4Ideal.Gen

/-- The block every window stages at a grid point. -/
theorem idx : ∀ t : Fin cfg0.N,
    win0_0.index t = ![t.val, 21] ∧ win0_1.index t = ![t.val, 22] ∧ win0_2.index t = ![t.val, 23]
    ∧ win0_3.index t = ![t.val, 24] ∧ win0_4.index t = ![0, 0] ∧ win0_5.index t = ![0, 0]
    ∧ win0_6.index t = ![0, 0] ∧ win0_7.index t = ![t.val, 0] ∧ win0_8.index t = ![t.val, 0] ∧ win0_9.index t = ![t.val, 0]
    ∧ win0_11.index t = ![0, 0] :=
  (by decide +kernel : ∀ t : Fin grid0.N, _)

end Cert.Kernel4Ideal.Xattn

end
-- ==== Proof.Xattn.Reads.lean ====
module

public import proofs.«01_k».proof.Proof.Xattn.Grad
public import proofs.«01_k».proof.Proof.Xattn.Index

@[expose] public section

/-! # The memory attention's backward pass: what the kernel reads for each head

A row tile reads the queries and the gate's argument two heads to a block, the keys and values of all heads side by side, and
the given gradient of all heads side by side. -/

set_option maxRecDepth 16384

noncomputable section

open Idealize.ShloMosaic Idealize.ShloMosaic.TcCoe Idealize.SL.Sem
open Idealize.ShloMosaic.Pipeline (Dat)

namespace Cert.Kernel4Ideal.Xattn

open Cert.Kernel4Ideal Cert.Kernel4Ideal.Gen
open Cert.Reference4Ideal.Read

variable (m : (ℓ : Loc nD τ sig) → Buf (Elt Ideal) ℓ)

/-- Row `s` of row tile `t`. -/
def row (t : Fin cfg0.N) (s : Fin 512) : Fin 2048 :=
  ⟨512 * t.val + s.val, by have := t.isLt; have : cfg0.N = 4 := N_0; omega⟩

/-- The queries, keys and so on as the arguments of the pass hold them. -/
abbrev argP (c : Dev nD) : FVec Ideal S2048x12544 .f32 := m ((c : Thread nD τ).loc main_arg0)
abbrev argM (c : Dev nD) : FVec Ideal S256x1024 .f32 := m ((c : Thread nD τ).loc main_arg1)
abbrev argQ (c : Dev nD) : FVec Ideal S1x128 .f32 := m ((c : Thread nD τ).loc main_arg2)
abbrev argK (c : Dev nD) : FVec Ideal S1x128 .f32 := m ((c : Thread nD τ).loc main_arg3)
abbrev argD (c : Dev nD) : FVec Ideal S2048x512 .f32 := m ((c : Thread nD τ).loc main_arg4)

theorem readQ0 (c : Dev nD) (t : Fin cfg0.N) (o : Fin 2) (inb) :
    IsQ (argP m c) (row t) ⟨o.val, by omega⟩ (View.ld (iblk m c 0 t) (Rect.unit (s := S512x256) ![0, 128 * o.val] ![512, 128] inb)) := by
  intro s d
  rw [val_main_v5_apply, val_main_v1_apply, val_main_v0_apply]
  blk_point [iblk, V, idx t, row]

theorem readQ1 (c : Dev nD) (t : Fin cfg0.N) (o : Fin 2) (inb) :
    IsQ (argP m c) (row t) ⟨2 + o.val, by omega⟩ (View.ld (iblk m c 1 t) (Rect.unit (s := S512x256) ![0, 128 * o.val] ![512, 128] inb)) := by
  intro s d
  rw [val_main_v5_apply, val_main_v1_apply, val_main_v0_apply]
  blk_point [iblk, V, idx t, row]

theorem readG0 (c : Dev nD) (t : Fin cfg0.N) (o : Fin 2) (inb) :
    IsG (argP m c) (row t) ⟨o.val, by omega⟩ (View.ld (iblk m c 2 t) (Rect.unit (s := S512x256) ![0, 128 * o.val] ![512, 128] inb)) := by
  intro s d
  rw [val_main_v2_apply, val_main_v0_apply]
  blk_point [iblk, V, idx t, row, col]

theorem readG1 (c : Dev nD) (t : Fin cfg0.N) (o : Fin 2) (inb) :
    IsG (argP m c) (row t) ⟨2 + o.val, by omega⟩ (View.ld (iblk m c 3 t) (Rect.unit (s := S512x256) ![0, 128 * o.val] ![512, 128] inb)) := by
  intro s d
  rw [val_main_v2_apply, val_main_v0_apply]
  blk_point [iblk, V, idx t, row, col]

theorem readK (c : Dev nD) (t : Fin cfg0.N) (h : Fin 4) (inb) :
    IsK (argM m c) h (View.ld (iblk m c 4 t) (Rect.unit (s := S256x1024) ![0, 128 * h.val] ![256, 128] inb)) := by
  intro s d
  rw [val_main_v22_apply, val_main_v3_apply]
  blk_point [iblk, V, idx t]

theorem readV (c : Dev nD) (t : Fin cfg0.N) (h : Fin 4) (inb) :
    IsV (argM m c) h (View.ld (iblk m c 4 t) (Rect.unit (s := S256x1024) ![0, 512 + 128 * h.val] ![256, 128] inb)) := by
  intro s d
  rw [val_main_v36_apply, val_main_v4_apply]
  blk_point [iblk, V, idx t]

theorem readD (c : Dev nD) (t : Fin cfg0.N) (h : Fin 4) (inb) :
    IsD (argD m c) (row t) h (View.ld (iblk m c 7 t) (Rect.unit (s := S512x512) ![0, 128 * h.val] ![512, 128] inb)) := by
  intro s d
  blk_point [iblk, V, idx t, row, col]

theorem gainQ (c : Dev nD) (t : Fin cfg0.N) : iblk m c 5 t = argQ m c := by
  funext j
  blk_point [iblk, V, idx t]

theorem gainK (c : Dev nD) (t : Fin cfg0.N) : iblk m c 6 t = argK m c := by
  funext j
  blk_point [iblk, V, idx t]

end Cert.Kernel4Ideal.Xattn

end
-- ==== Proof.Xattn.Heads.lean ====
module

public import proofs.«01_k».proof.Proof.Xattn.Grad

@[expose] public section

/-! # The memory attention's backward pass: heads 1 to 3

The kernel's text for each of heads 1 to 3 is head 0's, over other blocks and cut at other places into named values. -/

set_option maxRecDepth 16384

noncomputable section

open Idealize.ShloMosaic Idealize.ShloMosaic.TcCoe Idealize.SL.Sem

namespace Cert.Kernel4Ideal.Xattn

open Cert.Kernel4Ideal Cert.Kernel4Ideal.Gen

variable (q g y n : FVec Ideal S512x128 .f32) (k v : FVec Ideal S256x128 .f32) (gq gk : FVec Ideal S1x128 .f32)
  (x w : FVec Ideal S512x256 .f32) (r l : FVec Ideal S512x1 .f32)

theorem score0 : k0_pay46 (k0_pay8 q gq) (k0_pay29 k gk) = score q k gq gk := rfl

/-! ## Head 1 -/

theorem score1 : k0_pay47 (k0_pay13 q gq) (k0_pay34 k gk) = score q k gq gk := rfl
theorem gradScore1 : k0_pay102 (F := Ideal) (k0_pay52 x) (k0_pay58 x) (k0_pay60 x) w
    = k0_pay103 (k0_pay51 x) (k0_pay55 x) (k0_pay57 x) w := rfl
theorem gradWeight1 : k0_pay93 (F := Ideal) v (k0_pay76 g) y = k0_pay97 v (k0_pay72 g) y := rfl
theorem gradNorm1 : k0_pay111 (F := Ideal) (k0_pay34 k gk) x = k0_pay114 (k0_pay29 k gk) x := rfl
theorem gradQ1 : k0_pay132 (F := Ideal) q gq (k0_pay10 q) (k0_pay11 q) n = k0_pay134 q gq (k0_pay5 q) (k0_pay6 q) n := rfl
theorem gradG1 : k0_pay92 (F := Ideal) g (k0_pay73 v (k0_pay59 x)) (k0_pay74 g) (k0_pay75 g) y
    = k0_pay96 g (k0_pay69 v (k0_pay56 x)) (k0_pay70 g) (k0_pay71 g) y := rfl
theorem unit1 : k0_pay12 (F := Ideal) q = k0_pay7 q := rfl

/-! ## Head 2 -/

theorem score2 : k0_pay48 k gk (k0_pay18 q gq) (k0_pay35 k) (FloatOps.ofBits .f32 0x43000000#32) = score q k gq gk := rfl
theorem gradScore2 : k0_pay101 (F := Ideal) (k0_pay53 x) (k0_pay61 x) (k0_pay63 x) w
    = k0_pay103 (k0_pay51 x) (k0_pay55 x) (k0_pay57 x) w := rfl
theorem gradWeight2 : k0_pay89 (F := Ideal) v (k0_pay80 g) y = k0_pay97 v (k0_pay72 g) y := rfl
theorem gradNorm2 : k0_pay108 (F := Ideal) (k0_pay40 k gk (k0_pay35 k) (FloatOps.ofBits .f32 0x43000000#32)) x
    = k0_pay114 (k0_pay29 k gk) x := rfl
theorem gradQ2 : k0_pay131 (F := Ideal) q (k0_pay128 gq (k0_pay15 q) n) (k0_pay129 q gq (k0_pay16 q) n) k0_pay130
    = k0_pay134 q gq (k0_pay5 q) (k0_pay6 q) n := rfl
theorem gradG2 : k0_pay88 (F := Ideal) g (k0_pay77 v (k0_pay62 x)) (k0_pay78 g) (k0_pay79 g) y
    = k0_pay96 g (k0_pay69 v (k0_pay56 x)) (k0_pay70 g) (k0_pay71 g) y := rfl
theorem unit2 : k0_pay17 (F := Ideal) q = k0_pay7 q := rfl

/-! ## Head 3 -/

/-- The scores, which the kernel scales only where it uses them. -/
theorem exp3 : k0_pay54 (k0_pay49 k gk (k0_pay24 q gq (k0_pay19 q))) k0_pay50 = k0_pay51 (score q k gq gk) := rfl
theorem total3 : k0_pay64 (k0_pay49 k gk (k0_pay24 q gq (k0_pay19 q))) k0_pay50 = k0_pay55 (score q k gq gk) := rfl
theorem weight3 : k0_pay65 (k0_pay49 k gk (k0_pay24 q gq (k0_pay19 q))) k0_pay50 = k0_pay56 (score q k gq gk) := rfl
theorem square3 : k0_pay68 (k0_pay66 (k0_pay49 k gk (k0_pay24 q gq (k0_pay19 q))) k0_pay50) k0_pay67 = k0_pay57 (score q k gq gk) := rfl
theorem gradNorm3 : k0_pay105 (F := Ideal) (k0_pay45 k gk)
      (k0_pay104 x (k0_pay99 v x l (k0_pay84 g y)) (k0_pay100 v r (k0_pay84 g y)))
    = k0_pay114 (k0_pay29 k gk) (k0_pay103 x r l (k0_pay97 v (k0_pay72 g) y)) := rfl
theorem gradQ3 : k0_pay125 (F := Ideal) q gq (k0_pay21 (k0_pay19 q)) (k0_pay22 (k0_pay19 q)) n
    = k0_pay134 q gq (k0_pay5 q) (k0_pay6 q) n := rfl
theorem gradG3 : k0_pay83 (F := Ideal) g v (k0_pay56 x) y
    = k0_pay96 g (k0_pay69 v (k0_pay56 x)) (k0_pay70 g) (k0_pay71 g) y := rfl
theorem unit3 : k0_pay23 (F := Ideal) q (k0_pay19 q) = k0_pay7 q := rfl

end Cert.Kernel4Ideal.Xattn

end
-- ==== Proof.Xattn.Queries.lean ====
module

public import proofs.«01_k».proof.Proof.Xattn.Reads
public import proofs.«01_k».proof.Proof.Xattn.Heads

@[expose] public section

/-! # The memory attention's backward pass: the gradients of the queries and of the gate's argument

A row tile stores the four heads side by side.  Heads 1 to 3 are head 0's text over other blocks. -/

set_option maxRecDepth 16384

noncomputable section

open Idealize.ShloMosaic Idealize.ShloMosaic.TcCoe Idealize.SL.Sem
open Idealize.ShloMosaic.Pipeline (Dat)

namespace Cert.Kernel4Ideal.Xattn

open Cert.Kernel4Ideal Cert.Kernel4Ideal.Gen
open Cert.Reference4Ideal.Read

variable (m : (ℓ : Loc nD τ sig) → Buf (Elt Ideal) ℓ)

abbrev rQ0 (c : Dev nD) (t : Fin cfg0.N) : FVec Ideal S512x128 .f32 := View.ld (iblk m c 0 t) (Rect.unit ![0, 0] ![512, 128] inb_S512x256_S512x128_0_0)
abbrev rQ1 (c : Dev nD) (t : Fin cfg0.N) : FVec Ideal S512x128 .f32 := View.ld (iblk m c 0 t) (Rect.unit ![0, 128] ![512, 128] inb_S512x256_S512x128_0_128)
abbrev rQ2 (c : Dev nD) (t : Fin cfg0.N) : FVec Ideal S512x128 .f32 := View.ld (iblk m c 1 t) (Rect.unit ![0, 0] ![512, 128] inb_S512x256_S512x128_0_0)
abbrev rQ3 (c : Dev nD) (t : Fin cfg0.N) : FVec Ideal S512x128 .f32 := View.ld (iblk m c 1 t) (Rect.unit ![0, 128] ![512, 128] inb_S512x256_S512x128_0_128)
abbrev rG0 (c : Dev nD) (t : Fin cfg0.N) : FVec Ideal S512x128 .f32 := View.ld (iblk m c 2 t) (Rect.unit ![0, 0] ![512, 128] inb_S512x256_S512x128_0_0)
abbrev rG1 (c : Dev nD) (t : Fin cfg0.N) : FVec Ideal S512x128 .f32 := View.ld (iblk m c 2 t) (Rect.unit ![0, 128] ![512, 128] inb_S512x256_S512x128_0_128)
abbrev rG2 (c : Dev nD) (t : Fin cfg0.N) : FVec Ideal S512x128 .f32 := View.ld (iblk m c 3 t) (Rect.unit ![0, 0] ![512, 128] inb_S512x256_S512x128_0_0)
abbrev rG3 (c : Dev nD) (t : Fin cfg0.N) : FVec Ideal S512x128 .f32 := View.ld (iblk m c 3 t) (Rect.unit ![0, 128] ![512, 128] inb_S512x256_S512x128_0_128)
abbrev rK0 (c : Dev nD) (t : Fin cfg0.N) : FVec Ideal S256x128 .f32 := View.ld (iblk m c 4 t) (Rect.unit ![0, 0] ![256, 128] inb_S256x1024_S256x128_0_0)
abbrev rK1 (c : Dev nD) (t : Fin cfg0.N) : FVec Ideal S256x128 .f32 := View.ld (iblk m c 4 t) (Rect.unit ![0, 128] ![256, 128] inb_S256x1024_S256x128_0_128)
abbrev rK2 (c : Dev nD) (t : Fin cfg0.N) : FVec Ideal S256x128 .f32 := View.ld (iblk m c 4 t) (Rect.unit ![0, 256] ![256, 128] inb_S256x1024_S256x128_0_256)
abbrev rK3 (c : Dev nD) (t : Fin cfg0.N) : FVec Ideal S256x128 .f32 := View.ld (iblk m c 4 t) (Rect.unit ![0, 384] ![256, 128] inb_S256x1024_S256x128_0_384)
abbrev rV0 (c : Dev nD) (t : Fin cfg0.N) : FVec Ideal S256x128 .f32 := View.ld (iblk m c 4 t) (Rect.unit ![0, 512] ![256, 128] inb_S256x1024_S256x128_0_512)
abbrev rV1 (c : Dev nD) (t : Fin cfg0.N) : FVec Ideal S256x128 .f32 := View.ld (iblk m c 4 t) (Rect.unit ![0, 640] ![256, 128] inb_S256x1024_S256x128_0_640)
abbrev rV2 (c : Dev nD) (t : Fin cfg0.N) : FVec Ideal S256x128 .f32 := View.ld (iblk m c 4 t) (Rect.unit ![0, 768] ![256, 128] inb_S256x1024_S256x128_0_768)
abbrev rV3 (c : Dev nD) (t : Fin cfg0.N) : FVec Ideal S256x128 .f32 := View.ld (iblk m c 4 t) (Rect.unit ![0, 896] ![256, 128] inb_S256x1024_S256x128_0_896)
abbrev rD0 (c : Dev nD) (t : Fin cfg0.N) : FVec Ideal S512x128 .f32 := View.ld (iblk m c 7 t) (Rect.unit ![0, 0] ![512, 128] inb_S512x512_S512x128_0_0)
abbrev rD1 (c : Dev nD) (t : Fin cfg0.N) : FVec Ideal S512x128 .f32 := View.ld (iblk m c 7 t) (Rect.unit ![0, 128] ![512, 128] inb_S512x512_S512x128_0_128)
abbrev rD2 (c : Dev nD) (t : Fin cfg0.N) : FVec Ideal S512x128 .f32 := View.ld (iblk m c 7 t) (Rect.unit ![0, 256] ![512, 128] inb_S512x512_S512x128_0_256)
abbrev rD3 (c : Dev nD) (t : Fin cfg0.N) : FVec Ideal S512x128 .f32 := View.ld (iblk m c 7 t) (Rect.unit ![0, 384] ![512, 128] inb_S512x512_S512x128_0_384)

theorem head0 (c : Dev nD) (t : Fin cfg0.N) : Blocks (argP m c) (argM m c) (argD m c) (row t) 0 (rQ0 m c t) (rG0 m c t) (rD0 m c t) (rK0 m c t) (rV0 m c t) :=
  ⟨readQ0 m c t 0 _, readG0 m c t 0 _, readD m c t 0 _, readK m c t 0 _, readV m c t 0 _⟩
theorem head1 (c : Dev nD) (t : Fin cfg0.N) : Blocks (argP m c) (argM m c) (argD m c) (row t) 1 (rQ1 m c t) (rG1 m c t) (rD1 m c t) (rK1 m c t) (rV1 m c t) :=
  ⟨readQ0 m c t 1 _, readG0 m c t 1 _, readD m c t 1 _, readK m c t 1 _, readV m c t 1 _⟩
theorem head2 (c : Dev nD) (t : Fin cfg0.N) : Blocks (argP m c) (argM m c) (argD m c) (row t) 2 (rQ2 m c t) (rG2 m c t) (rD2 m c t) (rK2 m c t) (rV2 m c t) :=
  ⟨readQ1 m c t 0 _, readG1 m c t 0 _, readD m c t 2 _, readK m c t 2 _, readV m c t 2 _⟩
theorem head3 (c : Dev nD) (t : Fin cfg0.N) : Blocks (argP m c) (argM m c) (argD m c) (row t) 3 (rQ3 m c t) (rG3 m c t) (rD3 m c t) (rK3 m c t) (rV3 m c t) :=
  ⟨readQ1 m c t 1 _, readG1 m c t 1 _, readD m c t 3 _, readK m c t 3 _, readV m c t 3 _⟩

/-- The cut the kernel stores at a head's columns is the reference's there. -/
theorem placeQ (c : Dev nD) (t : Fin cfg0.N) (h : Fin 4) {q g y : FVec Ideal S512x128 .f32} {k v : FVec Ideal S256x128 .f32}
    (b : Blocks (argP m c) (argM m c) (argD m c) (row t) h q g y k v) (x : S512x128.Idx) (i : S2048x512.Idx)
    (e : ix2 (row t (x 0)) (col h (x 1)) = i) :
    k0_pay134 (F := Ideal) q (argQ m c) (k0_pay5 q) (k0_pay6 q) (k0_pay114 (k0_pay29 k (argK m c))
      (k0_pay103 (k0_pay51 (score q k (argQ m c) (argK m c))) (k0_pay55 (score q k (argQ m c) (argK m c)))
        (k0_pay57 (score q k (argQ m c) (argK m c))) (k0_pay97 v (k0_pay72 g) y))) x
      = val_main_v117 (F := Ideal) (argP m c) (argM m c) (argQ m c) (argK m c) (argD m c) i := by
  obtain ⟨s, d, rfl⟩ : ∃ (s : Fin 512) (d : Fin 128), x = ix2 s d := ⟨x 0, x 1, by blk_ext⟩
  exact (backQ_eq b s d).trans (congrArg _ e)

theorem placeG (c : Dev nD) (t : Fin cfg0.N) (h : Fin 4) {q g y : FVec Ideal S512x128 .f32} {k v : FVec Ideal S256x128 .f32}
    (b : Blocks (argP m c) (argM m c) (argD m c) (row t) h q g y k v) (x : S512x128.Idx) (i : S2048x512.Idx)
    (e : ix2 (row t (x 0)) (col h (x 1)) = i) :
    k0_pay96 (F := Ideal) g (k0_pay69 v (k0_pay56 (score q k (argQ m c) (argK m c)))) (k0_pay70 g) (k0_pay71 g) y x
      = val_main_v76 (F := Ideal) (argP m c) (argM m c) (argQ m c) (argK m c) (argD m c) i := by
  obtain ⟨s, d, rfl⟩ : ∃ (s : Fin 512) (d : Fin 128), x = ix2 s d := ⟨x 0, x 1, by blk_ext⟩
  exact (backG_eq b s d).trans (congrArg _ e)

/-- The gradient of the queries, the whole array. -/
theorem final8 (c : Dev nD) : (dats m 0 c).arrAt 8 (cfgs 0).N
    = val_main_v117 (F := Ideal) (argP m c) (argM m c) (argQ m c) (argK m c) (argD m c) := by
  refine (dats m 0 c).arrAt_eq_of_covers 8 _ (by decide +kernel) fun t hf y => ?_
  have at_ : ∀ (h : Fin 4) (s : Fin 512) (d : Fin 128), (y 0).val = s.val → (y 1).val = 128 * h.val + d.val →
      ix2 (row t s) (col h d) = ((cfg0.win 8).blk t).view.emb y := by
    intro h s d e0 e1
    blk_ext [idx t, row, col, e0, e1]
  blk_simp
  rw [after0_8]
  rcases Decidable.em (t.val % 4 = 0) with hA | hB
  · rw [outsAt0_A m c t hA]
    frame_out
    rw [gainQ, gainK]
    canon_tiles x h
    · simp only [exp3, total3, square3, gradNorm3, gradQ3]
      exact placeQ m c t 3 (head3 m c t) x _ (at_ 3 (x 0) (x 1) h0 h1)
    · simp only [score2, gradScore2, gradWeight2, gradNorm2, gradQ2]
      exact placeQ m c t 2 (head2 m c t) x _ (at_ 2 (x 0) (x 1) h0 h1)
    · simp only [score1, gradScore1, gradWeight1, gradNorm1, gradQ1]
      exact placeQ m c t 1 (head1 m c t) x _ (at_ 1 (x 0) (x 1) h0 h1)
    · simp only [score0]
      exact placeQ m c t 0 (head0 m c t) x _ (at_ 0 (x 0) (x 1) h0 (h1.trans (Nat.zero_add _).symm))
  · rw [outsAt0_B m c t hB]
    frame_out
    rw [gainQ, gainK]
    canon_tiles x h
    · simp only [exp3, total3, square3, gradNorm3, gradQ3]
      exact placeQ m c t 3 (head3 m c t) x _ (at_ 3 (x 0) (x 1) h0 h1)
    · simp only [score2, gradScore2, gradWeight2, gradNorm2, gradQ2]
      exact placeQ m c t 2 (head2 m c t) x _ (at_ 2 (x 0) (x 1) h0 h1)
    · simp only [score1, gradScore1, gradWeight1, gradNorm1, gradQ1]
      exact placeQ m c t 1 (head1 m c t) x _ (at_ 1 (x 0) (x 1) h0 h1)
    · simp only [score0]
      exact placeQ m c t 0 (head0 m c t) x _ (at_ 0 (x 0) (x 1) h0 (h1.trans (Nat.zero_add _).symm))

/-- The gradient of the gate's argument, the whole array. -/
theorem final9 (c : Dev nD) : (dats m 0 c).arrAt 9 (cfgs 0).N
    = val_main_v76 (F := Ideal) (argP m c) (argM m c) (argQ m c) (argK m c) (argD m c) := by
  refine (dats m 0 c).arrAt_eq_of_covers 9 _ (by decide +kernel) fun t hf y => ?_
  have at_ : ∀ (h : Fin 4) (s : Fin 512) (d : Fin 128), (y 0).val = s.val → (y 1).val = 128 * h.val + d.val →
      ix2 (row t s) (col h d) = ((cfg0.win 9).blk t).view.emb y := by
    intro h s d e0 e1
    blk_ext [idx t, row, col, e0, e1]
  blk_simp
  rw [after0_9]
  rcases Decidable.em (t.val % 4 = 0) with hA | hB
  · rw [outsAt0_A m c t hA]
    frame_out
    rw [gainQ, gainK]
    canon_tiles x h
    · simp only [weight3, gradG3]
      exact placeG m c t 3 (head3 m c t) x _ (at_ 3 (x 0) (x 1) h0 h1)
    · simp only [score2, gradG2]
      exact placeG m c t 2 (head2 m c t) x _ (at_ 2 (x 0) (x 1) h0 h1)
    · simp only [score1, gradG1]
      exact placeG m c t 1 (head1 m c t) x _ (at_ 1 (x 0) (x 1) h0 h1)
    · simp only [score0]
      exact placeG m c t 0 (head0 m c t) x _ (at_ 0 (x 0) (x 1) h0 (h1.trans (Nat.zero_add _).symm))
  · rw [outsAt0_B m c t hB]
    frame_out
    rw [gainQ, gainK]
    canon_tiles x h
    · simp only [weight3, gradG3]
      exact placeG m c t 3 (head3 m c t) x _ (at_ 3 (x 0) (x 1) h0 h1)
    · simp only [score2, gradG2]
      exact placeG m c t 2 (head2 m c t) x _ (at_ 2 (x 0) (x 1) h0 h1)
    · simp only [score1, gradG1]
      exact placeG m c t 1 (head1 m c t) x _ (at_ 1 (x 0) (x 1) h0 h1)
    · simp only [score0]
      exact placeG m c t 0 (head0 m c t) x _ (at_ 0 (x 0) (x 1) h0 (h1.trans (Nat.zero_add _).symm))

end Cert.Kernel4Ideal.Xattn

end
-- ==== Proof.Xattn.Gain.lean ====
module

public import proofs.«01_k».proof.Proof.Xattn.Queries

@[expose] public section

/-! # The memory attention's backward pass: the gradient of the queries' gain

One row vector is accumulated over the four row tiles; each tile adds the four heads' parts to it. -/

set_option maxRecDepth 16384

noncomputable section

open Idealize.ShloMosaic Idealize.ShloMosaic.TcCoe Idealize.SL.Sem
open Idealize.ShloMosaic.Pipeline (Dat)

namespace Cert.Kernel4Ideal.Xattn

open Cert.Kernel4Ideal Cert.Kernel4Ideal.Gen
open Cert.Reference4Ideal.Read

variable (m : (ℓ : Loc nD τ sig) → Buf (Elt Ideal) ℓ)

/-- The sum over the two leading axes of an array of three. -/
theorem sum_leading {n0 n1 n2 : ℕ} (h : (⟨3, ![n0, n1, n2]⟩ : Shape).ReducesTo [0, 1] ⟨1, ![n2]⟩)
    (x : (⟨3, ![n0, n1, n2]⟩ : Shape).Idx → EReal) (d : Fin n2) :
    Ideal.hostReduceAdd h x 0 (ix1 d) = ∑ a : Fin n0, ∑ b : Fin n1, x (ix3 a b d) := by
  rw [← Fintype.sum_prod_type (f := fun k : Fin n0 × Fin n1 => x (ix3 k.1 k.2 d))]
  refine (zero_add _).trans (Finset.sum_filter_eq_sum_of_fiber _ (fun k : Fin n0 × Fin n1 => ix3 k.1 k.2 d)
    (fun _ _ e => Prod.ext (congrFun e 0) (congrFun e 1)) (fun i => ⟨fun e => ⟨(i 0, i 1), ?_⟩, ?_⟩) x)
  · funext c
    match c with
    | ⟨0, _⟩ => rfl
    | ⟨1, _⟩ => rfl
    | ⟨2, _⟩ => exact Fin.ext (congrArg Fin.val (congrFun e 0)).symm
  · rintro ⟨k, rfl⟩
    funext c
    match c with
    | ⟨0, _⟩ => exact Fin.ext rfl

/-- The reference's gradient of the gain: the sum over all rows and heads. -/
theorem gain_ref (P : FVec Ideal S2048x12544 .f32) (M : FVec Ideal S256x1024 .f32) (gq gk : FVec Ideal S1x128 .f32)
    (D : FVec Ideal S2048x512 .f32) (d : Fin 128) :
    val_main_v102 (F := Ideal) P M gq gk D (ix2 0 d)
      = ∑ r : Fin 2048, ∑ h : Fin 4, val_main_v96 (F := Ideal) P M gq gk D (ix3 r h d) := by
  have e102 : idx_main_v102 (ix2 0 d) = ix1 d := by blk_ext
  have e98 : idx_main_v98 (ix3 0 0 d) = ix1 d := by blk_ext
  have h101 : val_main_v101 (F := Ideal) P M gq gk D (ix1 d)
      = ∑ a : Fin 1, ∑ b : Fin 1, val_main_v98 (F := Ideal) P M gq gk D (ix3 a b d) := by
    unfold val_main_v101
    generalize val_main_v98 (F := Ideal) P M gq gk D = x
    pointwise [val_main_cst_18]
    exact sum_leading _ x d
  have h97 : val_main_v97 (F := Ideal) P M gq gk D (ix1 d)
      = ∑ r : Fin 2048, ∑ h : Fin 4, val_main_v96 (F := Ideal) P M gq gk D (ix3 r h d) := by
    unfold val_main_v97
    generalize val_main_v96 (F := Ideal) P M gq gk D = x
    pointwise [val_main_cst_17]
    exact sum_leading _ x d
  rw [val_main_v102_apply, e102, h101, Fin.sum_univ_one, Fin.sum_univ_one, val_main_v98_apply]
  exact (congrArg _ e98).trans h97

/-- One head's part of a tile's term. -/
def part (u n : FVec Ideal S512x128 .f32) (j : S1x128.Idx) : EReal := ∑ s : Fin 512, u (ix2 s (j 1)) * n (ix2 s (j 1))

/-- A tile adds the four heads' parts to the row. -/
theorem tile_add (u0 u1 u2 u3 n0 n1 n2 n3 : FVec Ideal S512x128 .f32) (acc : FVec Ideal S1x128 .f32) (j : S1x128.Idx) :
    k0_pay143 (k0_pay133 u0 u1 n1 n0 (k0_pay126 u2 u3 n3 n2)) acc j
      = acc j + (part u3 n3 j + part u2 n2 j + part u1 n1 j + part u0 n0 j) := by
  obtain ⟨k, rfl⟩ : ∃ k : Fin 128, j = ix2 0 k := ⟨j 1, by blk_ext⟩
  pointwise [k0_pay143, k0_pay133, k0_pay126, part]

/-- The zero row that opens the sum. -/
theorem zero_row (j : S1x128.Idx) : k0_pay2 (F := Ideal) j = 0 := by pointwise [k0_pay2]

/-- What row tile `t` adds to the row. -/
def tile (c : Dev nD) (t : Fin cfg0.N) (j : S1x128.Idx) : EReal :=
  part (k0_pay7 (rQ3 m c t)) (backNorm (rQ3 m c t) (rG3 m c t) (rD3 m c t) (rK3 m c t) (rV3 m c t) (argQ m c) (argK m c)) j
    + part (k0_pay7 (rQ2 m c t)) (backNorm (rQ2 m c t) (rG2 m c t) (rD2 m c t) (rK2 m c t) (rV2 m c t) (argQ m c) (argK m c)) j
    + part (k0_pay7 (rQ1 m c t)) (backNorm (rQ1 m c t) (rG1 m c t) (rD1 m c t) (rK1 m c t) (rV1 m c t) (argQ m c) (argK m c)) j
    + part (k0_pay7 (rQ0 m c t)) (backNorm (rQ0 m c t) (rG0 m c t) (rD0 m c t) (rK0 m c t) (rV0 m c t) (argQ m c) (argK m c)) j

/-- The row after the last point: every row tile's term. -/
theorem total (c : Dev nD) (t : Fin cfg0.N) (ht : t.val + 1 = cfg0.N) (j : S1x128.Idx) :
    (outsAt0 m c t.val t.isLt).2.2.2.1 j = 0 + ∑ p : Fin cfg0.N, tile m c p j :=
  Pipeline.eq_sum_fin_of_reset_step_apply_last (fun n h => (outsAt0 m c n h).2.2.2.1) 4 (fun _ => 0) (tile m c)
    (fun t h j => by
      rw [outsAt0_A m c t h]
      frame_out
      rw [gainQ, gainK]
      simp only [score0, exp3, total3, square3, gradNorm3, unit3, score2, gradScore2, gradWeight2, gradNorm2, unit2, score1,
        gradScore1, gradWeight1, gradNorm1, unit1]
      rw [tile_add, zero_row]
      rfl)
    (fun t h j => by
      rw [outsAt0_B m c t h]
      frame_out
      rw [gainQ, gainK]
      simp only [score0, exp3, total3, square3, gradNorm3, unit3, score2, gradScore2, gradWeight2, gradNorm2, unit2, score1,
        gradScore1, gradWeight1, gradNorm1, unit1]
      rw [tile_add]
      rfl)
    N_0.le t ht j

/-- A tile's term, over the reference's gradients. -/
theorem tile_eq (c : Dev nD) (t : Fin cfg0.N) (d : Fin 128) :
    tile m c t (ix2 0 d) = ∑ s : Fin 512, ∑ h : Fin 4,
      val_main_v96 (F := Ideal) (argP m c) (argM m c) (argQ m c) (argK m c) (argD m c) (ix3 (row t s) h d) := by
  have e : tile m c t (ix2 0 d) = _ + _ + _ + _ := congrArg₂ (· + ·) (congrArg₂ (· + ·) (congrArg₂ (· + ·)
    (backGain_eq (head3 m c t) d) (backGain_eq (head2 m c t) d)) (backGain_eq (head1 m c t) d)) (backGain_eq (head0 m c t) d)
  rw [e, ← Finset.sum_add_distrib, ← Finset.sum_add_distrib, ← Finset.sum_add_distrib]
  refine Finset.sum_congr rfl fun s _ => ?_
  rw [Fin.sum_univ_four]
  ac_rfl

/-- The gradient of the queries' gain. -/
theorem final11 (c : Dev nD) : (dats m 0 c).arrAt 11 (cfgs 0).N
    = val_main_v102 (F := Ideal) (argP m c) (argM m c) (argQ m c) (argK m c) (argD m c) := by
  refine (dats m 0 c).arrAt_eq_of_covers 11 _ (by decide +kernel) fun t hf y => ?_
  have ht : t.val + 1 = cfg0.N := by
    have h := (flush0_11 t).mp hf
    have hN : cfg0.N = 4 := N_0
    have := t.isLt
    omega
  blk_simp
  obtain ⟨d, rfl⟩ : ∃ d : Fin 128, y = ix2 0 d := ⟨y 1, by blk_ext⟩
  rw [after0_11, total m c t ht, zero_add, Finset.sum_congr rfl fun p _ => tile_eq m c p d]
  refine Eq.trans ?_ ((gain_ref _ _ _ _ _ d).symm.trans (congrArg _ (by blk_ext [idx t])))
  refine Fin.sum_mul_add_congr fun s k hl => ?_
  have e : row s k = ⟨s.val * 512 + k.val, hl⟩ := Fin.ext (congrArg (· + k.val) (Nat.mul_comm 512 s.val))
  rw [e]

end Cert.Kernel4Ideal.Xattn

end
-- ==== Proof.Xattn.Claims.lean ====
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import proofs.«01_k».proof.Proof.Xattn.Gain
public import proofs.«01_k».proof.Proof.Gen.Kernel4Ideal.Value
public import proofs.«01_k».proof.Proof.Gen.Reference4Ideal.Read
public import Idealize.ShloMosaic.Lib.Quiescent

@[expose] public section

/-! # The memory attention's backward pass: its claims -/

set_option maxRecDepth 16384

noncomputable section

namespace Cert.Xattn

open Idealize.ShloMosaic Idealize.ShloMosaic.TcCoe Idealize.SL.Sem

/-- The kernel runs to completion, keeps its arguments and leaves every semaphore at zero. -/
theorem kernel_frame : Cert.quiescent_Kernel4 := fun m g _ => Cert.Kernel4.Gen.frame m g

/-- The same over the extended reals. -/
theorem ideal_frame : Cert.quiescent_Kernel4Ideal := fun m g _ => Cert.Kernel4Ideal.Gen.frame m g

/-- The same for the reference. -/
theorem reference_frame : Cert.quiescent_Reference4Ideal := fun m g _ =>
  (θ_run Cert.Reference4Ideal.defs _ _).mono
    (fun r h => ⟨fun c => (h c).2.2.2, sem_eq_zero_of_no_sems (by decide) r.2⟩)
    (Cert.Reference4Ideal.Value.run (F := Ideal) m g)

open Cert.Reference4Ideal (main_arg0 main_arg1 main_arg2 main_arg3 main_arg4) in
open Cert.Reference4Ideal.Read in
/-- Over the extended reals kernel and reference have the same three results: the gradients of the queries, of the gate's argument
    and of the queries' gain. -/
theorem algebraic : Cert.algebraic_Kernel4Ideal_Reference4Ideal := by
  intro m g m' g' _ hag
  refine ⟨_, _, _, (θ_run Cert.Kernel4Ideal.defs _ _).mono
      (fun r h c => ⟨(h c).1, (h c).2.1, (h c).2.2.2.1, (h c).2.2.2.2.2⟩) (Cert.Kernel4Ideal.Value.run_blocks m g),
    (θ_run Cert.Reference4Ideal.defs _ _).mono (fun r h c => ?_) (Cert.Reference4Ideal.Value.run m' g')⟩
  obtain ⟨h0, h1, h2, hargs⟩ := h c
  obtain ⟨e0, e1, e2, e3, e4⟩ := hag c
  replace h0 := h0.trans (val_main_v117_eq (StableHlo.launchContents m' c))
  change _ = val_main_v117 (m' (c.tc.loc main_arg0)) (m' (c.tc.loc main_arg1)) (m' (c.tc.loc main_arg2)) (m' (c.tc.loc main_arg3))
    (m' (c.tc.loc main_arg4)) at h0
  rw [e0, e1, e2, e3, e4] at h0
  replace h1 := h1.trans (val_main_v76_eq (StableHlo.launchContents m' c))
  change _ = val_main_v76 (m' (c.tc.loc main_arg0)) (m' (c.tc.loc main_arg1)) (m' (c.tc.loc main_arg2)) (m' (c.tc.loc main_arg3))
    (m' (c.tc.loc main_arg4)) at h1
  rw [e0, e1, e2, e3, e4] at h1
  replace h2 := h2.trans (val_main_v102_eq (StableHlo.launchContents m' c))
  change _ = val_main_v102 (m' (c.tc.loc main_arg0)) (m' (c.tc.loc main_arg1)) (m' (c.tc.loc main_arg2)) (m' (c.tc.loc main_arg3))
    (m' (c.tc.loc main_arg4)) at h2
  rw [e0, e1, e2, e3, e4] at h2
  exact ⟨h0.trans (Cert.Kernel4Ideal.Xattn.final8 m c).symm, h1.trans (Cert.Kernel4Ideal.Xattn.final9 m c).symm,
    h2.trans (Cert.Kernel4Ideal.Xattn.final11 m c).symm, hargs⟩

end Cert.Xattn

end
-- ==== Proof.ProjFwd.Run.lean ====
module

public import proofs.«01_k».proof.Proof.Gen.Kernel5Ideal.Frame
public import proofs.«01_k».proof.Proof.Gen.Kernel5Ideal.Skeleton
public import Idealize.ShloMosaic.Lib.Claim
public import Idealize.ShloMosaic.Lib.VecWindow
public import Idealize.ShloMosaic.Lib.Pipeline.ValueKit

@[expose] public section

/-! # The input projection: one grid point

The first point of a row tile normalises the tile's rows, keeps them in a scratch buffer and writes them out; every point
multiplies the scratch by one block of the weight's columns. -/

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel5Ideal.ProjFwd

open Cert.Kernel5Ideal Cert.Kernel5Ideal.Gen

variable {F : FTy → Type} [FloatOps F]

/-- The propositions about the machine's state. -/
abbrev State (F : FTy → Type) [FloatOps F] := sProp (MT nD τ sig Unit (Elt F) ℕ (UR sig nD τ) ℕ)

/-- The condition under which a point normalises its row tile. -/
abbrev First (i : grid0.Coords) : Prop := k0_cond1 i = 1#1

/-- It holds at the first of every fourteen points. -/
theorem first_iff : ∀ t : Fin cfg0.N, First (grid0.coords t) ↔ t.val % 14 = 0 :=
  (fun t => by
    have ht : t.val < 28 := Nat.lt_of_lt_of_eq t.isLt N_0
    have e0 : (grid0.coords t 0).val = t.val / 14 % 2 := Pipeline.Grid.coords_val t 0 (by decide) rfl
    have e1 : (grid0.coords t 1).val = t.val / 1 % 14 := Pipeline.Grid.coords_val t 1 (by decide) rfl
    simp only [First, k0_cond1, e0, e1]
    word_cmp
   : ∀ t : Fin grid0.N, First (grid0.coords t) ↔ t.val % 14 = 0)

set_option maxHeartbeats 1000000 in
/-- The first point of a row tile: whatever scratch and outputs hold before, afterwards the scratch and the second output
hold the normalised rows and the first output their product with the block of columns. -/
theorem run_first (c : Dev nD) (i : grid0.Coords)
    (arg2 : Memref sig .tc .vmem S1024x2048 .f32) (harg2 : arg2.IsWhole) (arg3 : Memref sig .tc .vmem S1x2048 .f32) (harg3 : arg3.IsWhole)
    (arg4 : Memref sig .tc .vmem S2048x896 .bf16) (harg4 : arg4.IsWhole) (arg5 : Memref sig .tc .vmem S1024x896 .f32) (harg5 : arg5.IsWhole)
    (arg6 : Memref sig .tc .vmem S1024x2048 .bf16) (harg6 : arg6.IsWhole) (arg7 : Memref sig .tc .vmem S1024x2048 .bf16) (harg7 : arg7.IsWhole)
    (h : First i) (x : Vec F S1024x2048 .f32) (g : Vec F S1x2048 .f32) (w : Vec F S2048x896 .bf16)
    (E : Set ℕ) (K : PUnit → State F) :
    iprop(owns (c : Thread nD τ) arg2 fullShare x ∗ owns (c : Thread nD τ) arg3 fullShare g ∗ owns (c : Thread nD τ) arg4 fullShare w
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x ∗ owns (c : Thread nD τ) arg3 fullShare g ∗ owns (c : Thread nD τ) arg4 fullShare w
            ∗ owns (c : Thread nD τ) arg5 fullShare (k0_pay3 (k0_pay2 x g) w) ∗ owns (c : Thread nD τ) arg6 fullShare (k0_pay1 x g)
            ∗ owns (c : Thread nD τ) arg7 fullShare (k0_pay2 x g)) -∗ K ⟨⟩))
      ⊢ wp frame (wpE (defs₀ (F := F)) Variants.none c none) E (cc0_proj_fwd i arg2 harg2 arg3 harg3 arg4 harg4 arg5 harg5 arg6 harg6 arg7 harg7) K := by
  simp only [cc0_proj_fwd_eq_skeleton]; unfold cc0_proj_fwd_skel
  unfold owns
  iintro ⟨⟨%f0, %hf0, H0⟩, ⟨%f1, %hf1, H1⟩, ⟨%f2, %hf2, H2⟩, ⟨%d3, %f3, -, H3⟩, ⟨%d4, %f4, -, H4⟩, ⟨%ds, %fs, -, HS⟩, Hk⟩
  obtain rfl := harg2.eq_unread hf0; obtain rfl := harg3.eq_unread hf1; obtain rfl := harg4.eq_unread hf2
  sl_exec (disch := first | sl_exact h)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    unfold run_first.sl.v3 run_first.sl.HS_1
    rw [View.read_writes_full, View.readCov_full, View.readAt_full, View.readAt_full, View.readAt_full, hf0, hf1, hf2]
  isplitl [H4]
  · iexists _; isplitr; swap; · iexact H4
    ipureintro
    rw [View.read_writes_full, View.readAt_full, View.readAt_full, hf0, hf1]
  iexists _; isplitr; swap; · iexact HS
  ipureintro
  unfold run_first.sl.HS_1
  rw [View.read_writes_full, View.readAt_full, View.readAt_full, hf0, hf1]

set_option maxHeartbeats 1000000 in
/-- Any other point: scratch and second output keep their contents, and the first output holds the product of the scratch with
the block of columns. -/
theorem run_later (c : Dev nD) (i : grid0.Coords)
    (arg2 : Memref sig .tc .vmem S1024x2048 .f32) (harg2 : arg2.IsWhole) (arg3 : Memref sig .tc .vmem S1x2048 .f32) (harg3 : arg3.IsWhole)
    (arg4 : Memref sig .tc .vmem S2048x896 .bf16) (harg4 : arg4.IsWhole) (arg5 : Memref sig .tc .vmem S1024x896 .f32) (harg5 : arg5.IsWhole)
    (arg6 : Memref sig .tc .vmem S1024x2048 .bf16) (harg6 : arg6.IsWhole) (arg7 : Memref sig .tc .vmem S1024x2048 .bf16) (harg7 : arg7.IsWhole)
    (h : ¬First i) (x : Vec F S1024x2048 .f32) (g : Vec F S1x2048 .f32) (w : Vec F S2048x896 .bf16)
    (o s : Vec F S1024x2048 .bf16) (E : Set ℕ) (K : PUnit → State F) :
    iprop(owns (c : Thread nD τ) arg2 fullShare x ∗ owns (c : Thread nD τ) arg3 fullShare g ∗ owns (c : Thread nD τ) arg4 fullShare w
        ∗ (∃ d, owns (c : Thread nD τ) arg5 fullShare d) ∗ owns (c : Thread nD τ) arg6 fullShare o ∗ owns (c : Thread nD τ) arg7 fullShare s
        ∗ (iprop(owns (c : Thread nD τ) arg2 fullShare x ∗ owns (c : Thread nD τ) arg3 fullShare g ∗ owns (c : Thread nD τ) arg4 fullShare w
            ∗ owns (c : Thread nD τ) arg5 fullShare (k0_pay3 s w) ∗ owns (c : Thread nD τ) arg6 fullShare o
            ∗ owns (c : Thread nD τ) arg7 fullShare s) -∗ K ⟨⟩))
      ⊢ wp frame (wpE (defs₀ (F := F)) Variants.none c none) E (cc0_proj_fwd i arg2 harg2 arg3 harg3 arg4 harg4 arg5 harg5 arg6 harg6 arg7 harg7) K := by
  simp only [cc0_proj_fwd_eq_skeleton]; unfold cc0_proj_fwd_skel
  unfold owns
  iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
  obtain rfl := harg2.eq_unread hf0; obtain rfl := harg3.eq_unread hf1; obtain rfl := harg4.eq_unread hf2
  obtain rfl := harg6.eq_unread hf4; obtain rfl := harg7.eq_unread hfs
  sl_exec (disch := first | sl_exact h)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_full, View.readAt_full, View.readAt_full, hfs, hf2]
  isplitl [H4]
  · iexists _; isplitr; · ipureintro; exact harg6.read_unread _
    iexact H4
  iexists _; isplitr; · ipureintro; exact harg7.read_unread _
  iexact HS

end Cert.Kernel5Ideal.ProjFwd

end
-- ==== Proof.ProjFwd.Data.lean ====
module

public import proofs.«01_k».proof.Proof.ProjFwd.Run
public import Idealize.ShloMosaic.Lib.Pipeline.TableIdle
public import Idealize.ShloMosaic.Lib.Pointwise

@[expose] public section

/-! # The input projection: the whole grid

The grid has 2 row tiles of 1024 rows by 14 tiles of 896 columns of the weight; point `t` is row tile `t / 14`, column tile
`t % 14`. The scratch and the second output carry the row tile's normalised rows from its first point to its last. -/

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel5Ideal.ProjFwd

open Cert.Kernel5Ideal Cert.Kernel5Ideal.Gen

variable {F : FTy → Type} [FloatOps F]

variable (m : (ℓ : Loc nD τ sig) → Buf (Elt F) ℓ) (ρ : Dev nD → PrngReg)

/-- The block every window stages at a grid point. -/
theorem idx : ∀ t : Fin cfg0.N,
    win0_0.index t = ![t.val / 14, 0] ∧ win0_1.index t = ![0, 0] ∧ win0_2.index t = ![0, t.val % 14]
    ∧ win0_3.index t = ![t.val / 14, t.val % 14] ∧ win0_4.index t = ![t.val / 14, 0] :=
  (by decide +kernel : ∀ t : Fin grid0.N, _)

/-- The input rows of a point's row tile. -/
def rows (c : Dev nD) (t : Fin cfg0.N) : Vec F S1024x2048 .f32 := iblk m c 0 t

/-- The norm gain, as a point stages it. -/
def gain (c : Dev nD) (t : Fin cfg0.N) : Vec F S1x2048 .f32 := iblk m c 1 t

/-- The weight columns of a point's column tile. -/
def cols (c : Dev nD) (t : Fin cfg0.N) : Vec F S2048x896 .bf16 := iblk m c 2 t

/-- The point before one that isn't the first. -/
abbrev pred (t : Fin cfg0.N) : Fin cfg0.N := ⟨t.val - 1, Nat.lt_of_le_of_lt (Nat.sub_le _ _) t.isLt⟩

/-- Inside a row tile the rows don't change from point to point, -/
theorem rows_pred (c : Dev nD) (t : Fin cfg0.N) (h : ¬t.val % 14 = 0) : rows m c t = rows m c (pred t) := by
  funext y
  show V m c main_arg0 (((cfg0.win 0).blk t).view.emb y) = V m c main_arg0 (((cfg0.win 0).blk (pred t)).view.emb y)
  refine congrArg _ ?_
  blk_ext [idx t, idx (pred t)]

/-- and neither does the gain. -/
theorem gain_pred (c : Dev nD) (t : Fin cfg0.N) : gain m c t = gain m c (pred t) := by
  funext y
  show V m c main_arg1 (((cfg0.win 1).blk t).view.emb y) = V m c main_arg1 (((cfg0.win 1).blk (pred t)).view.emb y)
  refine congrArg _ ?_
  blk_ext [idx t, idx (pred t)]

/-- What the scratch holds after a point: the normalised rows of its row tile. -/
def kept (c : Dev nD) (t : Fin cfg0.N) : Vec F S1024x2048 .bf16 := k0_pay2 (rows m c t) (gain m c t)

theorem kept_pred (c : Dev nD) (t : Fin cfg0.N) (h : ¬t.val % 14 = 0) : kept m c t = kept m c (pred t) := by
  unfold kept; rw [rows_pred m c t h, gain_pred m c t]

/-! ## Where each output is stored and written back -/

/-- The second output is stored at the first point of a row tile only. -/
theorem live4 (t : Fin cfg0.N) (h : First (grid0.coords t)) : cfg0.idle 4 (grid0.coords t) = false := by
  show (!(k0_cond1 (grid0.coords t) == 1#1)) = false
  rw [show k0_cond1 (grid0.coords t) = 1#1 from h]; rfl

theorem idle4 (t : Fin cfg0.N) (h : ¬First (grid0.coords t)) : cfg0.idle 4 (grid0.coords t) = true := by
  show (!(k0_cond1 (grid0.coords t) == 1#1)) = true
  rw [beq_eq_false_iff_ne.mpr h]; rfl

/-- Its buffer holds nothing stored before the first point of a row tile, and the row tile's rows after it. -/
def freshTab : ℕ → Bool := fun n => n % 14 == 0

theorem freshTab_step : ∀ t : Fin cfg0.N,
    freshTab (t.val + 1) = ((cfg0.win 4).flush t || (cfg0.idle 4 (cfg0.grid.coords t) && freshTab t.val)) :=
  (by decide +kernel : ∀ t : Fin grid0.N, freshTab (t.val + 1) = (win0_4.flush t || (cfg0.idle 4 (grid0.coords t) && freshTab t.val)))

theorem fresh4 (t : Fin cfg0.N) (h : ¬t.val % 14 = 0) : cfg0.fresh 4 t.val = false := by
  rw [Pipeline.Cfg.fresh_tab cfg0 4 freshTab rfl freshTab_step t.val (Nat.le_of_lt t.isLt)]
  exact beq_eq_false_iff_ne.mpr h

theorem flush4 (t : Fin cfg0.N) (h : ¬t.val % 14 = 13) : (cfg0.win 4).flush t = false :=
  Bool.eq_false_iff.mpr fun h' => h ((flush0_4 t).mp h')

/-! ## What every point leaves -/

/-- The scratch operand. -/
abbrev scr : Memref sig .tc .vmem S1024x2048 .bf16 := Memref.whole cc0_scratch0

/-- What the launch hands over: the scratch at anything, and the generator register. -/
theorem start_eq (c : Dev nD) :
    (Pipeline.ΦA spec0 c : State F)
      = iprop(iprop((∃ d, owns (c : Thread nD τ) scr fullShare d)) ∗ (∃ r, prngReg c r)) := by
  unfold Pipeline.ΦA; rw [scopedRest0_eq]; simp only [scr, owns_whole]; try rfl

/-- Between points: before the first the scratch at anything, afterwards at what the point before left. -/
def Inv (c : Dev nD) : (n : ℕ) → n ≤ cfg0.N → State F
  | 0, _ => Pipeline.ΦA spec0 c
  | n + 1, hn => iprop(owns (c : Thread nD τ) scr fullShare (kept m c ⟨n, hn⟩) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(owns (c : Thread nD τ) scr fullShare (kept m c ⟨n, hn⟩) ∗ (∃ r, prngReg c r)) := rfl

theorem Inv_pos (c : Dev nD) (n : ℕ) (h : n ≤ cfg0.N) (hz : n ≠ 0) :
    Inv m c n h = iprop(owns (c : Thread nD τ) scr fullShare (kept m c ⟨n - 1, by omega⟩) ∗ (∃ r, prngReg c r)) := by
  cases n with
  | zero => exact absurd rfl hz
  | succ n => rfl

/-- The arrays as launched; after a point the inputs at their blocks, the first output at the product, the second at the
normalised rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (kept m c t) (cols m c t)
    | ⟨4, _⟩ => k0_pay1 (rows m c t) (gain m c t)
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay3 (kept m c t) (cols m c t) := by dsimp only [dats]
theorem after_4 (c : Dev nD) (t : Fin cfg0.N) : (dats m 0 c).after 4 t = k0_pay1 (rows m c t) (gain m c t) := by dsimp only [dats]

/-- Each input's buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the second output holds doesn't change at a point that stores nothing into it. -/
theorem carry4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  have h : ¬t.val % 14 = 0 := fun h => Bool.false_ne_true ((live4 t ((first_iff t).mpr h)).symm.trans hi)
  rw [after_4, after_4, rows_pred m c t h, gain_pred m c t]

/-- At a later point of a row tile the second output holds the tile's normalised rows already. -/
theorem before_4 (c : Dev nD) (t : Fin cfg0.N) (h : ¬t.val % 14 = 0) (d) :
    (dats m 0 c).before 4 t d = k0_pay1 (rows m c t) (gain m c t) := by
  rw [Dat.before_out_traj _ 4 rfl (fun _ _ => rfl) (carry4 m c) t.val t rfl d,
    if_neg (by rw [fresh4 t h]; exact Bool.false_ne_true)]
  rw [rows_pred m c t h, gain_pred m c t]
  dsimp only [dats]

/-! ## One point, at the grid's own buffers -/

abbrev st0 (t : Fin cfg0.N) : Memref sig .tc .vmem S1024x2048 .f32 := win0_0.stage (cfg0.slots t 0)
abbrev st1 (t : Fin cfg0.N) : Memref sig .tc .vmem S1x2048 .f32 := win0_1.stage (cfg0.slots t 1)
abbrev st2 (t : Fin cfg0.N) : Memref sig .tc .vmem S2048x896 .bf16 := win0_2.stage (cfg0.slots t 2)
abbrev st3 (t : Fin cfg0.N) : Memref sig .tc .vmem S1024x896 .f32 := win0_3.stage (cfg0.slots t 3)
abbrev st4 (t : Fin cfg0.N) : Memref sig .tc .vmem S1024x2048 .bf16 := win0_4.stage (cfg0.slots t 4)

/-- What the body is called with at a point, -/
def bodyPre (c : Dev nD) (t : Fin cfg0.N) : State F :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d)))

/-- and what it returns. -/
def bodyPost (c : Dev nD) (t : Fin cfg0.N) : State F :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_0 (c : Dev nD) (t : Fin cfg0.N) :
    (dats m 0 c).leavesExact 0 t = owns (c : Thread nD τ) (st0 t) fullShare (rows m c t) := by
  unfold Dat.leavesExact; rw [show cfg0.idle 0 (cfg0.grid.coords t) = false from rfl, after_0]; rfl
theorem leaves_1 (c : Dev nD) (t : Fin cfg0.N) :
    (dats m 0 c).leavesExact 1 t = owns (c : Thread nD τ) (st1 t) fullShare (gain m c t) := by
  unfold Dat.leavesExact; rw [show cfg0.idle 1 (cfg0.grid.coords t) = false from rfl, after_1]; rfl
theorem leaves_2 (c : Dev nD) (t : Fin cfg0.N) :
    (dats m 0 c).leavesExact 2 t = owns (c : Thread nD τ) (st2 t) fullShare (cols m c t) := by
  unfold Dat.leavesExact; rw [show cfg0.idle 2 (cfg0.grid.coords t) = false from rfl, after_2]; rfl
theorem leaves_3 (c : Dev nD) (t : Fin cfg0.N) :
    (dats m 0 c).leavesExact 3 t = owns (c : Thread nD τ) (st3 t) fullShare (k0_pay3 (kept m c t) (cols m c t)) := by
  unfold Dat.leavesExact; rw [show cfg0.idle 3 (cfg0.grid.coords t) = false from rfl, after_3]

/-- The second output, left with the row tile's normalised rows, is left as asked at every point. -/
theorem leaves_4 (c : Dev nD) (t : Fin cfg0.N) :
    owns (c : Thread nD τ) (st4 t) fullShare (k0_pay1 (rows m c t) (gain m c t)) ⊢ (dats m 0 c).leavesExact 4 t := by
  by_cases h : t.val % 14 = 0
  · unfold Dat.leavesExact
    rw [live4 t ((first_iff t).mpr h), after_4]
  · have hi := idle4 t (fun h' => h ((first_iff t).mp h'))
    by_cases hf : t.val % 14 = 13
    · unfold Dat.leavesExact
      rw [hi, (flush0_4 t).mpr hf, after_4]
    · rw [Dat.leavesExact_idle (dats m 0 c) 4 t hi (flush4 t hf)]
      iintro H
      iexists (k0_pay1 (rows m c t) (gain m c t))
      rw [before_4 m c t h]
      iexact H

/-- Whatever point comes next, the scratch may be taken at anything. -/
theorem scratch_any (c : Dev nD) (t : Fin cfg0.N) :
    (dats m 0 c).Φ t.castSucc ⊢ iprop(iprop((∃ d, owns (c : Thread nD τ) scr fullShare d)) ∗ (∃ r, prngReg c r)) := by
  by_cases hz : t.val = 0
  · rw [Inv_castSucc m c t, Inv_zero m c _ _ hz, start_eq]
  · rw [Inv_castSucc m c t, Inv_pos m c _ _ hz]
    iintro ⟨HS, Hg⟩
    isplitl [HS]; · iexists _; iexact HS
    iexact Hg

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = Inv m c (t.val + 1) t.isLt from rfl, Inv_succ, leaves_0, leaves_1, leaves_2, leaves_3]
  by_cases h : t.val % 14 = 0
  · refine BIBase.Entails.trans (BIClass.sep_mono (scratch_any m c t) (BI.Entails.refl _)) ?_
    iintro ⟨⟨HS, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ ((first_iff t).mpr h) (rows m c t) (gain m c t) (cols m c t) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply (leaves_4 m c t); iexact H4
  · have hz : t.val ≠ 0 := fun hz => h (by rw [hz])
    rw [Inv_castSucc m c t, Inv_pos m c _ _ hz, show kept m c ⟨t.val - 1, _⟩ = kept m c t from (kept_pred m c t h).symm]
    simp only [before_4 m c t h]
    iintro ⟨⟨HS, Hg⟩, Ho, ⟨%d0, H0⟩, ⟨%d1, H1⟩, ⟨%d2, H2⟩, ⟨%d3, H3⟩, ⟨%d4, H4⟩⟩
    iapply (run_later c (grid0.coords t) _ _ _ _ _ _ _ _ _ _ _ _ (fun h' => h ((first_iff t).mp h')) (rows m c t) (gain m c t) (cols m c t)
      (k0_pay1 (rows m c t) (gain m c t)) (kept m c t) Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply (leaves_4 m c t); iexact H4

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem enter (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem leave (c : Dev nD) : (dats m 0 c).Φ (Fin.last cfg0.N) ⊢ Pipeline.ΦA spec0 c := by
  rw [show (dats m 0 c).Φ (Fin.last cfg0.N) = Inv m c cfg0.N (Nat.le_refl _) from rfl,
    Inv_pos m c _ _ (by rw [show cfg0.N = 28 from N_0]; decide), start_eq]
  iintro ⟨HS, Hg⟩
  isplitl [HS]
  · iexists _; iexact HS
  iexact Hg

/-! ## The run -/

set_option backward.isDefEq.respectTransparency.types false in
/-- Every run of the program ends, with every array at what the points leave in it, and every counter at zero. -/
theorem run_counters : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_counters m ρ)

/-- The arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_counters m ρ))

/-- The two results after the run, and the arguments. -/
theorem run_results : θ_run defs (onTc (τ := τ) (main (F := F))) ⟨m, fun _ => 0, ρ⟩ (fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h.1 c).1 3, (h.1 c).1 4, h.2 c⟩)
    (θ_run_and (run_main m ρ) (frame_of m ρ (dats m) (A_eq m) (run_main m ρ)))

end Cert.Kernel5Ideal.ProjFwd

end
-- ==== Proof.ProjFwd.Value.lean ====
module

public import proofs.«01_k».proof.Proof.ProjFwd.Data
public import proofs.«01_k».proof.Proof.Gen.Reference5Ideal.Read

@[expose] public section

/-! # The input projection: its two results -/

set_option maxRecDepth 16384

noncomputable section

open Idealize.ShloMosaic Idealize.ShloMosaic.TcCoe Idealize.SL.Sem
open Idealize.ShloMosaic.Pipeline (Dat)

namespace Cert.Kernel5Ideal.ProjFwd

open Cert.Kernel5Ideal Cert.Kernel5Ideal.Gen

variable (m : (ℓ : Loc nD τ sig) → Buf (Elt Ideal) ℓ)

open Cert.Reference5Ideal.Read

/-- A point's input rows, read off the input. -/
theorem rows_apply (c : Dev nD) (t : Fin cfg0.N) (j : S1024x2048.Idx) :
    rows m c t j = m ((c : Thread nD τ).loc main_arg0)
      (ix2 ⟨1024 * (t.val / 14) + (j 0).val, by
        have h : (j 0).val < 1024 := (j 0).isLt
        have h' : t.val < 28 := Nat.lt_of_lt_of_eq t.isLt N_0
        omega⟩ (j 1)) := by
  show m ((c : Thread nD τ).loc main_arg0) (((cfg0.win 0).blk t).view.emb j) = _
  refine congrArg _ ?_
  blk_ext [idx t]

/-- A point's gain is the whole gain. -/
theorem gain_apply (c : Dev nD) (t : Fin cfg0.N) (j : S1x2048.Idx) :
    gain m c t j = m ((c : Thread nD τ).loc main_arg1) j := by
  show m ((c : Thread nD τ).loc main_arg1) (((cfg0.win 1).blk t).view.emb j) = _
  refine congrArg _ ?_
  blk_ext [idx t]

/-- A point's weight columns, read off the weight. -/
theorem cols_apply (c : Dev nD) (t : Fin cfg0.N) (j : S2048x896.Idx) :
    cols m c t j = m ((c : Thread nD τ).loc main_arg2)
      (ix2 (j 0) ⟨896 * (t.val % 14) + (j 1).val, by have h : (j 1).val < 896 := (j 1).isLt; omega⟩) := by
  show m ((c : Thread nD τ).loc main_arg2) (((cfg0.win 2).blk t).view.emb j) = _
  refine congrArg _ ?_
  blk_ext [idx t]

/-- What a point keeps of its rows is the reference's normalised input there. -/
theorem normed (c : Dev nD) (t : Fin cfg0.N) (j : S1024x2048.Idx) :
    k0_pay1 (F := Ideal) (rows m c t) (gain m c t) j
      = val_main_v14 (F := Ideal) (m ((c : Thread nD τ).loc main_arg0)) (m ((c : Thread nD τ).loc main_arg1))
        (ix2 ⟨1024 * (t.val / 14) + (j 0).val, by
          have h : (j 0).val < 1024 := (j 0).isLt
          have h' : t.val < 28 := Nat.lt_of_lt_of_eq t.isLt N_0
          omega⟩ (j 1)) := by
  pointwise [k0_pay1, val_main_v14, val_main_v11, val_main_v10, val_main_v9, val_main_v8, val_main_v7, val_main_v6, val_main_cst_1,
    val_main_v5, val_main_v4, val_main_cst_0, val_main_v3, val_main_v2, val_main_v1, val_main_v0, val_main_cst]
  simp only [rows_apply, gain_apply]
  blk_point [idx t]

/-- The same, of what the scratch holds. -/
theorem kept_apply (c : Dev nD) (t : Fin cfg0.N) (j : S1024x2048.Idx) :
    kept m c t j
      = val_main_v11 (F := Ideal) (m ((c : Thread nD τ).loc main_arg0)) (m ((c : Thread nD τ).loc main_arg1))
        (ix2 ⟨1024 * (t.val / 14) + (j 0).val, by
          have h : (j 0).val < 1024 := (j 0).isLt
          have h' : t.val < 28 := Nat.lt_of_lt_of_eq t.isLt N_0
          omega⟩ (j 1)) := by
  refine Eq.trans ?_ (normed m c t j)
  unfold kept
  pointwise [k0_pay2]

/-- What a point leaves in its block of the product is the reference's product there. -/
theorem product (c : Dev nD) (t : Fin cfg0.N) (y : S1024x896.Idx) :
    k0_pay3 (F := Ideal) (kept m c t) (cols m c t) y
      = val_main_v13 (F := Ideal) (m ((c : Thread nD τ).loc main_arg0)) (m ((c : Thread nD τ).loc main_arg1))
          (m ((c : Thread nD τ).loc main_arg2)) (((cfg0.win 3).blk t).view.emb y) := by
  pointwise [k0_pay3, val_main_v13, val_main_v12]
  simp only [kept_apply, cols_apply]
  refine Finset.sum_congr rfl fun k _ => ?_
  blk_point [idx t]

/-- The projection, the whole array. -/
theorem final3 (c : Dev nD) : (dats m 0 c).arrAt 3 (cfgs 0).N
    = val_main_v13 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after_3]
  exact product m c t y

/-- The normalised input in half precision, the whole array. -/
theorem final4 (c : Dev nD) : (dats m 0 c).arrAt 4 (cfgs 0).N
    = val_main_v14 (F := Ideal) (m ((c : Thread nD τ).loc main_arg0)) (m ((c : Thread nD τ).loc main_arg1)) := by
  refine (dats m 0 c).arrAt_eq_of_covers 4 _ (by decide +kernel) fun t hf y => ?_
  blk_simp
  rw [after_4]
  refine (normed m c t y).trans (congrArg _ ?_)
  blk_ext [idx t]

end Cert.Kernel5Ideal.ProjFwd

end
-- ==== Proof.ProjFwd.Claims.lean ====
module

public import proofs.«01_k».proof.Defs
public import proofs.«01_k».proof.Proof.Gen.Kernel5.Frame
public import proofs.«01_k».proof.Proof.ProjFwd.Value
public import proofs.«01_k».proof.Proof.Gen.Reference5Ideal.Run
public import Idealize.ShloMosaic.Lib.Quiescent

@[expose] public section

/-! # The input projection: its claims -/

set_option maxRecDepth 16384

noncomputable section

namespace Cert.ProjFwd

open Idealize.ShloMosaic Idealize.ShloMosaic.TcCoe Idealize.SL.Sem

/-- The program as printed and its idealised print have the same body table, -/
theorem bodies_eq : @Cert.Kernel5.defs₀ Bits _ _ = @Cert.Kernel5Ideal.defs₀ Bits _ _ := by
  unfold Cert.Kernel5.defs₀ Cert.Kernel5Ideal.defs₀
  refine congrArg Defs.onTc ?_
  funext l a
  match l, a with
  | ⟨0, _⟩, (t, s) => rfl

/-- and so the same table with their pipelines. -/
theorem defs_eq : @Cert.Kernel5.defs Bits _ _ = @Cert.Kernel5Ideal.defs Bits _ _ :=
  congrArg (Pipeline.defs (Cert.Kernel5Ideal.pcfgs (F := Bits))) bodies_eq

/-- The kernel runs to completion, keeps its arguments and leaves every semaphore at zero. -/
theorem kernel_frame : Cert.quiescent_Kernel5 := fun m g _ => by
  rw [defs_eq]
  exact Cert.Kernel5Ideal.ProjFwd.frame (F := Bits) m g

/-- The same over the extended reals. -/
theorem ideal_frame : Cert.quiescent_Kernel5Ideal := fun m g _ => Cert.Kernel5Ideal.ProjFwd.frame m g

/-- The same for the reference. -/
theorem reference_frame : Cert.quiescent_Reference5Ideal := fun m g _ =>
  (θ_run Cert.Reference5Ideal.defs _ _).mono
    (fun r h => ⟨fun c => (h c).2.2, sem_eq_zero_of_no_sems (by decide) r.2⟩)
    (Cert.Reference5Ideal.Value.run (F := Ideal) m g)

open Cert.Reference5Ideal.Read in
/-- Over the extended reals kernel and reference have the same two results: the projection and the normalised input in half
precision. -/
theorem algebraic : Cert.algebraic_Kernel5Ideal_Reference5Ideal := by
  intro m g m' g' _ hag
  refine ⟨_, _, Cert.Kernel5Ideal.ProjFwd.run_results m g,
    (θ_run Cert.Reference5Ideal.defs _ _).mono (fun r h c => ?_) (Cert.Reference5Ideal.Value.run m' g')⟩
  obtain ⟨h0, h1, hargs⟩ := h c
  obtain ⟨e0, e1, e2⟩ := hag c
  rw [val_main_v13_eq, e0, e1, e2] at h0
  rw [val_main_v14_eq, e0, e1] at h1
  exact ⟨h0.trans (Cert.Kernel5Ideal.ProjFwd.final3 m c).symm, h1.trans (Cert.Kernel5Ideal.ProjFwd.final4 m c).symm, hargs⟩

end Cert.ProjFwd

end
-- ==== Proof.GradWOut.Value.lean ====
module

public import proofs.«01_k».proof.Proof.Gen.Kernel6Ideal.Frame
public import proofs.«01_k».proof.Proof.Gen.Reference6Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

/-! # The gradient of the output projection's weight -/

set_option maxRecDepth 16384

noncomputable section

open Idealize.ShloMosaic Idealize.ShloMosaic.TcCoe Idealize.SL.Sem
open Idealize.ShloMosaic.Pipeline (Dat)

namespace Cert.Kernel6Ideal.GradWOut

open Cert.Kernel6Ideal Cert.Kernel6Ideal.Gen

variable (m : (ℓ : Loc nD τ sig) → Buf (Elt Ideal) ℓ)

open Cert.Reference6Ideal.Read

/-- The block every window stages at a grid point. -/
theorem idx : ∀ t : Fin cfg0.N,
    win0_0.index t = ![t.val / 4, t.val % 2] ∧ win0_1.index t = ![t.val % 2, t.val / 2 % 2]
    ∧ win0_2.index t = ![t.val / 4, t.val / 2 % 2] ∧ win0_3.index t = ![t.val / 4, t.val / 2 % 2] :=
  (by decide +kernel : ∀ t : Fin grid0.N, _)

/-- The zero block that opens a run of row tiles. -/
theorem zero (j) : k0_pay1 (F := Ideal) j = 0 := by pointwise [k0_pay1]

/-- One row tile's part of the product. -/
def tile (a b : FVec Ideal S1024x1024 .bf16) (j : S1024x1024.Idx) : EReal :=
  ∑ k : Fin 1024, a (ix2 (j 0) k) * b (ix2 k (j 1))

/-- A row tile adds its part to the scratch. -/
theorem part (acc : FVec Ideal S1024x1024 .f32) (a b : FVec Ideal S1024x1024 .bf16) (j) :
    k0_pay2 acc a b j = acc j + tile a b j := by
  pointwise [k0_pay2, tile]

/-- What the scratch holds after the last row tile is the reference's product there. -/
theorem product (c : Dev nD) (t : Fin cfg0.N) (ht : t.val % 2 = 1) (y : S1024x1024.Idx) :
    (outsAt0 m c t.val t.isLt).2.2 y
      = val_main_v6 (F := Ideal) (m ((c : Thread nD τ).loc main_arg0)) (m ((c : Thread nD τ).loc main_arg2))
          (((cfg0.win 2).blk t).view.emb y) := by
  have e := Pipeline.eq_sum_fin_of_reset_step_apply_of_flush (fun n h => (outsAt0 m c n h).2.2) 2 (fun _ => 0)
    (fun p j => tile (iblk m c 0 p) (iblk m c 1 p) j)
    (fun t h j => by
      rw [outsAt0_A m c t h (by omega)]
      frame_out
      rw [part, zero])
    (fun t h j => by
      rw [outsAt0_B m c t (by omega) (by omega)]
      frame_out
      rw [part, read_unread_whole])
    t ht y
  refine e.trans ?_
  rw [zero_add]
  pointwise [tile, val_main_v6, val_main_v5, val_main_v4, val_main_v1, val_main_v0]
  refine Fin.sum_mul_add_congr fun s k hl => (mul_comm _ _).trans ?_
  blk_point [iblk, V, idx t, idx ⟨_, Pipeline.run_point_lt_of_flush t ht s⟩]

/-- The gradient of the weight, the whole array. -/
theorem final2 (c : Dev nD) : (dats m 0 c).arrAt 2 (cfgs 0).N
    = val_main_v6 (F := Ideal) (m ((c : Thread nD τ).loc main_arg0)) (m ((c : Thread nD τ).loc main_arg2)) := by
  refine (dats m 0 c).arrAt_eq_of_covers 2 _ (by decide +kernel) fun t hf y => ?_
  have h1 := (flush0_2 t).mp hf
  have hp := product m c t h1
  blk_simp
  rw [after0_2]
  rw [outsAt0_B m c t (by omega) h1] at hp ⊢
  revert hp
  frame_out
  intro hp
  exact hp y

/-- Its copy in half precision, the whole array. -/
theorem final3 (c : Dev nD) : (dats m 0 c).arrAt 3 (cfgs 0).N
    = val_main_v7 (F := Ideal) (m ((c : Thread nD τ).loc main_arg0)) (m ((c : Thread nD τ).loc main_arg2)) := by
  refine (dats m 0 c).arrAt_eq_of_covers 3 _ (by decide +kernel) fun t hf y => ?_
  have h1 := (flush0_3 t).mp hf
  have hp := product m c t h1
  blk_simp
  rw [after0_3]
  rw [outsAt0_B m c t (by omega) h1] at hp ⊢
  revert hp
  frame_out
  intro hp
  exact hp y

end Cert.Kernel6Ideal.GradWOut

end
-- ==== Proof.GradWOut.Claims.lean ====
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import proofs.«01_k».proof.Proof.GradWOut.Value
public import proofs.«01_k».proof.Proof.Gen.Kernel6Ideal.Value
public import proofs.«01_k».proof.Proof.Gen.Reference6Ideal.Read
public import Idealize.ShloMosaic.Lib.Quiescent

@[expose] public section

/-! # The gradient of the output projection's weight: its claims -/

set_option maxRecDepth 16384

noncomputable section

namespace Cert.GradWOut

open Idealize.ShloMosaic Idealize.ShloMosaic.TcCoe Idealize.SL.Sem

/-- The kernel runs to completion, keeps its arguments and leaves every semaphore at zero. -/
theorem kernel_frame : Cert.quiescent_Kernel6 := fun m g _ => Cert.Kernel6.Gen.frame m g

/-- The same over the extended reals. -/
theorem ideal_frame : Cert.quiescent_Kernel6Ideal := fun m g _ => Cert.Kernel6Ideal.Gen.frame m g

/-- The same for the reference. -/
theorem reference_frame : Cert.quiescent_Reference6Ideal := fun m g _ =>
  (θ_run Cert.Reference6Ideal.defs _ _).mono
    (fun r h => ⟨fun c => (h c).2.2, sem_eq_zero_of_no_sems (by decide) r.2⟩)
    (Cert.Reference6Ideal.Value.run (F := Ideal) m g)

open Cert.Reference6Ideal.Read in
/-- Over the extended reals kernel and reference have the same two results: the weight's gradient and its copy in half
precision. -/
theorem algebraic : Cert.algebraic_Kernel6Ideal_Reference6Ideal := by
  intro m g m' g' _ hag
  refine ⟨_, _, Cert.Kernel6Ideal.Value.run_blocks m g,
    (θ_run Cert.Reference6Ideal.defs _ _).mono (fun r h c => ?_) (Cert.Reference6Ideal.Value.run m' g')⟩
  obtain ⟨h0, h1, hargs⟩ := h c
  obtain ⟨e0, e1, e2⟩ := hag c
  rw [val_main_v6_eq, e0, e2] at h0
  rw [val_main_v7_eq, e0, e2] at h1
  exact ⟨h0.trans (Cert.Kernel6Ideal.GradWOut.final2 m c).symm, h1.trans (Cert.Kernel6Ideal.GradWOut.final3 m c).symm, hargs⟩

end Cert.GradWOut

end
-- ==== Proof.DMerged.Value.lean ====
module

public import proofs.«01_k».proof.Proof.Gen.Kernel7Ideal.Frame
public import proofs.«01_k».proof.Proof.Gen.Reference7Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

/-! # The gradient of the merged branches -/

set_option maxRecDepth 16384

noncomputable section

open Idealize.ShloMosaic Idealize.ShloMosaic.TcCoe Idealize.SL.Sem
open Idealize.ShloMosaic.Pipeline (Dat)

namespace Cert.Kernel7Ideal.DMerged

open Cert.Kernel7Ideal Cert.Kernel7Ideal.Gen

variable (m : (ℓ : Loc nD τ sig) → Buf (Elt Ideal) ℓ)

open Cert.Reference7Ideal.Read

/-- The block every window stages at a grid point. -/
theorem idx : ∀ t : Fin cfg0.N,
    win0_0.index t = ![t.val / 4, t.val % 2] ∧ win0_1.index t = ![t.val / 2 % 2, t.val % 2]
    ∧ win0_2.index t = ![t.val / 4, t.val / 2 % 2] :=
  (by decide +kernel : ∀ t : Fin grid0.N, _)

/-- The zero block that opens a run of column tiles. -/
theorem zero (j) : k0_pay1 (F := Ideal) j = 0 := by pointwise [k0_pay1]

/-- One column tile's part of the product. -/
def tile (d w : FVec Ideal S1024x1024 .bf16) (j : S1024x1024.Idx) : EReal :=
  ∑ k : Fin 1024, d (ix2 (j 0) k) * w (ix2 (j 1) k)

/-- A column tile adds its part to the scratch. -/
theorem part (acc : FVec Ideal S1024x1024 .f32) (d w : FVec Ideal S1024x1024 .bf16) (j) :
    k0_pay2 acc d w j = acc j + tile d w j := by
  pointwise [k0_pay2, tile]

/-- What the scratch holds after the last column tile is the reference's product there. -/
theorem product (c : Dev nD) (t : Fin cfg0.N) (ht : t.val % 2 = 1) (y : S1024x1024.Idx) :
    (outsAt0 m c t.val t.isLt).2 y
      = val_main_v4 (F := Ideal) (m ((c : Thread nD τ).loc main_arg1)) (m ((c : Thread nD τ).loc main_arg2))
          (((cfg0.win 2).blk t).view.emb y) := by
  have e := Pipeline.eq_sum_fin_of_reset_step_apply_of_flush (fun n h => (outsAt0 m c n h).2) 2 (fun _ => 0)
    (fun p j => tile (iblk m c 0 p) (iblk m c 1 p) j)
    (fun t h j => by
      rw [outsAt0_A m c t h (by omega)]
      frame_out
      rw [part, zero])
    (fun t h j => by
      rw [outsAt0_B m c t (by omega) (by omega)]
      frame_out
      rw [part, read_unread_whole])
    t ht y
  refine e.trans ?_
  rw [zero_add]
  pointwise [tile, val_main_v4, val_main_v3, val_main_v1]
  refine Fin.sum_mul_add_congr fun s k hl => ?_
  blk_point [iblk, V, idx t, idx ⟨_, Pipeline.run_point_lt_of_flush t ht s⟩]

/-- The gradient of the merged branches, the whole array. -/
theorem final2 (c : Dev nD) : (dats m 0 c).arrAt 2 (cfgs 0).N
    = val_main_v4 (F := Ideal) (m ((c : Thread nD τ).loc main_arg1)) (m ((c : Thread nD τ).loc main_arg2)) := by
  refine (dats m 0 c).arrAt_eq_of_covers 2 _ (by decide +kernel) fun t hf y => ?_
  have h1 := (flush0_2 t).mp hf
  have hp := product m c t h1
  blk_simp
  rw [after0_2]
  rw [outsAt0_B m c t (by omega) h1] at hp ⊢
  revert hp
  frame_out
  intro hp
  exact hp y

end Cert.Kernel7Ideal.DMerged

end
-- ==== Proof.DMerged.Claims.lean ====
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import proofs.«01_k».proof.Proof.DMerged.Value
public import proofs.«01_k».proof.Proof.Gen.Kernel7Ideal.Value
public import proofs.«01_k».proof.Proof.Gen.Reference7Ideal.Read
public import Idealize.ShloMosaic.Lib.Quiescent

@[expose] public section

/-! # The gradient of the merged branches: its claims -/

set_option maxRecDepth 16384

noncomputable section

namespace Cert.DMerged

open Idealize.ShloMosaic Idealize.ShloMosaic.TcCoe Idealize.SL.Sem

/-- The kernel runs to completion, keeps its arguments and leaves every semaphore at zero. -/
theorem kernel_frame : Cert.quiescent_Kernel7 := fun m g _ => Cert.Kernel7.Gen.frame m g

/-- The same over the extended reals. -/
theorem ideal_frame : Cert.quiescent_Kernel7Ideal := fun m g _ => Cert.Kernel7Ideal.Gen.frame m g

/-- The same for the reference. -/
theorem reference_frame : Cert.quiescent_Reference7Ideal := fun m g _ =>
  (θ_run Cert.Reference7Ideal.defs _ _).mono
    (fun r h => ⟨fun c => (h c).2, sem_eq_zero_of_no_sems (by decide) r.2⟩)
    (Cert.Reference7Ideal.Value.run (F := Ideal) m g)

open Cert.Reference7Ideal.Read in
/-- Over the extended reals kernel and reference have the same result: the gradient of the merged branches. -/
theorem algebraic : Cert.algebraic_Kernel7Ideal_Reference7Ideal := by
  intro m g m' g' _ hag
  refine ⟨_, Cert.Kernel7Ideal.Value.run_blocks m g,
    (θ_run Cert.Reference7Ideal.defs _ _).mono (fun r h c => ?_) (Cert.Reference7Ideal.Value.run m' g')⟩
  obtain ⟨h0, hargs⟩ := h c
  obtain ⟨e0, e1, e2⟩ := hag c
  rw [val_main_v4_eq, e1, e2] at h0
  exact ⟨h0.trans (Cert.Kernel7Ideal.DMerged.final2 m c).symm, hargs⟩

end Cert.DMerged

end
-- ==== Proof.OutFwd.Value.lean ====
module

public import proofs.«01_k».proof.Proof.Gen.Kernel8Ideal.Frame
public import proofs.«01_k».proof.Proof.Gen.Reference8Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

/-! # The output projection's error, its squares' sum and the gradient of the loss -/

set_option maxRecDepth 16384

noncomputable section

open Idealize.ShloMosaic Idealize.ShloMosaic.TcCoe Idealize.SL.Sem
open Idealize.ShloMosaic.Pipeline (Dat)

namespace Cert.Kernel8Ideal.OutFwd

open Cert.Kernel8Ideal Cert.Kernel8Ideal.Gen

variable (m : (ℓ : Loc nD τ sig) → Buf (Elt Ideal) ℓ)

open Cert.Reference8Ideal.Read

/-- The block every window stages at a grid point. -/
theorem idx : ∀ t : Fin cfg0.N,
    win0_0.index t = ![t.val / 4, 0] ∧ win0_1.index t = ![0, t.val % 4] ∧ win0_2.index t = ![t.val / 4, t.val % 4]
    ∧ win0_3.index t = ![t.val / 4, t.val % 4] ∧ win0_4.index t = ![0, 0] ∧ win0_5.index t = ![t.val / 4, t.val % 4]
    ∧ win0_6.index t = ![t.val / 4, t.val % 4] :=
  (by decide +kernel : ∀ t : Fin grid0.N, _)

/-- The row length, as the constant both programs divide by. -/
theorem len_f32 : Ideal.ofBits .f32 0x45000000#32 = ((2048 : ℝ) : EReal) := by
  simp [Ideal.ofBits, Ideal.ieee, -EReal.coe_mul]; norm_num

/-- The kernel's factor of the error is the loss's own factor times the factor of a square's derivative. -/
theorem scale : Ideal.div (Ideal.ofBits .f32 0x3F000000#32) (Ideal.ofBits .f32 0x45000000#32)
      * Ideal.ofBits .f32 0x40000000#32 = Ideal.ofBits .f32 0x3A000000#32 := by
  have h1 : Ideal.ofBits .f32 0x3F000000#32 = ((1 / 2 : ℝ) : EReal) := by
    simp [Ideal.ofBits, Ideal.ieee, -EReal.coe_mul]; norm_num
  have h3 : Ideal.ofBits .f32 0x40000000#32 = ((2 : ℝ) : EReal) := by
    simp [Ideal.ofBits, Ideal.ieee, -EReal.coe_mul]; norm_num
  have h4 : Ideal.ofBits .f32 0x3A000000#32 = ((1 / 2048 : ℝ) : EReal) := by
    simp [Ideal.ofBits, Ideal.ieee, -EReal.coe_mul]; norm_num
  rw [len_f32, h1, h3, h4, Ideal.div_coe (by norm_num), ← EReal.coe_mul, ← EReal.coe_mul]
  norm_num

/-- The error at a point is the reference's error there. -/
theorem err (c : Dev nD) (t : Fin cfg0.N) (y : S1024x512.Idx) :
    k0_pay2 (F := Ideal) (iblk m c 2 t) (iblk m c 0 t) (iblk m c 1 t) (iblk m c 3 t) y
      = val_main_v4 (F := Ideal) (m ((c : Thread nD τ).loc main_arg0)) (m ((c : Thread nD τ).loc main_arg1))
        (m ((c : Thread nD τ).loc main_arg2)) (m ((c : Thread nD τ).loc main_arg3)) (((cfg0.win 5).blk t).view.emb y) := by
  pointwise [k0_pay2, val_main_v4, val_main_v3, val_main_v2, val_main_v1, val_main_v0]
  blk_point [iblk, V, idx t]

/-- What a point stores of the gradient is the reference's there. -/
theorem point (c : Dev nD) (t : Fin cfg0.N) (y : S1024x512.Idx) :
    k0_pay3 (F := Ideal) (iblk m c 2 t) (iblk m c 0 t) (iblk m c 1 t) (iblk m c 3 t) y
      = val_main_v21 (F := Ideal) (m ((c : Thread nD τ).loc main_arg0)) (m ((c : Thread nD τ).loc main_arg1))
        (m ((c : Thread nD τ).loc main_arg2)) (m ((c : Thread nD τ).loc main_arg3)) (((cfg0.win 5).blk t).view.emb y) := by
  have e := err m c t y
  pointwise [k0_pay3, val_main_v21, val_main_v20, val_main_v19, val_main_v18, val_main_cst_7, val_main_v17, val_main_v16,
    val_main_cst_6, val_main_cst_5, val_main_v10, val_main_v9, val_main_cst_0]
  rw [← mul_assoc, scale, mul_comm]
  exact congrArg _ e

/-- The gradient of the loss, the whole array. -/
theorem final5 (c : Dev nD) : (dats m 0 c).arrAt 5 (cfgs 0).N
    = val_main_v21 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  rw [after0_5]
  by_cases h0 : t.val % 8 = 0
  · rw [outsAt0_A m c t h0]
    frame_out
    exact point m c t y
  · rw [outsAt0_B m c t h0]
    frame_out
    exact point m c t y

/-- Its copy in half precision, the whole array. -/
theorem final6 (c : Dev nD) : (dats m 0 c).arrAt 6 (cfgs 0).N
    = val_main_v23 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t hf y => ?_
  blk_simp
  rw [after0_6]
  by_cases h0 : t.val % 8 = 0
  · rw [outsAt0_A m c t h0]
    frame_out
    exact point m c t y
  · rw [outsAt0_B m c t h0]
    frame_out
    exact point m c t y

/-- The zero tile that opens the sum of squares. -/
theorem zero (j) : k0_pay1 (F := Ideal) j = 0 := by pointwise [k0_pay1]

/-- One block's sum of squared errors. -/
def squares (x : FVec Ideal S1024x512 .f32) (a : FVec Ideal S1024x2048 .bf16) (w : FVec Ideal S2048x512 .bf16)
    (d : FVec Ideal S1024x512 .f32) : EReal :=
  ∑ r : Fin 1024, ∑ k : Fin 512, k0_pay2 (F := Ideal) x a w d (ix2 r k) * k0_pay2 (F := Ideal) x a w d (ix2 r k)

/-- A block adds its sum to every element of the tile. -/
theorem part (x : FVec Ideal S1024x512 .f32) (a : FVec Ideal S1024x2048 .bf16) (w : FVec Ideal S2048x512 .bf16)
    (d : FVec Ideal S1024x512 .f32) (acc : FVec Ideal S8x128 .f32) (j) :
    k0_pay5 (F := Ideal) x a w d acc j = acc j + squares x a w d := by
  pointwise [k0_pay5, squares]

/-- A sum over the blocks of an array is a sum over the array. -/
theorem sum_blocks {N : ℕ} (hN : N = 8) (f : Fin 2048 → Fin 2048 → EReal) :
    ∑ p : Fin N, ∑ r : Fin 1024, ∑ k : Fin 512,
      f ⟨p.val / 4 * 1024 + r.val, by omega⟩ ⟨p.val % 4 * 512 + k.val, by omega⟩ = ∑ i : Fin 2048, ∑ j : Fin 2048, f i j := by
  subst hN
  refine (Fin.sum_divmod_congr (A := 2) (S := 4)
    (f := fun a s => ∑ r : Fin 1024, ∑ k : Fin 512, f ⟨a.val * 1024 + r.val, by omega⟩ ⟨s.val * 512 + k.val, by omega⟩)
    fun t ha hs => rfl).trans ?_
  rw [← Fin.sum_mul_add_fin 2 1024 fun i : Fin 2048 => ∑ j : Fin 2048, f i j]
  refine Finset.sum_congr rfl fun a _ => ?_
  rw [Finset.sum_comm]
  refine Finset.sum_congr rfl fun r _ => ?_
  exact Fin.sum_mul_add_fin 4 512 _

/-- The sum of squares, the whole tile. -/
theorem final4 (c : Dev nD) : (dats m 0 c).arrAt 4 (cfgs 0).N
    = val_main_v22 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have ht : t.val + 1 = cfg0.N := by
    have h := (flush0_4 t).mp hf
    have hN : cfg0.N = 8 := N_0
    have := t.isLt
    omega
  have e := Pipeline.eq_sum_fin_of_reset_step_apply_last (fun n h => (outsAt0 m c n h).1) 8 (fun _ => 0)
    (fun p j => squares (iblk m c 2 p) (iblk m c 0 p) (iblk m c 1 p) (iblk m c 3 p))
    (fun t h j => by
      rw [outsAt0_A m c t h]
      frame_out
      rw [part, zero])
    (fun t h j => by
      rw [outsAt0_B m c t h]
      frame_out
      rw [part])
    N_0.le t ht y
  blk_simp
  rw [after0_4]
  refine e.trans ?_
  rw [zero_add]
  simp only [squares, err]
  pointwise [val_main_v22, val_main_v6, val_main_v5, val_main_cst]
  refine Eq.trans (Finset.sum_congr rfl fun p _ => Finset.sum_congr rfl fun r _ => Finset.sum_congr rfl fun k _ => ?_)
    (sum_blocks N_0 fun i j => val_main_v4 (F := Ideal) (m ((c : Thread nD τ).loc main_arg0))
      (m ((c : Thread nD τ).loc main_arg1)) (m ((c : Thread nD τ).loc main_arg2)) (m ((c : Thread nD τ).loc main_arg3)) (ix2 i j)
      * val_main_v4 (F := Ideal) (m ((c : Thread nD τ).loc main_arg0))
      (m ((c : Thread nD τ).loc main_arg1)) (m ((c : Thread nD τ).loc main_arg2)) (m ((c : Thread nD τ).loc main_arg3)) (ix2 i j))
  have hp : p.val < 8 := lt_of_lt_of_eq p.isLt N_0
  have ei : ((cfg0.win 5).blk p).view.emb (ix2 r k)
      = ix2 ⟨p.val / 4 * 1024 + r.val, by omega⟩ ⟨p.val % 4 * 512 + k.val, by omega⟩ := by
    blk_ext [idx p]
  exact congrArg (fun i => val_main_v4 (F := Ideal) (m ((c : Thread nD τ).loc main_arg0))
      (m ((c : Thread nD τ).loc main_arg1)) (m ((c : Thread nD τ).loc main_arg2)) (m ((c : Thread nD τ).loc main_arg3)) i
      * val_main_v4 (F := Ideal) (m ((c : Thread nD τ).loc main_arg0))
      (m ((c : Thread nD τ).loc main_arg1)) (m ((c : Thread nD τ).loc main_arg2)) (m ((c : Thread nD τ).loc main_arg3)) i) ei

end Cert.Kernel8Ideal.OutFwd

end
-- ==== Proof.OutFwd.Claims.lean ====
module

public import proofs.«01_k».proof.Defs
public import proofs.«01_k».proof.Proof.Gen.Kernel8.Frame
public import proofs.«01_k».proof.Proof.Gen.Kernel8Ideal.Frame
public import proofs.«01_k».proof.Proof.Gen.Reference8Ideal.Run
public import proofs.«01_k».proof.Proof.OutFwd.Value
public import proofs.«01_k».proof.Proof.Gen.Kernel8Ideal.Value
public import proofs.«01_k».proof.Proof.Gen.Reference8Ideal.Read
public import Idealize.ShloMosaic.Lib.Quiescent

@[expose] public section

/-! # The output projection's error, its squares' sum and the gradient of the loss: its claims -/

set_option maxRecDepth 16384

noncomputable section

namespace Cert.OutFwd

open Idealize.ShloMosaic Idealize.ShloMosaic.TcCoe Idealize.SL.Sem

/-- The kernel runs to completion, keeps its arguments and leaves every semaphore at zero. -/
theorem kernel_frame : Cert.quiescent_Kernel8 := fun m g _ => Cert.Kernel8.Gen.frame m g

/-- The same over the extended reals. -/
theorem ideal_frame : Cert.quiescent_Kernel8Ideal := fun m g _ => Cert.Kernel8Ideal.Gen.frame m g

/-- The same for the reference. -/
theorem reference_frame : Cert.quiescent_Reference8Ideal := fun m g _ =>
  (θ_run Cert.Reference8Ideal.defs _ _).mono
    (fun r h => ⟨fun c => (h c).2.2.2, sem_eq_zero_of_no_sems (by decide) r.2⟩)
    (Cert.Reference8Ideal.Value.run (F := Ideal) m g)

open Cert.Reference8Ideal.Read in
/-- Over the extended reals kernel and reference have the same three results: the sum of the squared errors in every
element of a tile, the gradient of the loss and that gradient's copy in half precision. -/
theorem algebraic : Cert.algebraic_Kernel8Ideal_Reference8Ideal := by
  intro m g m' g' _ hag
  refine ⟨_, _, _, Cert.Kernel8Ideal.Value.run_blocks m g,
    (θ_run Cert.Reference8Ideal.defs _ _).mono (fun r h c => ?_) (Cert.Reference8Ideal.Value.run m' g')⟩
  obtain ⟨h0, h1, h2, hargs⟩ := h c
  obtain ⟨e0, e1, e2, e3⟩ := hag c
  rw [val_main_v22_eq, e0, e1, e2, e3] at h0
  rw [val_main_v21_eq, e0, e1, e2, e3] at h1
  rw [val_main_v23_eq, e0, e1, e2, e3] at h2
  exact ⟨h0.trans (Cert.Kernel8Ideal.OutFwd.final4 m c).symm, h1.trans (Cert.Kernel8Ideal.OutFwd.final5 m c).symm,
    h2.trans (Cert.Kernel8Ideal.OutFwd.final6 m c).symm, hargs⟩

end Cert.OutFwd

end
-- ==== Proof.GradBranchWO.Value.lean ====
module

public import proofs.«01_k».proof.Proof.Gen.Kernel9Ideal.Frame
public import proofs.«01_k».proof.Proof.Gen.Reference9Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

/-! # The gradient of the attention and the recurrent branch's output weight -/

set_option maxRecDepth 16384

noncomputable section

open Idealize.ShloMosaic Idealize.ShloMosaic.TcCoe Idealize.SL.Sem
open Idealize.ShloMosaic.Pipeline (Dat)

namespace Cert.Kernel9Ideal.GradBranchWO

open Cert.Kernel9Ideal Cert.Kernel9Ideal.Gen

variable (m : (ℓ : Loc nD τ sig) → Buf (Elt Ideal) ℓ)

open Cert.Reference9Ideal.Read

/-- The block every window stages at a grid point. -/
theorem idx : ∀ t : Fin cfg0.N,
    win0_0.index t = ![0, 0] ∧ win0_1.index t = ![0, t.val] ∧ win0_2.index t = ![t.val, 0, 0]
    ∧ win0_3.index t = ![t.val, 0, 0] :=
  (by decide +kernel : ∀ t : Fin grid0.N, _)

/-- The reference's stack, read through to its product. -/
theorem stack_apply (x0 x2) (i : S4x768x512.Idx) :
    val_main_v15 (F := Ideal) x0 x2 i = val_main_v5 (F := Ideal) x0 x2
      (ix2 ⟨512 * (i 0).val + (i 2).val, by
        have h0 : (i 0).val < 4 := (i 0).isLt; have h2 : (i 2).val < 512 := (i 2).isLt; omega⟩ (i 1)) := by
  pointwise [val_main_v15, val_main_v14, val_main_v13, val_main_v12, val_main_v11, val_main_v10, val_main_v9,
    val_main_v8, val_main_v7, val_main_v6]
  split_ifs with h1 h2 h3 <;> blk_ext

/-- What a point leaves in its accumulator is the reference's product there. -/
theorem point (c : Dev nD) (t : Fin cfg0.N) (y : S1x768x512.Idx) :
    k0_pay3 (F := Ideal) (k0_pay2 k0_pay1 (iblk m c 0 t) (iblk m c 1 t)) y
      = val_main_v15 (F := Ideal) (m ((c : Thread nD τ).loc main_arg0)) (m ((c : Thread nD τ).loc main_arg2))
          (((cfg0.win 2).blk t).view.emb y) := by
  rw [stack_apply]
  pointwise [k0_pay3, k0_pay2, k0_pay1, val_main_v5, val_main_v4, val_main_v1, val_main_v0]
  refine Finset.sum_congr rfl fun k _ => (mul_comm _ _).trans ?_
  blk_point [iblk, V, idx t]

/-- The gradient of the weight, the whole stack. -/
theorem final2 (c : Dev nD) : (dats m 0 c).arrAt 2 (cfgs 0).N
    = val_main_v15 (F := Ideal) (m ((c : Thread nD τ).loc main_arg0)) (m ((c : Thread nD τ).loc main_arg2)) := by
  refine (dats m 0 c).arrAt_eq_of_covers 2 _ (by decide +kernel) fun t hf y => ?_
  blk_simp
  rw [after0_2]
  unfold Gen.outsAt0
  frame_out
  exact point m c t y

/-- Its copy in half precision, the whole stack. -/
theorem final3 (c : Dev nD) : (dats m 0 c).arrAt 3 (cfgs 0).N
    = val_main_v16 (F := Ideal) (m ((c : Thread nD τ).loc main_arg0)) (m ((c : Thread nD τ).loc main_arg2)) := by
  refine (dats m 0 c).arrAt_eq_of_covers 3 _ (by decide +kernel) fun t hf y => ?_
  blk_simp
  rw [after0_3]
  unfold Gen.outsAt0
  frame_out
  exact point m c t y

end Cert.Kernel9Ideal.GradBranchWO

end
-- ==== Proof.GradBranchWO.Claims.lean ====
module

public import proofs.«01_k».proof.Defs
public import proofs.«01_k».proof.Proof.Gen.Kernel9.Frame
public import proofs.«01_k».proof.Proof.Gen.Kernel9Ideal.Frame
public import proofs.«01_k».proof.Proof.Gen.Reference9Ideal.Run
public import proofs.«01_k».proof.Proof.GradBranchWO.Value
public import proofs.«01_k».proof.Proof.Gen.Kernel9Ideal.Value
public import proofs.«01_k».proof.Proof.Gen.Reference9Ideal.Read
public import Idealize.ShloMosaic.Lib.Quiescent

@[expose] public section

/-! # The gradient of the attention and the recurrent branch's output weight: its claims -/

set_option maxRecDepth 16384

noncomputable section

namespace Cert.GradBranchWO

open Idealize.ShloMosaic Idealize.ShloMosaic.TcCoe Idealize.SL.Sem

/-- The kernel runs to completion, keeps its arguments and leaves every semaphore at zero. -/
theorem kernel_frame : Cert.quiescent_Kernel9 := fun m g _ => Cert.Kernel9.Gen.frame m g

/-- The same over the extended reals. -/
theorem ideal_frame : Cert.quiescent_Kernel9Ideal := fun m g _ => Cert.Kernel9Ideal.Gen.frame m g

/-- The same for the reference. -/
theorem reference_frame : Cert.quiescent_Reference9Ideal := fun m g _ =>
  (θ_run Cert.Reference9Ideal.defs _ _).mono
    (fun r h => ⟨fun c => (h c).2.2, sem_eq_zero_of_no_sems (by decide) r.2⟩)
    (Cert.Reference9Ideal.Value.run (F := Ideal) m g)

open Cert.Reference9Ideal.Read in
/-- Over the extended reals kernel and reference have the same two results: the weight's gradient and its copy in half
precision, each as a stack of four groups of columns. -/
theorem algebraic : Cert.algebraic_Kernel9Ideal_Reference9Ideal := by
  intro m g m' g' _ hag
  refine ⟨_, _, Cert.Kernel9Ideal.Value.run_blocks m g,
    (θ_run Cert.Reference9Ideal.defs _ _).mono (fun r h c => ?_) (Cert.Reference9Ideal.Value.run m' g')⟩
  obtain ⟨h0, h1, hargs⟩ := h c
  obtain ⟨e0, e1, e2⟩ := hag c
  rw [val_main_v15_eq, e0, e2] at h0
  rw [val_main_v16_eq, e0, e2] at h1
  exact ⟨h0.trans (Cert.Kernel9Ideal.GradBranchWO.final2 m c).symm,
    h1.trans (Cert.Kernel9Ideal.GradBranchWO.final3 m c).symm, hargs⟩

end Cert.GradBranchWO

end
-- ==== Proof.GradMemoryWO.Value.lean ====
module

public import proofs.«01_k».proof.Proof.Gen.Kernel10Ideal.Frame
public import proofs.«01_k».proof.Proof.Gen.Reference10Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

/-! # The gradient of the memory branch's output weight -/

set_option maxRecDepth 16384

noncomputable section

open Idealize.ShloMosaic Idealize.ShloMosaic.TcCoe Idealize.SL.Sem
open Idealize.ShloMosaic.Pipeline (Dat)

namespace Cert.Kernel10Ideal.GradMemoryWO

open Cert.Kernel10Ideal Cert.Kernel10Ideal.Gen

variable (m : (ℓ : Loc nD τ sig) → Buf (Elt Ideal) ℓ)

open Cert.Reference10Ideal.Read

/-- The block every window stages at a grid point. -/
theorem idx : ∀ t : Fin cfg0.N,
    win0_0.index t = ![0, 0] ∧ win0_1.index t = ![0, t.val] ∧ win0_2.index t = ![t.val, 0, 0]
    ∧ win0_3.index t = ![t.val, 0, 0] :=
  (by decide +kernel : ∀ t : Fin grid0.N, _)

/-- The reference's stack, read through to its product. -/
theorem stack_apply (x0 x2) (i : S4x512x512.Idx) :
    val_main_v15 (F := Ideal) x0 x2 i = val_main_v5 (F := Ideal) x0 x2
      (ix2 ⟨512 * (i 0).val + (i 2).val, by
        have h0 : (i 0).val < 4 := (i 0).isLt; have h2 : (i 2).val < 512 := (i 2).isLt; omega⟩ (i 1)) := by
  pointwise [val_main_v15, val_main_v14, val_main_v13, val_main_v12, val_main_v11, val_main_v10, val_main_v9,
    val_main_v8, val_main_v7, val_main_v6]
  split_ifs with h1 h2 h3 <;> blk_ext

/-- What a point leaves in its accumulator is the reference's product there. -/
theorem point (c : Dev nD) (t : Fin cfg0.N) (y : S1x512x512.Idx) :
    k0_pay3 (F := Ideal) (k0_pay2 k0_pay1 (iblk m c 0 t) (iblk m c 1 t)) y
      = val_main_v15 (F := Ideal) (m ((c : Thread nD τ).loc main_arg0)) (m ((c : Thread nD τ).loc main_arg2))
          (((cfg0.win 2).blk t).view.emb y) := by
  rw [stack_apply]
  pointwise [k0_pay3, k0_pay2, k0_pay1, val_main_v5, val_main_v4, val_main_v1, val_main_v0]
  refine Finset.sum_congr rfl fun k _ => (mul_comm _ _).trans ?_
  blk_point [iblk, V, idx t]

/-- The gradient of the weight, the whole stack. -/
theorem final2 (c : Dev nD) : (dats m 0 c).arrAt 2 (cfgs 0).N
    = val_main_v15 (F := Ideal) (m ((c : Thread nD τ).loc main_arg0)) (m ((c : Thread nD τ).loc main_arg2)) := by
  refine (dats m 0 c).arrAt_eq_of_covers 2 _ (by decide +kernel) fun t hf y => ?_
  blk_simp
  rw [after0_2]
  unfold Gen.outsAt0
  frame_out
  exact point m c t y

/-- Its copy in half precision, the whole stack. -/
theorem final3 (c : Dev nD) : (dats m 0 c).arrAt 3 (cfgs 0).N
    = val_main_v16 (F := Ideal) (m ((c : Thread nD τ).loc main_arg0)) (m ((c : Thread nD τ).loc main_arg2)) := by
  refine (dats m 0 c).arrAt_eq_of_covers 3 _ (by decide +kernel) fun t hf y => ?_
  blk_simp
  rw [after0_3]
  unfold Gen.outsAt0
  frame_out
  exact point m c t y

end Cert.Kernel10Ideal.GradMemoryWO

end
-- ==== Proof.GradMemoryWO.Claims.lean ====
module

public import proofs.«01_k».proof.Defs
public import proofs.«01_k».proof.Proof.Gen.Kernel10.Frame
public import proofs.«01_k».proof.Proof.Gen.Kernel10Ideal.Frame
public import proofs.«01_k».proof.Proof.Gen.Reference10Ideal.Run
public import proofs.«01_k».proof.Proof.GradMemoryWO.Value
public import proofs.«01_k».proof.Proof.Gen.Kernel10Ideal.Value
public import proofs.«01_k».proof.Proof.Gen.Reference10Ideal.Read
public import Idealize.ShloMosaic.Lib.Quiescent

@[expose] public section

/-! # The gradient of the memory branch's output weight: its claims -/

set_option maxRecDepth 16384

noncomputable section

namespace Cert.GradMemoryWO

open Idealize.ShloMosaic Idealize.ShloMosaic.TcCoe Idealize.SL.Sem

/-- The kernel runs to completion, keeps its arguments and leaves every semaphore at zero. -/
theorem kernel_frame : Cert.quiescent_Kernel10 := fun m g _ => Cert.Kernel10.Gen.frame m g

/-- The same over the extended reals. -/
theorem ideal_frame : Cert.quiescent_Kernel10Ideal := fun m g _ => Cert.Kernel10Ideal.Gen.frame m g

/-- The same for the reference. -/
theorem reference_frame : Cert.quiescent_Reference10Ideal := fun m g _ =>
  (θ_run Cert.Reference10Ideal.defs _ _).mono
    (fun r h => ⟨fun c => (h c).2.2, sem_eq_zero_of_no_sems (by decide) r.2⟩)
    (Cert.Reference10Ideal.Value.run (F := Ideal) m g)

open Cert.Reference10Ideal.Read in
/-- Over the extended reals kernel and reference have the same two results: the weight's gradient and its copy in half
precision, each as a stack of four groups of columns. -/
theorem algebraic : Cert.algebraic_Kernel10Ideal_Reference10Ideal := by
  intro m g m' g' _ hag
  refine ⟨_, _, Cert.Kernel10Ideal.Value.run_blocks m g,
    (θ_run Cert.Reference10Ideal.defs _ _).mono (fun r h c => ?_) (Cert.Reference10Ideal.Value.run m' g')⟩
  obtain ⟨h0, h1, hargs⟩ := h c
  obtain ⟨e0, e1, e2⟩ := hag c
  rw [val_main_v15_eq, e0, e2] at h0
  rw [val_main_v16_eq, e0, e2] at h1
  exact ⟨h0.trans (Cert.Kernel10Ideal.GradMemoryWO.final2 m c).symm,
    h1.trans (Cert.Kernel10Ideal.GradMemoryWO.final3 m c).symm, hargs⟩

end Cert.GradMemoryWO

end
-- ==== Proof.MergeFwd.Value.lean ====
module

public import proofs.«01_k».proof.Proof.Gen.Kernel11Ideal.Frame
public import proofs.«01_k».proof.Proof.Gen.Reference11Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

/-! # The merged branches -/

set_option maxRecDepth 16384

noncomputable section

open Idealize.ShloMosaic Idealize.ShloMosaic.TcCoe Idealize.SL.Sem
open Idealize.ShloMosaic.Pipeline (Dat)

namespace Cert.Kernel11Ideal.MergeFwd

open Cert.Kernel11Ideal Cert.Kernel11Ideal.Gen

variable (m : (ℓ : Loc nD τ sig) → Buf (Elt Ideal) ℓ)

open Cert.Reference11Ideal.Read

/-- The block every window stages at a grid point. -/
theorem idx : ∀ t : Fin cfg0.N,
    win0_0.index t = ![t.val / 8, 0] ∧ win0_1.index t = ![t.val / 8, 0] ∧ win0_2.index t = ![t.val / 8, 0]
    ∧ win0_3.index t = ![0, t.val % 8] ∧ win0_4.index t = ![0, t.val % 8] ∧ win0_5.index t = ![0, t.val % 8]
    ∧ win0_6.index t = ![t.val / 8, 25 + t.val % 8] ∧ win0_7.index t = ![t.val / 8, 33 + t.val % 8]
    ∧ win0_8.index t = ![t.val / 8, 41 + t.val % 8]
    ∧ win0_9.index t = ![0, t.val % 8] ∧ win0_10.index t = ![0, 8 + t.val % 8] ∧ win0_11.index t = ![0, 16 + t.val % 8]
    ∧ win0_12.index t = ![t.val / 8, t.val % 8] ∧ win0_13.index t = ![t.val % 8, t.val / 8] :=
  (by decide +kernel : ∀ t : Fin grid0.N, _)

/-- The merged branches at a point, as the kernel writes them. -/
abbrev mixed (c : Dev nD) (t : Fin cfg0.N) : FVec Ideal S512x256 .f32 :=
  k0_pay1 (F := Ideal)
    (k0_pay4 (iblk m c 0 t) (iblk m c 3 t) (iblk m c 6 t) (iblk m c 9 t) (iblk m c 1 t) (iblk m c 4 t) (iblk m c 7 t)
      (iblk m c 10 t))
    (k0_pay5 (iblk m c 2 t) (iblk m c 5 t)) (iblk m c 8 t) (k0_pay6 (iblk m c 11 t))

/-- They are the reference's there. -/
theorem point (c : Dev nD) (t : Fin cfg0.N) (y : S512x256.Idx) :
    mixed m c t y
      = val_main_v22 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
          (((cfg0.win 12).blk t).view.emb y) := by
  pointwise [mixed, k0_pay1, k0_pay4, k0_pay5, k0_pay6, val_main_v22, val_main_v21, val_main_v20, val_main_v19, val_main_v18,
    val_main_v17, val_main_v16, val_main_v15, val_main_v14, val_main_v13, val_main_v12, val_main_v11, val_main_v10,
    val_main_v9, val_main_v8, val_main_v7, val_main_cst_0, val_main_v6, val_main_v5, val_main_cst, val_main_v4,
    val_main_v3, val_main_v2, val_main_v1, val_main_v0, Ideal.logistic]
  blk_point [iblk, V, idx t]

/-- The merged branches, the whole array. -/
theorem final12 (c : Dev nD) : (dats m 0 c).arrAt 12 (cfgs 0).N
    = val_main_v23 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 12 _ (by decide +kernel) fun t hf y => ?_
  blk_simp
  rw [after0_12]
  unfold_out out0_12
  frame_out
  exact point m c t y

/-- The merged branches transposed, the whole array. -/
theorem final13 (c : Dev nD) : (dats m 0 c).arrAt 13 (cfgs 0).N
    = val_main_v25 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 13 _ (by decide +kernel) fun t hf y => ?_
  blk_simp
  rw [after0_13]
  unfold_out out0_13
  frame_out
  pointwise [k0_pay3, val_main_v25, val_main_v24]
  refine (point m c t _).trans (congrArg _ ?_)
  blk_ext [idx t]

end Cert.Kernel11Ideal.MergeFwd

end
-- ==== Proof.MergeFwd.Claims.lean ====
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import proofs.«01_k».proof.Proof.MergeFwd.Value
public import proofs.«01_k».proof.Proof.Gen.Kernel11Ideal.Value
public import proofs.«01_k».proof.Proof.Gen.Reference11Ideal.Read
public import Idealize.ShloMosaic.Lib.Quiescent

@[expose] public section

/-! # The merged branches: its claims -/

set_option maxRecDepth 16384

noncomputable section

namespace Cert.MergeFwd

open Idealize.ShloMosaic Idealize.ShloMosaic.TcCoe Idealize.SL.Sem

/-- The kernel runs to completion, keeps its arguments and leaves every semaphore at zero. -/
theorem kernel_frame : Cert.quiescent_Kernel11 := fun m g _ => Cert.Kernel11.Gen.frame m g

/-- The same over the extended reals. -/
theorem ideal_frame : Cert.quiescent_Kernel11Ideal := fun m g _ => Cert.Kernel11Ideal.Gen.frame m g

/-- The same for the reference. -/
theorem reference_frame : Cert.quiescent_Reference11Ideal := fun m g _ =>
  (θ_run Cert.Reference11Ideal.defs _ _).mono
    (fun r h => ⟨fun c => (h c).2.2, sem_eq_zero_of_no_sems (by decide) r.2⟩)
    (Cert.Reference11Ideal.Value.run (F := Ideal) m g)

open Cert.Reference11Ideal.Read in
/-- Over the extended reals kernel and reference have the same two results: the merged branches and their transpose, both
in half precision. -/
theorem algebraic : Cert.algebraic_Kernel11Ideal_Reference11Ideal := by
  intro m g m' g' _ hag
  refine ⟨_, _, Cert.Kernel11Ideal.Value.run_blocks m g,
    (θ_run Cert.Reference11Ideal.defs _ _).mono (fun r h c => ?_) (Cert.Reference11Ideal.Value.run m' g')⟩
  obtain ⟨h0, h1, hargs⟩ := h c
  obtain ⟨e0, e1, e2, e3, e4, e5, e6, e7⟩ := hag c
  rw [val_main_v23_eq, e0, e1, e2, e3, e4, e5, e6, e7] at h0
  rw [val_main_v25_eq, e0, e1, e2, e3, e4, e5, e6, e7] at h1
  exact ⟨h0.trans (Cert.Kernel11Ideal.MergeFwd.final12 m c).symm,
    h1.trans (Cert.Kernel11Ideal.MergeFwd.final13 m c).symm, hargs⟩

end Cert.MergeFwd

end
-- ==== Proof.GradXWKv.Value.lean ====
module

public import proofs.«01_k».proof.Proof.Gen.Kernel12Ideal.Frame
public import proofs.«01_k».proof.Proof.Gen.Reference12Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

/-! # The gradient of the memory's key and value weight -/

set_option maxRecDepth 16384

noncomputable section

open Idealize.ShloMosaic Idealize.ShloMosaic.TcCoe Idealize.SL.Sem
open Idealize.ShloMosaic.Pipeline (Dat)

namespace Cert.Kernel12Ideal.GradXWKv

open Cert.Kernel12Ideal Cert.Kernel12Ideal.Gen

variable (m : (ℓ : Loc nD τ sig) → Buf (Elt Ideal) ℓ)

open Cert.Reference12Ideal.Read

/-- The block every window stages at a grid point. -/
theorem idx : ∀ t : Fin cfg0.N,
    win0_0.index t = ![0, t.val / 2] ∧ win0_1.index t = ![0, t.val % 2] ∧ win0_2.index t = ![t.val / 2, t.val % 2]
    ∧ win0_3.index t = ![t.val / 2, t.val % 2] :=
  (by decide +kernel : ∀ t : Fin grid0.N, _)

/-- What a point leaves in its accumulator is the reference's product there. -/
theorem point (c : Dev nD) (t : Fin cfg0.N) (y : S512x512.Idx) :
    k0_pay2 (F := Ideal) (k0_pay1 (F := Ideal)) (iblk m c 0 t) (iblk m c 1 t) y
      = val_main_v4 (F := Ideal) (m ((c : Thread nD τ).loc main_arg0)) (m ((c : Thread nD τ).loc main_arg2))
          (((cfg0.win 2).blk t).view.emb y) := by
  pointwise [k0_pay2, k0_pay1, val_main_v4, val_main_v3, val_main_v0]
  refine Finset.sum_congr rfl fun k _ => (mul_comm _ _).trans ?_
  blk_point [iblk, V, idx t]

/-- The gradient of the weight, the whole array. -/
theorem final2 (c : Dev nD) : (dats m 0 c).arrAt 2 (cfgs 0).N
    = val_main_v4 (F := Ideal) (m ((c : Thread nD τ).loc main_arg0)) (m ((c : Thread nD τ).loc main_arg2)) := by
  refine (dats m 0 c).arrAt_eq_of_covers 2 _ (by decide +kernel) fun t hf y => ?_
  blk_simp
  rw [after0_2]
  unfold Gen.outsAt0
  frame_out
  exact point m c t y

/-- Its copy in half precision, the whole array. -/
theorem final3 (c : Dev nD) : (dats m 0 c).arrAt 3 (cfgs 0).N
    = val_main_v5 (F := Ideal) (m ((c : Thread nD τ).loc main_arg0)) (m ((c : Thread nD τ).loc main_arg2)) := by
  refine (dats m 0 c).arrAt_eq_of_covers 3 _ (by decide +kernel) fun t hf y => ?_
  blk_simp
  rw [after0_3]
  unfold Gen.outsAt0
  frame_out
  exact point m c t y

end Cert.Kernel12Ideal.GradXWKv

end
-- ==== Proof.GradXWKv.Claims.lean ====
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import proofs.«01_k».proof.Proof.GradXWKv.Value
public import proofs.«01_k».proof.Proof.Gen.Kernel12Ideal.Value
public import proofs.«01_k».proof.Proof.Gen.Reference12Ideal.Read
public import Idealize.ShloMosaic.Lib.Quiescent

@[expose] public section

/-! # The gradient of the memory's key and value weight: its claims -/

set_option maxRecDepth 16384

noncomputable section

namespace Cert.GradXWKv

open Idealize.ShloMosaic Idealize.ShloMosaic.TcCoe Idealize.SL.Sem

/-- The kernel runs to completion, keeps its arguments and leaves every semaphore at zero. -/
theorem kernel_frame : Cert.quiescent_Kernel12 := fun m g _ => Cert.Kernel12.Gen.frame m g

/-- The same over the extended reals. -/
theorem ideal_frame : Cert.quiescent_Kernel12Ideal := fun m g _ => Cert.Kernel12Ideal.Gen.frame m g

/-- The same for the reference. -/
theorem reference_frame : Cert.quiescent_Reference12Ideal := fun m g _ =>
  (θ_run Cert.Reference12Ideal.defs _ _).mono
    (fun r h => ⟨fun c => (h c).2.2, sem_eq_zero_of_no_sems (by decide) r.2⟩)
    (Cert.Reference12Ideal.Value.run (F := Ideal) m g)

open Cert.Reference12Ideal.Read in
/-- Over the extended reals kernel and reference have the same two results: the weight's gradient and its copy in half
precision. -/
theorem algebraic : Cert.algebraic_Kernel12Ideal_Reference12Ideal := by
  intro m g m' g' _ hag
  refine ⟨_, _, Cert.Kernel12Ideal.Value.run_blocks m g,
    (θ_run Cert.Reference12Ideal.defs _ _).mono (fun r h c => ?_) (Cert.Reference12Ideal.Value.run m' g')⟩
  obtain ⟨h0, h1, hargs⟩ := h c
  obtain ⟨e0, e1, e2⟩ := hag c
  rw [val_main_v4_eq, e0, e2] at h0
  rw [val_main_v5_eq, e0, e2] at h1
  exact ⟨h0.trans (Cert.Kernel12Ideal.GradXWKv.final2 m c).symm,
    h1.trans (Cert.Kernel12Ideal.GradXWKv.final3 m c).symm, hargs⟩

end Cert.GradXWKv

end
-- ==== Proof.GradGateB.Value.lean ====
module

public import proofs.«01_k».proof.Proof.Gen.Kernel13Ideal.Frame
public import proofs.«01_k».proof.Proof.Gen.Reference13Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

/-! # The gradient of the merge gates' bias -/

set_option maxRecDepth 16384

noncomputable section

open Idealize.ShloMosaic Idealize.ShloMosaic.TcCoe Idealize.SL.Sem
open Idealize.ShloMosaic.Pipeline (Dat)

namespace Cert.Kernel13Ideal.GradGateB

open Cert.Kernel13Ideal Cert.Kernel13Ideal.Gen

variable (m : (ℓ : Loc nD τ sig) → Buf (Elt Ideal) ℓ)

open Cert.Reference13Ideal.Read

/-- The block every window stages at a grid point. -/
theorem idx : ∀ t : Fin cfg0.N, win0_0.index t = ![0, t.val] ∧ win0_1.index t = ![0, t.val] :=
  (by decide +kernel : ∀ t : Fin grid0.N, _)

/-- What a point leaves in its row is the reference's row there. -/
theorem point (c : Dev nD) (t : Fin cfg0.N) (y : S1x512.Idx) :
    k0_pay2 (F := Ideal) (k0_pay1 (F := Ideal)) (iblk m c 0 t) y
      = val_main_v4 (F := Ideal) (m ((c : Thread nD τ).loc main_arg2)) (((cfg0.win 1).blk t).view.emb y) := by
  pointwise [k0_pay2, k0_pay1, val_main_v4, val_main_v3, val_main_cst, val_main_v2]
  blk_point [iblk, V, idx t]

/-- The gradient of the bias, the whole row. -/
theorem final1 (c : Dev nD) : (dats m 0 c).arrAt 1 (cfgs 0).N
    = val_main_v4 (F := Ideal) (m ((c : Thread nD τ).loc main_arg2)) := by
  refine (dats m 0 c).arrAt_eq_of_covers 1 _ (by decide +kernel) fun t hf y => ?_
  blk_simp
  rw [after0_1]
  unfold Gen.outsAt0
  frame_out
  exact point m c t y

end Cert.Kernel13Ideal.GradGateB

end
-- ==== Proof.GradGateB.Claims.lean ====
module

public import proofs.«01_k».proof.Defs
public import proofs.«01_k».proof.Proof.Gen.Kernel13.Frame
public import proofs.«01_k».proof.Proof.Gen.Kernel13Ideal.Frame
public import proofs.«01_k».proof.Proof.Gen.Reference13Ideal.Run
public import proofs.«01_k».proof.Proof.GradGateB.Value
public import proofs.«01_k».proof.Proof.Gen.Kernel13Ideal.Value
public import proofs.«01_k».proof.Proof.Gen.Reference13Ideal.Read
public import Idealize.ShloMosaic.Lib.Quiescent

@[expose] public section

/-! # The gradient of the merge gates' bias: its claims -/

set_option maxRecDepth 16384

noncomputable section

namespace Cert.GradGateB

open Idealize.ShloMosaic Idealize.ShloMosaic.TcCoe Idealize.SL.Sem

/-- The kernel runs to completion, keeps its arguments and leaves every semaphore at zero. -/
theorem kernel_frame : Cert.quiescent_Kernel13 := fun m g _ => Cert.Kernel13.Gen.frame m g

/-- The same over the extended reals. -/
theorem ideal_frame : Cert.quiescent_Kernel13Ideal := fun m g _ => Cert.Kernel13Ideal.Gen.frame m g

/-- The same for the reference. -/
theorem reference_frame : Cert.quiescent_Reference13Ideal := fun m g _ =>
  (θ_run Cert.Reference13Ideal.defs _ _).mono
    (fun r h => ⟨fun c => (h c).2, sem_eq_zero_of_no_sems (by decide) r.2⟩)
    (Cert.Reference13Ideal.Value.run (F := Ideal) m g)

open Cert.Reference13Ideal.Read in
/-- Over the extended reals kernel and reference have the same result: the bias's gradient. -/
theorem algebraic : Cert.algebraic_Kernel13Ideal_Reference13Ideal := by
  intro m g m' g' _ hag
  refine ⟨_, Cert.Kernel13Ideal.Value.run_blocks m g,
    (θ_run Cert.Reference13Ideal.defs _ _).mono (fun r h c => ?_) (Cert.Reference13Ideal.Value.run m' g')⟩
  obtain ⟨h0, hargs⟩ := h c
  obtain ⟨e0, e1, e2⟩ := hag c
  rw [val_main_v4_eq, e2] at h0
  exact ⟨h0.trans (Cert.Kernel13Ideal.GradGateB.final1 m c).symm, hargs⟩

end Cert.GradGateB

end
-- ==== Proof.DMemory.Value.lean ====
module

public import proofs.«01_k».proof.Proof.Gen.Kernel14Ideal.Frame
public import proofs.«01_k».proof.Proof.Gen.Reference14Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

/-! # The gradient of the normalised memory -/

set_option maxRecDepth 16384

noncomputable section

open Idealize.ShloMosaic Idealize.ShloMosaic.TcCoe Idealize.SL.Sem
open Idealize.ShloMosaic.Pipeline (Dat)

namespace Cert.Kernel14Ideal.DMemory

open Cert.Kernel14Ideal Cert.Kernel14Ideal.Gen

variable (m : (ℓ : Loc nD τ sig) → Buf (Elt Ideal) ℓ)

open Cert.Reference14Ideal.Read

/-- The block every window stages at a grid point. -/
theorem idx : ∀ t : Fin cfg0.N,
    win0_0.index t = ![0, 0] ∧ win0_1.index t = ![t.val, 0] ∧ win0_2.index t = ![0, t.val] :=
  (by decide +kernel : ∀ t : Fin grid0.N, _)

/-- What a point leaves in its accumulator is the reference's product there. -/
theorem point (c : Dev nD) (t : Fin cfg0.N) (y : S256x512.Idx) :
    k0_pay2 (F := Ideal) (k0_pay1 (F := Ideal)) (iblk m c 0 t) (iblk m c 1 t) y
      = val_main_v3 (F := Ideal) (m ((c : Thread nD τ).loc main_arg1)) (m ((c : Thread nD τ).loc main_arg2))
          (((cfg0.win 2).blk t).view.emb y) := by
  pointwise [k0_pay2, k0_pay1, val_main_v3, val_main_v1]
  refine Finset.sum_congr rfl fun k _ => ?_
  blk_point [iblk, V, idx t]

/-- The gradient of the normalised memory, the whole array. -/
theorem final2 (c : Dev nD) : (dats m 0 c).arrAt 2 (cfgs 0).N
    = val_main_v3 (F := Ideal) (m ((c : Thread nD τ).loc main_arg1)) (m ((c : Thread nD τ).loc main_arg2)) := by
  refine (dats m 0 c).arrAt_eq_of_covers 2 _ (by decide +kernel) fun t hf y => ?_
  blk_simp
  rw [after0_2]
  unfold Gen.outsAt0
  frame_out
  exact point m c t y

end Cert.Kernel14Ideal.DMemory

end
-- ==== Proof.DMemory.Claims.lean ====
module

public import proofs.«01_k».proof.Defs
public import proofs.«01_k».proof.Proof.Gen.Kernel14.Frame
public import proofs.«01_k».proof.Proof.Gen.Kernel14Ideal.Frame
public import proofs.«01_k».proof.Proof.Gen.Reference14Ideal.Run
public import proofs.«01_k».proof.Proof.DMemory.Value
public import proofs.«01_k».proof.Proof.Gen.Kernel14Ideal.Value
public import proofs.«01_k».proof.Proof.Gen.Reference14Ideal.Read
public import Idealize.ShloMosaic.Lib.Quiescent

@[expose] public section

/-! # The gradient of the normalised memory: its claims -/

set_option maxRecDepth 16384

noncomputable section

namespace Cert.DMemory

open Idealize.ShloMosaic Idealize.ShloMosaic.TcCoe Idealize.SL.Sem

/-- The kernel runs to completion, keeps its arguments and leaves every semaphore at zero. -/
theorem kernel_frame : Cert.quiescent_Kernel14 := fun m g _ => Cert.Kernel14.Gen.frame m g

/-- The same over the extended reals. -/
theorem ideal_frame : Cert.quiescent_Kernel14Ideal := fun m g _ => Cert.Kernel14Ideal.Gen.frame m g

/-- The same for the reference. -/
theorem reference_frame : Cert.quiescent_Reference14Ideal := fun m g _ =>
  (θ_run Cert.Reference14Ideal.defs _ _).mono
    (fun r h => ⟨fun c => (h c).2, sem_eq_zero_of_no_sems (by decide) r.2⟩)
    (Cert.Reference14Ideal.Value.run (F := Ideal) m g)

open Cert.Reference14Ideal.Read in
/-- Over the extended reals kernel and reference have the same result: the gradient of the normalised memory. -/
theorem algebraic : Cert.algebraic_Kernel14Ideal_Reference14Ideal := by
  intro m g m' g' _ hag
  refine ⟨_, Cert.Kernel14Ideal.Value.run_blocks m g,
    (θ_run Cert.Reference14Ideal.defs _ _).mono (fun r h c => ?_) (Cert.Reference14Ideal.Value.run m' g')⟩
  obtain ⟨h0, hargs⟩ := h c
  obtain ⟨e0, e1, e2⟩ := hag c
  rw [val_main_v3_eq, e1, e2] at h0
  exact ⟨h0.trans (Cert.Kernel14Ideal.DMemory.final2 m c).symm, hargs⟩

end Cert.DMemory

end
-- ==== Proof.GradMemG.Value.lean ====
module

public import proofs.«01_k».proof.Proof.Gen.Kernel15Ideal.Frame
public import proofs.«01_k».proof.Proof.Gen.Reference15Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

/-! # The gradient of the memory's gain -/

set_option maxRecDepth 16384

noncomputable section

open Idealize.ShloMosaic Idealize.ShloMosaic.TcCoe Idealize.SL.Sem
open Idealize.ShloMosaic.Pipeline (Dat)

namespace Cert.Kernel15Ideal.GradMemG

open Cert.Kernel15Ideal Cert.Kernel15Ideal.Gen

variable (m : (ℓ : Loc nD τ sig) → Buf (Elt Ideal) ℓ)

open Cert.Reference15Ideal.Read

/-- The block every window stages at the one grid point. -/
theorem idx : ∀ t : Fin cfg0.N, win0_0.index t = ![0, 0] ∧ win0_1.index t = ![0, 0] ∧ win0_2.index t = ![0, 0] :=
  (by decide +kernel : ∀ t : Fin grid0.N, _)

/-- What the one point leaves in its row is the reference's row. -/
theorem point (c : Dev nD) (t : Fin cfg0.N) (y : S1x2048.Idx) :
    k0_pay1 (F := Ideal) (iblk m c 0 t) (iblk m c 1 t) y
      = val_main_v14 (F := Ideal) (m ((c : Thread nD τ).loc main_arg0)) (m ((c : Thread nD τ).loc main_arg2))
          (((cfg0.win 2).blk t).view.emb y) := by
  pointwise [k0_pay1, val_main_v14, val_main_v13, val_main_cst_2, val_main_v12, val_main_v9, val_main_v8, val_main_v7,
    val_main_v6, val_main_v5, val_main_cst_1, val_main_v4, val_main_v3, val_main_cst_0, val_main_v2, val_main_v1,
    val_main_cst, val_main_v0]
  refine Finset.sum_congr rfl fun k _ => (mul_assoc _ _ _).trans ((mul_comm _ _).trans ?_)
  blk_point [iblk, V, idx t]

/-- The gradient of the gain, the whole row. -/
theorem final2 (c : Dev nD) : (dats m 0 c).arrAt 2 (cfgs 0).N
    = val_main_v14 (F := Ideal) (m ((c : Thread nD τ).loc main_arg0)) (m ((c : Thread nD τ).loc main_arg2)) := by
  refine (dats m 0 c).arrAt_eq_of_covers 2 _ (by decide +kernel) fun t hf y => ?_
  blk_simp
  rw [after0_2]
  unfold out0_2
  frame_out
  exact point m c t y

end Cert.Kernel15Ideal.GradMemG

end
-- ==== Proof.GradMemG.Claims.lean ====
module

public import proofs.«01_k».proof.Defs
public import proofs.«01_k».proof.Proof.Gen.Kernel15.Frame
public import proofs.«01_k».proof.Proof.Gen.Kernel15Ideal.Frame
public import proofs.«01_k».proof.Proof.Gen.Reference15Ideal.Run
public import proofs.«01_k».proof.Proof.GradMemG.Value
public import proofs.«01_k».proof.Proof.Gen.Kernel15Ideal.Value
public import proofs.«01_k».proof.Proof.Gen.Reference15Ideal.Read
public import Idealize.ShloMosaic.Lib.Quiescent

@[expose] public section

/-! # The gradient of the memory's gain: its claims -/

set_option maxRecDepth 16384

noncomputable section

namespace Cert.GradMemG

open Idealize.ShloMosaic Idealize.ShloMosaic.TcCoe Idealize.SL.Sem

/-- The kernel runs to completion, keeps its arguments and leaves every semaphore at zero. -/
theorem kernel_frame : Cert.quiescent_Kernel15 := fun m g _ => Cert.Kernel15.Gen.frame m g

/-- The same over the extended reals. -/
theorem ideal_frame : Cert.quiescent_Kernel15Ideal := fun m g _ => Cert.Kernel15Ideal.Gen.frame m g

/-- The same for the reference. -/
theorem reference_frame : Cert.quiescent_Reference15Ideal := fun m g _ =>
  (θ_run Cert.Reference15Ideal.defs _ _).mono
    (fun r h => ⟨fun c => (h c).2, sem_eq_zero_of_no_sems (by decide) r.2⟩)
    (Cert.Reference15Ideal.Value.run (F := Ideal) m g)

open Cert.Reference15Ideal.Read in
/-- Over the extended reals kernel and reference have the same result: the gain's gradient. -/
theorem algebraic : Cert.algebraic_Kernel15Ideal_Reference15Ideal := by
  intro m g m' g' _ hag
  refine ⟨_, Cert.Kernel15Ideal.Value.run_blocks m g,
    (θ_run Cert.Reference15Ideal.defs _ _).mono (fun r h c => ?_) (Cert.Reference15Ideal.Value.run m' g')⟩
  obtain ⟨h0, hargs⟩ := h c
  obtain ⟨e0, e1, e2⟩ := hag c
  rw [val_main_v14_eq, e0, e2] at h0
  exact ⟨h0.trans (Cert.Kernel15Ideal.GradMemG.final2 m c).symm, hargs⟩

end Cert.GradMemG

end
-- ==== Proof.MemKv.Value.lean ====
module

public import proofs.«01_k».proof.Proof.Gen.Kernel16Ideal.Frame
public import proofs.«01_k».proof.Proof.Gen.Reference16Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

/-! # The memory's keys and values -/

set_option maxRecDepth 16384

noncomputable section

open Idealize.ShloMosaic Idealize.ShloMosaic.TcCoe Idealize.SL.Sem
open Idealize.ShloMosaic.Pipeline (Dat)

namespace Cert.Kernel16Ideal.MemKv

open Cert.Kernel16Ideal Cert.Kernel16Ideal.Gen

variable (m : (ℓ : Loc nD τ sig) → Buf (Elt Ideal) ℓ)

open Cert.Reference16Ideal.Read

/-- The block every window stages at the one grid point. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The normalised memory is the reference's. -/
theorem normed (c : Dev nD) (t : Fin cfg0.N) (y : S256x2048.Idx) :
    k0_pay1 (F := Ideal) (iblk m c 0 t) (iblk m c 1 t) y
      = val_main_v11 (F := Ideal) (m ((c : Thread nD τ).loc main_arg0)) (m ((c : Thread nD τ).loc main_arg1)) y := by
  pointwise [k0_pay1, val_main_v11, val_main_v10, val_main_v9, val_main_v8, val_main_v7,
    val_main_v6, val_main_v5, val_main_cst_1, val_main_v4, val_main_v3, val_main_cst_0, val_main_v2, val_main_v1,
    val_main_cst, val_main_v0]
  blk_point [iblk, V, idx t]

/-- The keys and values are the reference's. -/
theorem point (c : Dev nD) (t : Fin cfg0.N) (y : S256x1024.Idx) :
    k0_pay2 (F := Ideal) (iblk m c 0 t) (iblk m c 1 t) (iblk m c 2 t) y
      = val_main_v13 (F := Ideal) (m ((c : Thread nD τ).loc main_arg0)) (m ((c : Thread nD τ).loc main_arg1))
          (m ((c : Thread nD τ).loc main_arg2)) (((cfg0.win 3).blk t).view.emb y) := by
  pointwise [k0_pay2, val_main_v13, val_main_v12]
  simp only [normed]
  refine Finset.sum_congr rfl fun k _ => ?_
  blk_point [iblk, V, idx t]

/-- The keys and values, the whole array. -/
theorem final3 (c : Dev nD) : (dats m 0 c).arrAt 3 (cfgs 0).N
    = val_main_v13 (F := Ideal) (m ((c : Thread nD τ).loc main_arg0)) (m ((c : Thread nD τ).loc main_arg1))
          (m ((c : Thread nD τ).loc main_arg2)) := by
  refine (dats m 0 c).arrAt_eq_of_covers 3 _ (by decide +kernel) fun t hf y => ?_
  blk_simp
  rw [after0_3]
  unfold out0_3
  frame_out
  exact point m c t y

/-- The normalised memory, the whole array. -/
theorem final4 (c : Dev nD) : (dats m 0 c).arrAt 4 (cfgs 0).N
    = val_main_v14 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  unfold out0_4
  frame_out
  refine (normed m c t _).trans (congrArg _ ?_)
  blk_ext [idx t]

end Cert.Kernel16Ideal.MemKv

end
-- ==== Proof.MemKv.Claims.lean ====
module

public import proofs.«01_k».proof.Defs
public import proofs.«01_k».proof.Proof.Gen.Kernel16.Frame
public import proofs.«01_k».proof.Proof.Gen.Kernel16Ideal.Frame
public import proofs.«01_k».proof.Proof.Gen.Reference16Ideal.Run
public import proofs.«01_k».proof.Proof.MemKv.Value
public import proofs.«01_k».proof.Proof.Gen.Kernel16Ideal.Value
public import proofs.«01_k».proof.Proof.Gen.Reference16Ideal.Read
public import Idealize.ShloMosaic.Lib.Quiescent

@[expose] public section

/-! # The memory's keys and values: its claims -/

set_option maxRecDepth 16384

noncomputable section

namespace Cert.MemKv

open Idealize.ShloMosaic Idealize.ShloMosaic.TcCoe Idealize.SL.Sem

/-- The kernel runs to completion, keeps its arguments and leaves every semaphore at zero. -/
theorem kernel_frame : Cert.quiescent_Kernel16 := fun m g _ => Cert.Kernel16.Gen.frame m g

/-- The same over the extended reals. -/
theorem ideal_frame : Cert.quiescent_Kernel16Ideal := fun m g _ => Cert.Kernel16Ideal.Gen.frame m g

/-- The same for the reference. -/
theorem reference_frame : Cert.quiescent_Reference16Ideal := fun m g _ =>
  (θ_run Cert.Reference16Ideal.defs _ _).mono
    (fun r h => ⟨fun c => (h c).2.2, sem_eq_zero_of_no_sems (by decide) r.2⟩)
    (Cert.Reference16Ideal.Value.run (F := Ideal) m g)

open Cert.Reference16Ideal.Read in
/-- Over the extended reals kernel and reference have the same two results: the memory's keys and values, and the
normalised memory in half precision. -/
theorem algebraic : Cert.algebraic_Kernel16Ideal_Reference16Ideal := by
  intro m g m' g' _ hag
  refine ⟨_, _, Cert.Kernel16Ideal.Value.run_blocks m g,
    (θ_run Cert.Reference16Ideal.defs _ _).mono (fun r h c => ?_) (Cert.Reference16Ideal.Value.run m' g')⟩
  obtain ⟨h0, h1, hargs⟩ := h c
  obtain ⟨e0, e1, e2⟩ := hag c
  rw [val_main_v13_eq, e0, e1, e2] at h0
  rw [val_main_v14_eq, e0, e1] at h1
  exact ⟨h0.trans (Cert.Kernel16Ideal.MemKv.final3 m c).symm, h1.trans (Cert.Kernel16Ideal.MemKv.final4 m c).symm, hargs⟩

end Cert.MemKv

end
-- ==== Proof.Shift.Rows.lean ====
module

public import Idealize.ShloMosaic.Lib.Pointwise
public import Idealize.ShloMosaic.Lib.KernelVsHost
public import Idealize.ShloMosaic.Lib.Pipeline.ReadBack

@[expose] public section

/-! # Rows moved by one

The token shift reads the row before and the row after every row, and zero beyond the ends. The kernel rotates the rows and
selects zero in the row that came around; the reference pads by a row of zeros and cuts. -/

noncomputable section

open Idealize.ShloMosaic

namespace Cert.Shift

/-- The index of `i` with its row moved back by `s`, around the end. -/
def back {n : Nat} (s : Nat) (i : (⟨2, ![2048, n]⟩ : Shape).Idx) : (⟨2, ![2048, n]⟩ : Shape).Idx :=
  ix2 ⟨((i 0).val + 2048 - s % 2048) % 2048, Nat.mod_lt _ (by decide)⟩ (i 1)

/-- The kernel's rows rotated by `s`, with `z` in row `r`. -/
theorem rolled (s r : Nat) (hs : s < 2048) (hr : r < 2048) (x : (⟨2, ![2048, 512]⟩ : Shape).Idx → EReal) (z : EReal) (hi) (hx)
    (y : (⟨2, ![2048, 512]⟩ : Shape).Idx) :
    select (cmpi .eq (iota .tc ⟨2, ![2048, 512]⟩ 32 [0] hi) (broadcast ⟨2, ![2048, 512]⟩ (BitVec.ofNat 32 r)))
        (broadcast ⟨2, ![2048, 512]⟩ z) (dynamicRotate 0 (BitVec.ofNat 32 s) none x hx) y
      = if (y 0).val = r then z else x (back s y) := by
  have hy : (y 0).val < 2048 := (y 0).isLt
  have hrot : dynamicRotate 0 (BitVec.ofNat 32 s) none x hx y = x (back s y) := by
    refine dynamicRotate_apply 0 _ x hx y (back s y) fun b => ?_
    have e : (BitVec.ofNat 32 s).toNat = s := by rw [BitVec.toNat_ofNat]; omega
    rw [e]
    match b with
    | ⟨0, _⟩ => rfl
    | ⟨1, _⟩ => rfl
  have hc : cmpi .eq (iota .tc ⟨2, ![2048, 512]⟩ 32 [0] hi) (broadcast ⟨2, ![2048, 512]⟩ (BitVec.ofNat 32 r)) y
      = BitVec.ofBool (BitVec.ofNat 32 (0 * 2048 + (y 0).val) == BitVec.ofNat 32 r) := rfl
  show Scalar.select (cmpi .eq _ _ y) z _ = _
  rw [hc, hrot, Nat.zero_mul, Nat.zero_add]
  by_cases h : (y 0).val = r
  · rw [if_pos h, h]; simp [Scalar.select]
  · have hne : ¬ BitVec.ofNat 32 (y 0).val = BitVec.ofNat 32 r := fun e => h (by
      have := congrArg BitVec.toNat e
      rw [BitVec.toNat_ofNat, BitVec.toNat_ofNat] at this
      omega)
    rw [if_neg h]; unfold Scalar.select; rw [if_neg (by rw [beq_false_of_ne hne]; decide)]

/-- The row before, of the reference: padded in front and cut. -/
theorem padded_prev {n : Nat} (x : (⟨2, ![2048, n]⟩ : Shape).Idx → EReal) {u : Shape} (v : u.Idx → EReal) (hp) (hu) (hs)
    (i : (⟨2, ![2048, n]⟩ : Shape).Idx) :
    extractStridedSlice ⟨2, ![2048, n]⟩ ![0, 0] (pad ⟨2, ![2049, n]⟩ ![1, 0] ![0, 0] ![0, 0] x v hp hu) hs i
      = if (i 0).val = 0 then v (Shape.Idx.first hu) else x (back 1 i) := by
  have hi : (i 0).val < 2048 := (i 0).isLt
  by_cases h : (i 0).val = 0
  · rw [if_pos h]
    refine pad_apply_of_not_inside _ _ _ x v hp hu _ 0 fun hin => ?_
    have := hin.1
    simp [h] at this
  · rw [if_neg h]
    refine pad_apply_of_inside _ _ _ x v hp hu _ (back 1 i) fun b => ?_
    match b with
    | ⟨0, _⟩ =>
      show 0 + (i 0).val = 1 + (((i 0).val + 2048 - 1 % 2048) % 2048) * (0 + 1)
      omega
    | ⟨1, _⟩ =>
      show 0 + (i 1).val = 0 + (i 1).val * (0 + 1)
      omega

/-- The row after, of the reference: padded behind and cut. -/
theorem padded_next {n : Nat} (x : (⟨2, ![2048, n]⟩ : Shape).Idx → EReal) {u : Shape} (v : u.Idx → EReal) (hp) (hu) (hs)
    (i : (⟨2, ![2048, n]⟩ : Shape).Idx) :
    extractStridedSlice ⟨2, ![2048, n]⟩ ![1, 0] (pad ⟨2, ![2049, n]⟩ ![0, 0] ![1, 0] ![0, 0] x v hp hu) hs i
      = if (i 0).val = 2047 then v (Shape.Idx.first hu) else x (back 2047 i) := by
  have hi : (i 0).val < 2048 := (i 0).isLt
  by_cases h : (i 0).val = 2047
  · rw [if_pos h]
    refine pad_apply_of_not_inside _ _ _ x v hp hu _ 0 fun hin => ?_
    have h2 : (1 + (i 0).val - 0) / (0 + 1) < 2048 := hin.2.2
    omega
  · rw [if_neg h]
    refine pad_apply_of_inside _ _ _ x v hp hu _ (back 2047 i) fun b => ?_
    match b with
    | ⟨0, _⟩ =>
      show 1 + (i 0).val = 0 + (((i 0).val + 2048 - 2047 % 2048) % 2048) * (0 + 1)
      omega
    | ⟨1, _⟩ =>
      show 0 + (i 1).val = 0 + (i 1).val * (0 + 1)
      omega

end Cert.Shift

end
-- ==== Proof.GradMu.Value.lean ====
module

public import proofs.«01_k».proof.Proof.Gen.Kernel17Ideal.Frame
public import proofs.«01_k».proof.Proof.Gen.Reference17Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Shift.Rows

@[expose] public section

/-! # The gradient of the token shift's rates -/

set_option maxRecDepth 16384

noncomputable section

open Idealize.ShloMosaic Idealize.ShloMosaic.TcCoe Idealize.SL.Sem
open Idealize.ShloMosaic.Pipeline (Dat)

namespace Cert.Kernel17Ideal.GradMu

open Cert.Kernel17Ideal Cert.Kernel17Ideal.Gen

variable (m : (ℓ : Loc nD τ sig) → Buf (Elt Ideal) ℓ)

open Cert.Reference17Ideal.Read

/-- The block every window stages at a grid point. -/
theorem idx : ∀ t : Fin cfg0.N, win0_0.index t = ![0, 4 + t.val] ∧ win0_2.index t = ![0, t.val] ∧ win0_4.index t = ![0, t.val] :=
  (by decide +kernel : ∀ t : Fin grid0.N, _)

/-- The reference's row before. -/
theorem prev_apply (x : (⟨S2048x12544, .f32⟩ : BufTy).Contents (Elt Ideal)) (i : S2048x2560.Idx) :
    val_main_v2 (F := Ideal) x i = if (i 0).val = 0 then 0 else val_main_v0 (F := Ideal) x (Shift.back 1 i) := by
  have e : val_main_call0_v0 (F := Ideal) (Shape.Idx.first (by decide)) = 0 := by
    pointwise [val_main_call0_v0, val_main_c]
    norm_num [FloatOps.sitofp]
  rw [← e]
  exact Shift.padded_prev (val_main_v0 (F := Ideal) x) (val_main_call0_v0 (F := Ideal)) _ (by decide) _ i

/-- The reference's row after. -/
theorem next_apply (x : (⟨S2048x12544, .f32⟩ : BufTy).Contents (Elt Ideal)) (i : S2048x2560.Idx) :
    val_main_v4 (F := Ideal) x i = if (i 0).val = 2047 then 0 else val_main_v0 (F := Ideal) x (Shift.back 2047 i) := by
  have e : val_main_call1_v0 (F := Ideal) (Shape.Idx.first (by decide)) = 0 := by
    pointwise [val_main_call1_v0, val_main_c_0]
    norm_num [FloatOps.sitofp]
  rw [← e]
  exact Shift.padded_next (val_main_v0 (F := Ideal) x) (val_main_call1_v0 (F := Ideal)) _ (by decide) _ i

/-- What a point leaves in its part of the row is the reference's there. -/
theorem point (c : Dev nD) (t : Fin cfg0.N) (y : S1x512.Idx) :
    k0_pay2 (F := Ideal) (X0_0 m c t) (iblk m c 2 t) y
      = val_main_v14 (F := Ideal) (m ((c : Thread nD τ).loc main_arg0)) (m ((c : Thread nD τ).loc main_arg2))
          (((cfg0.win 4).blk t).view.emb y) := by
  have h : ∀ k : S2048x512.Idx, X0_0 m c t k
      = val_main_v0 (F := Ideal) (m ((c : Thread nD τ).loc main_arg0)) (((cfg0.win 2).blk t).view.emb k) := fun k => by
    unfold X0_0 Pipeline.Window.fill
    rw [dif_pos (moved0_0 t k)]
    pointwise [val_main_v0]
    blk_point [iblk, V, idx t]
  have hrow : ∀ k, ((((cfg0.win 2).blk t).view.emb k) 0).val = (k 0).val := fun k => by
    blk_point [idx t]
  have hb : ∀ s k, Shift.back s (((cfg0.win 2).blk t).view.emb k) = ((cfg0.win 2).blk t).view.emb (Shift.back s k) := fun s k => by
    blk_ext [idx t, Shift.back]
  unfold k0_pay2
  dsimp only
  rw [funext (Shift.rolled 1 0 (by decide) (by decide) (X0_0 m c t) _ _ _),
    funext (Shift.rolled 2047 2047 (by decide) (by decide) (X0_0 m c t) _ _ _)]
  pointwise [val_main_v14, val_main_v13, val_main_cst_1, val_main_v12, val_main_v8, val_main_v7, val_main_v6, val_main_cst,
    val_main_v5]
  refine Finset.sum_congr rfl fun k _ => ?_
  have e : (ix2 k (((cfg0.win 4).blk t).view.emb y 1) : S2048x2560.Idx)
      = ((cfg0.win 2).blk t).view.emb (ix2 k (y 1)) := by
    blk_ext [idx t]
  erw [e]
  rw [prev_apply, next_apply, hrow, hb, hb, ← h, ← h, ← h]
  blk_point [iblk, V, idx t]

/-- The gradient of the shift's rates, the whole row. -/
theorem final4 (c : Dev nD) : (dats m 0 c).arrAt 4 (cfgs 0).N
    = val_main_v14 (F := Ideal) (m ((c : Thread nD τ).loc main_arg0)) (m ((c : Thread nD τ).loc main_arg2)) := by
  refine (dats m 0 c).arrAt_eq_of_covers 4 _ (by decide +kernel) fun t hf y => ?_
  blk_simp
  rw [after0_4]
  unfold Gen.outsAt0
  frame_out
  exact point m c t y

end Cert.Kernel17Ideal.GradMu

end
-- ==== Proof.GradMu.Claims.lean ====
module

public import proofs.«01_k».proof.Defs
public import proofs.«01_k».proof.Proof.Gen.Kernel17.Frame
public import proofs.«01_k».proof.Proof.Gen.Kernel17Ideal.Frame
public import proofs.«01_k».proof.Proof.Gen.Reference17Ideal.Run
public import proofs.«01_k».proof.Proof.GradMu.Value
public import proofs.«01_k».proof.Proof.Gen.Kernel17Ideal.Value
public import proofs.«01_k».proof.Proof.Gen.Reference17Ideal.Read
public import Idealize.ShloMosaic.Lib.Quiescent

@[expose] public section

/-! # The gradient of the token shift's rates: its claims -/

set_option maxRecDepth 16384

noncomputable section

namespace Cert.GradMu

open Idealize.ShloMosaic Idealize.ShloMosaic.TcCoe Idealize.SL.Sem

/-- The kernel runs to completion, keeps its arguments and leaves every semaphore at zero. -/
theorem kernel_frame : Cert.quiescent_Kernel17 := fun m g _ => Cert.Kernel17.Gen.frame m g

/-- The same over the extended reals. -/
theorem ideal_frame : Cert.quiescent_Kernel17Ideal := fun m g _ => Cert.Kernel17Ideal.Gen.frame m g

/-- The same for the reference. -/
theorem reference_frame : Cert.quiescent_Reference17Ideal := fun m g _ =>
  (θ_run Cert.Reference17Ideal.defs _ _).mono
    (fun r h => ⟨fun c => (h c).2, sem_eq_zero_of_no_sems (by decide) r.2⟩)
    (Cert.Reference17Ideal.Value.run (F := Ideal) m g)

open Cert.Reference17Ideal.Read in
/-- Over the extended reals kernel and reference have the same result: the gradient of the shift's rates. -/
theorem algebraic : Cert.algebraic_Kernel17Ideal_Reference17Ideal := by
  intro m g m' g' _ hag
  refine ⟨_, (θ_run Cert.Kernel17Ideal.defs _ _).mono (fun r h c => (h c).2) (Cert.Kernel17Ideal.Value.run_blocks m g),
    (θ_run Cert.Reference17Ideal.defs _ _).mono (fun r h c => ?_) (Cert.Reference17Ideal.Value.run m' g')⟩
  obtain ⟨h0, hargs⟩ := h c
  obtain ⟨e0, e1, e2⟩ := hag c
  rw [val_main_v14_eq, e0, e2] at h0
  exact ⟨h0.trans (Cert.Kernel17Ideal.GradMu.final4 m c).symm, hargs⟩

end Cert.GradMu

end
-- ==== Proof.PostBwd.Sums.lean ====
module

public import proofs.«01_k».proof.Proof.Gen.Kernel18Ideal.Frame
public import proofs.«01_k».proof.Proof.Gen.Reference18Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

/-! # The RWKV group norm's backward pass: sums over a head -/

set_option maxRecDepth 16384

noncomputable section

open Idealize.ShloMosaic Idealize.ShloMosaic.TcCoe Idealize.SL.Sem
open Idealize.ShloMosaic.Pipeline (Dat)

namespace Cert.Kernel18Ideal.PostBwd

open Cert.Kernel18Ideal Cert.Kernel18Ideal.Gen

variable (m : (ℓ : Loc nD τ sig) → Buf (Elt Ideal) ℓ)

open Cert.Reference18Ideal.Read

/-- The integer that the kernel computes for a column is the column's head. -/
theorem head_word : ∀ k : Fin 768,
    Scalar.select
      (IntOp.andi
        (IntOp.cmpi CmpIPredicate.ne
          (IntOp.subi (BitVec.setWidth 32 (IntOp.cmpi CmpIPredicate.sgt (BitVec.ofNat 32 k.val) 0#32))
            (BitVec.setWidth 32 (IntOp.cmpi CmpIPredicate.slt (BitVec.ofNat 32 k.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 k.val) 64#32) 0#32))
      (IntOp.subi (IntOp.divsi ArithUnit.vector (BitVec.ofNat 32 k.val) 64#32) 1#32)
      (IntOp.divsi ArithUnit.vector (BitVec.ofNat 32 k.val) 64#32) = BitVec.ofNat 32 (k.val / 64) := by
  decide +kernel

/-- The kernel's matrix that sums over a head. -/
def seg : FVec Ideal S768x768 .f32 :=
  k0_pay11 k0_pay7 (iota .tc S768x768 32 [1] iota_S768x768_d1_w32) 64#32 k0_pay8 k0_pay9 k0_pay10

/-- It is one where two columns are of one head of 64, else zero. -/
theorem seg_apply (k j : Fin 768) : seg (ix2 k j) = if k.val / 64 = j.val / 64 then 1 else 0 := by
  unfold seg
  pointwise [k0_pay11, k0_pay7, k0_pay8, k0_pay9, k0_pay10]
  rw [head_word k, head_word j]
  by_cases h : k.val / 64 = j.val / 64
  · rw [if_pos h, h]
    simp [IntOp.cmpi, FloatOps.sitofp]
  · have hne : BitVec.ofNat 32 (k.val / 64) ≠ BitVec.ofNat 32 (j.val / 64) := fun e => h (by
      have := congrArg BitVec.toNat e
      simp only [BitVec.toNat_ofNat] at this
      omega)
    rw [if_neg h]
    simp [IntOp.cmpi, FloatOps.sitofp, beq_eq_false_iff_ne.mpr hne]

/-- The column of a lane in the head of a column. -/
def lane (j : Fin 768) (d : Fin 64) : Fin 768 := ⟨j.val / 64 * 64 + d.val, by omega⟩

/-- The sum against the matrix is the sum over the column's head. -/
theorem seg_sum (f : Fin 768 → EReal) (j : Fin 768) : ∑ k, f k * seg (ix2 k j) = ∑ d, f (lane j d) := by
  simp only [seg_apply, mul_ite, mul_one, mul_zero]
  rw [← Finset.sum_filter]
  refine Finset.sum_filter_eq_sum_of_fiber _ (lane j) (fun a b e => ?_) (fun k => ⟨fun h => ?_, ?_⟩) f
  · have := congrArg Fin.val e
    simp only [lane] at this
    exact Fin.ext (by omega)
  · exact ⟨⟨k.val % 64, by omega⟩, Fin.ext (by simp only [lane]; omega)⟩
  · rintro ⟨d, rfl⟩
    simp only [lane]
    omega

/-- The matrix is symmetric. -/
theorem seg_symm (k j : Fin 768) : seg (ix2 j k) = seg (ix2 k j) := by
  rw [seg_apply, seg_apply]
  exact if_congr eq_comm rfl rfl

/-- A product with the matrix sums over a head. -/
theorem dot_seg (x : FVec Ideal S256x768 .f32) (s : Fin 256) (j : Fin 768) :
    matmul (F := Ideal) dot_S256x768_S768x768_S256x768_1_0_0_1_n_n (some .bf16x3) x seg
      (constant S256x768 .f32 0x00000000#32) (ix2 s j) = ∑ d, x (ix2 s (lane j d)) := by
  rw [← seg_sum fun k => x (ix2 s k)]
  pointwise []

/-- So does a product with its transpose. -/
theorem dot_seg' (x : FVec Ideal S256x768 .f32) (s : Fin 256) (j : Fin 768) :
    matmul (F := Ideal) dot_S256x768_S768x768_S256x768_1_1_0_0_n_n (some .bf16x3) x seg
      (constant S256x768 .f32 0x00000000#32) (ix2 s j) = ∑ d, x (ix2 s (lane j d)) := by
  rw [← seg_sum fun k => x (ix2 s k)]
  pointwise []
  simp only [seg_symm]

/-- A sum over a head times 1/64 is the sum over 64. -/
theorem mean64 (x : EReal) : x * Ideal.ofBits .f32 0x3C800000#32 = Ideal.div x (Ideal.ofBits .f32 0x42800000#32) := by
  have h1 : Ideal.ofBits .f32 0x3C800000#32 = ((1 / 64 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2, Ideal.div_coe (by norm_num)]

/-- The sum over a head of the gated gradient times the value. -/
theorem back_sum (v59 v62 v102 : FVec Ideal S256x768 .f32) (s : Fin 256) (j : Fin 768) :
    k0_pay31 seg v59 (k0_pay23 v62 v102) (ix2 s j)
      = ∑ d, k0_pay23 v62 v102 (ix2 s (lane j d)) * v59 (ix2 s (lane j d)) := by
  unfold k0_pay31 k0_pay30
  exact dot_seg' _ s j

/-- The same, the second time that the kernel takes it. -/
theorem back_sum' (v59 v62 v102 : FVec Ideal S256x768 .f32) (s : Fin 256) (j : Fin 768) :
    k0_pay34 seg v59 (k0_pay23 v62 v102) (ix2 s j)
      = ∑ d, k0_pay23 v62 v102 (ix2 s (lane j d)) * v59 (ix2 s (lane j d)) := by
  unfold k0_pay34 k0_pay30
  exact dot_seg' _ s j

/-- The reference's sum over a head of the gated gradient times the value. -/
theorem ref_sum (x2 : FVec Ideal S2048x2560 .f32) (x5 : FVec Ideal S2048x12544 .f32) (x9 : FVec Ideal S2048x768 .f32)
    (r : Fin 2048) (j : Fin 768) :
    val_main_v71 (F := Ideal) x2 x5 x9 (ix3 r ⟨j.val / 64, by omega⟩ ⟨j.val % 64, by omega⟩)
      = ∑ d, val_main_v60 (F := Ideal) x5 x9 (ix2 r (lane j d)) * val_main_v3 (F := Ideal) x2 (ix2 r (lane j d)) := by
  pointwise [val_main_v71, val_main_v70, val_main_v69, val_main_v68, val_main_v67, val_main_v61, val_main_v8, val_main_cst_10,
    val_main_cst_11]
  exact Fin.sum_univ_one _

/-- The same, the second time. -/
theorem ref_sum' (x2 : FVec Ideal S2048x2560 .f32) (x5 : FVec Ideal S2048x12544 .f32) (x9 : FVec Ideal S2048x768 .f32)
    (r : Fin 2048) (j : Fin 768) :
    val_main_v84 (F := Ideal) x2 x5 x9 (ix3 r ⟨j.val / 64, by omega⟩ ⟨j.val % 64, by omega⟩)
      = ∑ d, val_main_v60 (F := Ideal) x5 x9 (ix2 r (lane j d)) * val_main_v3 (F := Ideal) x2 (ix2 r (lane j d)) :=
  ref_sum x2 x5 x9 r j

end Cert.Kernel18Ideal.PostBwd

end
-- ==== Proof.PostBwd.Value.lean ====
module

public import proofs.«01_k».proof.Proof.Gen.Kernel18Ideal.Frame
public import proofs.«01_k».proof.Proof.Gen.Reference18Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.PostBwd.Sums

@[expose] public section

/-! # The RWKV group norm's backward pass: its results -/

set_option maxRecDepth 16384

noncomputable section

open Idealize.ShloMosaic Idealize.ShloMosaic.TcCoe Idealize.SL.Sem
open Idealize.ShloMosaic.Pipeline (Dat)

namespace Cert.Kernel18Ideal.PostBwd

open Cert.Kernel18Ideal Cert.Kernel18Ideal.Gen

variable (m : (ℓ : Loc nD τ sig) → Buf (Elt Ideal) ℓ)

open Cert.Reference18Ideal.Read

/-- The block every window stages at a grid point. -/
theorem idx : ∀ t : Fin cfg0.N, win0_0.index t = ![t.val, 0] ∧ win0_1.index t = ![t.val, 0] ∧ win0_2.index t = ![t.val, 0]
    ∧ win0_3.index t = ![t.val, 2] ∧ win0_4.index t = ![t.val, 0] ∧ win0_5.index t = ![t.val, 0] ∧ win0_6.index t = ![t.val, 6]
    ∧ win0_7.index t = ![0, 0] ∧ win0_10.index t = ![t.val, 0] ∧ win0_12.index t = ![t.val, 0] ∧ win0_14.index t = ![t.val, 0]
    ∧ win0_15.index t = ![t.val, 0] ∧ win0_17.index t = ![0, 0] ∧ win0_18.index t = ![0, 0] ∧ win0_19.index t = ![0, 0] :=
  (by decide +kernel : ∀ t : Fin grid0.N, _)

/-- The arguments. -/
abbrev A0 (c : Dev nD) : FVec Ideal S2048x768 .f32 := m ((c : Thread nD τ).loc main_arg0)
abbrev A1 (c : Dev nD) : FVec Ideal S2048x768 .f32 := m ((c : Thread nD τ).loc main_arg1)
abbrev A2 (c : Dev nD) : FVec Ideal S2048x2560 .f32 := m ((c : Thread nD τ).loc main_arg2)
abbrev A3 (c : Dev nD) : FVec Ideal S2048x768 .f32 := m ((c : Thread nD τ).loc main_arg3)
abbrev A4 (c : Dev nD) : FVec Ideal S2048x768 .f32 := m ((c : Thread nD τ).loc main_arg4)
abbrev A5 (c : Dev nD) : FVec Ideal S2048x12544 .f32 := m ((c : Thread nD τ).loc main_arg5)
abbrev A6 (c : Dev nD) : FVec Ideal S1x768 .f32 := m ((c : Thread nD τ).loc main_arg6)
abbrev A9 (c : Dev nD) : FVec Ideal S2048x768 .f32 := m ((c : Thread nD τ).loc main_arg9)

/-- The array's row of a row of a block. -/
def row (t : Fin cfg0.N) (s : Fin 256) : Fin 2048 := ⟨t.val * 256 + s.val, by have := t.isLt; have : t.val < 8 := lt_of_lt_of_eq t.isLt N_0; omega⟩

/-- The receptance, as the block holds it. -/
theorem read_r (c : Dev nD) (t : Fin cfg0.N) (s : Fin 256) (j : Fin 768) :
    X0_2 m c t (ix2 s j) = val_main_v1 (F := Ideal) (A2 m c) (ix2 (row t s) j) := by
  unfold X0_2 Pipeline.Window.fill
  rw [dif_pos (moved0_2 t _)]
  pointwise [val_main_v1, val_main_v0]
  blk_point [iblk, V, idx t, row]

/-- The value. -/
theorem read_v (c : Dev nD) (t : Fin cfg0.N) (s : Fin 256) (j : Fin 768) :
    X0_3 m c t (ix2 s j) = val_main_v3 (F := Ideal) (A2 m c) (ix2 (row t s) j) := by
  unfold X0_3 Pipeline.Window.fill
  rw [dif_pos (moved0_3 t _)]
  pointwise [val_main_v3, val_main_v0]
  blk_point [iblk, V, idx t, row]

/-- The gate's argument. -/
theorem read_g (c : Dev nD) (t : Fin cfg0.N) (s : Fin 256) (j : Fin 768) :
    X0_6 m c t (ix2 s j) = val_main_v4 (F := Ideal) (A5 m c) (ix2 (row t s) j) := by
  unfold X0_6 Pipeline.Window.fill
  rw [dif_pos (moved0_6 t _)]
  pointwise [val_main_v4]
  blk_point [iblk, V, idx t, row]

/-- The two keys. -/
theorem read_k0 (c : Dev nD) (t : Fin cfg0.N) (s : Fin 256) (j : Fin 768) :
    iblk m c 4 t (ix2 s j) = A3 m c (ix2 (row t s) j) := by
  blk_point [iblk, V, idx t, row]
theorem read_k1 (c : Dev nD) (t : Fin cfg0.N) (s : Fin 256) (j : Fin 768) :
    iblk m c 5 t (ix2 s j) = A4 m c (ix2 (row t s) j) := by
  blk_point [iblk, V, idx t, row]

/-- The bonus's weight. -/
theorem read_rk (c : Dev nD) (t : Fin cfg0.N) (j : Fin 768) : iblk m c 7 t (ix2 0 j) = A6 m c (ix2 0 j) := by
  blk_point [iblk, V, idx t]

/-- The sum of the two scans' outputs. -/
theorem read_sum (c : Dev nD) (t : Fin cfg0.N) (s : Fin 256) (j : Fin 768) :
    k0_pay12 (iblk m c 0 t) (iblk m c 1 t) (ix2 s j) = val_main_v5 (F := Ideal) (A0 m c) (A1 m c) (ix2 (row t s) j) := by
  pointwise [k0_pay12, val_main_v5]
  blk_point [iblk, V, idx t, row]

/-- The incoming gradient times the gate. -/
theorem read_gated (c : Dev nD) (t : Fin cfg0.N) (s : Fin 256) (j : Fin 768) :
    k0_pay23 (X0_6 m c t) (iblk m c 10 t) (ix2 s j)
      = val_main_v60 (F := Ideal) (A5 m c) (A9 m c) (ix2 (row t s) j) := by
  have h : iblk m c 10 t (ix2 s j) = A9 m c (ix2 (row t s) j) := by blk_point [iblk, V, idx t, row]
  pointwise [k0_pay23, k0_pay22, val_main_v60, val_main_v58, val_main_v57, val_main_v56, val_main_v55, val_main_v54,
    val_main_v53, val_main_v52, val_main_cst_6, val_main_cst_7, Ideal.logistic]
  rw [h, read_g]

/-- The sum over a head of the gated gradient times the value. -/
theorem head_sum (c : Dev nD) (t : Fin cfg0.N) (s : Fin 256) (j : Fin 768) :
    k0_pay31 seg (X0_3 m c t) (k0_pay23 (X0_6 m c t) (iblk m c 10 t)) (ix2 s j)
      = val_main_v71 (F := Ideal) (A2 m c) (A5 m c) (A9 m c) (ix3 (row t s) ⟨j.val / 64, by omega⟩ ⟨j.val % 64, by omega⟩) := by
  rw [back_sum, ref_sum]
  refine Finset.sum_congr rfl fun d _ => ?_
  rw [read_gated, read_v]

/-- The same, the second time. -/
theorem head_sum' (c : Dev nD) (t : Fin cfg0.N) (s : Fin 256) (j : Fin 768) :
    k0_pay34 seg (X0_3 m c t) (k0_pay23 (X0_6 m c t) (iblk m c 10 t)) (ix2 s j)
      = val_main_v84 (F := Ideal) (A2 m c) (A5 m c) (A9 m c) (ix3 (row t s) ⟨j.val / 64, by omega⟩ ⟨j.val % 64, by omega⟩) :=
  head_sum m c t s j

/-- The gradient of the receptance at a row of a block. -/
theorem point_r (c : Dev nD) (t : Fin cfg0.N) (s : Fin 256) (j : Fin 768) :
    k0_pay38 seg (X0_3 m c t) (iblk m c 4 t) (iblk m c 5 t) (iblk m c 7 t) (k0_pay23 (X0_6 m c t) (iblk m c 10 t)) (ix2 s j)
      = val_main_v96 (F := Ideal) (A2 m c) (A3 m c) (A4 m c) (A5 m c) (A6 m c) (A9 m c) (ix2 (row t s) j) := by
  pointwise [k0_pay38, k0_pay36, k0_pay32, val_main_v96, val_main_v93, val_main_v92, val_main_v90, val_main_v89, val_main_v78,
    val_main_v76, val_main_v75, val_main_v9, val_main_v10, val_main_v18]
  rw [head_sum, head_sum', read_k0, read_k1, read_rk]

/-- The gradient of the first key. -/
theorem point_k0 (c : Dev nD) (t : Fin cfg0.N) (s : Fin 256) (j : Fin 768) :
    k0_pay37 seg (X0_2 m c t) (X0_3 m c t) (iblk m c 7 t) (k0_pay23 (X0_6 m c t) (iblk m c 10 t)) (ix2 s j)
      = val_main_v94 (F := Ideal) (A2 m c) (A5 m c) (A6 m c) (A9 m c) (ix2 (row t s) j) := by
  pointwise [k0_pay37, k0_pay36, val_main_v94, val_main_v91, val_main_v90, val_main_v89, val_main_v9, val_main_v7]
  rw [head_sum', read_r, read_rk]

/-- The gradient of the second key. -/
theorem point_k1 (c : Dev nD) (t : Fin cfg0.N) (s : Fin 256) (j : Fin 768) :
    k0_pay33 seg (X0_2 m c t) (X0_3 m c t) (iblk m c 7 t) (k0_pay23 (X0_6 m c t) (iblk m c 10 t)) (ix2 s j)
      = val_main_v79 (F := Ideal) (A2 m c) (A5 m c) (A6 m c) (A9 m c) (ix2 (row t s) j) := by
  pointwise [k0_pay33, k0_pay32, val_main_v79, val_main_v77, val_main_v76, val_main_v75, val_main_v9, val_main_v7]
  rw [head_sum, read_r, read_rk]

/-- The normalised sum of the scans' outputs, as the kernel computes it. -/
def unit (c : Dev nD) (t : Fin cfg0.N) : FVec Ideal S256x768 .f32 :=
  k0_pay21 seg (k0_pay12 (iblk m c 0 t) (iblk m c 1 t))
    (k0_pay17 k0_pay7 (iota .tc S768x768 32 [1] iota_S768x768_d1_w32) 64#32 k0_pay8 k0_pay9 k0_pay10 (iblk m c 0 t) (iblk m c 1 t))
    (Scalar.ofBits .f32 0x3C800000#32)

/-- Its deviation from the head's mean. -/
theorem cen (c : Dev nD) (t : Fin cfg0.N) (s : Fin 256) (j : Fin 768) :
    k0_pay18 (k0_pay12 (iblk m c 0 t) (iblk m c 1 t))
      (k0_pay17 k0_pay7 (iota .tc S768x768 32 [1] iota_S768x768_d1_w32) 64#32 k0_pay8 k0_pay9 k0_pay10 (iblk m c 0 t) (iblk m c 1 t))
      (Scalar.ofBits .f32 0x3C800000#32) (ix2 s j)
      = val_main_v5 (F := Ideal) (A0 m c) (A1 m c) (ix2 (row t s) j)
        - Ideal.div (∑ d, val_main_v5 (F := Ideal) (A0 m c) (A1 m c) (ix2 (row t s) (lane j d))) (Ideal.ofBits .f32 0x42800000#32) := by
  have h : k0_pay17 k0_pay7 (iota .tc S768x768 32 [1] iota_S768x768_d1_w32) 64#32 k0_pay8 k0_pay9 k0_pay10 (iblk m c 0 t)
      (iblk m c 1 t) (ix2 s j) = ∑ d, val_main_v5 (F := Ideal) (A0 m c) (A1 m c) (ix2 (row t s) (lane j d)) := by
    unfold k0_pay17
    refine (dot_seg _ s j).trans (Finset.sum_congr rfl fun d _ => read_sum m c t s _)
  pointwise [k0_pay18]
  rw [h, read_sum, mean64]

/-- A lane of a column's head names the head again. -/
theorem lane_lane (j : Fin 768) (d e : Fin 64) : lane (lane j d) e = lane j e :=
  Fin.ext (by simp only [lane]; omega)

/-- The kernel's normalised sum is the reference's. -/
theorem read_unit (c : Dev nD) (t : Fin cfg0.N) (s : Fin 256) (j : Fin 768) :
    unit m c t (ix2 s j) = val_main_v45 (F := Ideal) (A0 m c) (A1 m c) (ix2 (row t s) j) := by
  unfold unit k0_pay21 k0_pay20 k0_pay19
  dsimp only
  generalize hv : k0_pay18 (k0_pay12 (iblk m c 0 t) (iblk m c 1 t)) _ _ = v
  have hc : ∀ j, v (ix2 s j) = _ := fun j => hv ▸ cen m c t s j
  pointwise [val_main_v45, val_main_v44, val_main_v43, val_main_v42, val_main_v41, val_main_v40, val_main_v39, val_main_v38,
    val_main_v37, val_main_v36, val_main_v35, val_main_v34, val_main_v33, val_main_v32, val_main_v31, val_main_v30,
    val_main_v29, val_main_v28, val_main_v27, val_main_v6, val_main_cst_5, val_main_cst_4, val_main_cst_3, val_main_cst_2,
    val_main_cst_1]
  rw [seg_sum fun x => v (ix2 s x) * v (ix2 s x), mean64]
  simp only [hc, lane_lane]
  rfl

/-- The gradient of the receptance, the whole array. -/
theorem final12 (c : Dev nD) : (dats m 0 c).arrAt 12 (cfgs 0).N
    = val_main_v96 (F := Ideal) (A2 m c) (A3 m c) (A4 m c) (A5 m c) (A6 m c) (A9 m c) := by
  refine (dats m 0 c).arrAt_eq_of_covers 12 _ (by decide +kernel) fun t hf y => ?_
  blk_simp
  obtain ⟨s, j, rfl⟩ : ∃ (s : Fin 256) (j : Fin 768), y = ix2 s j := ⟨y 0, y 1, by blk_ext⟩
  have e : ((cfg0.win 12).blk t).view.emb (ix2 s j) = ix2 (row t s) j := by blk_ext [idx t, row]
  refine Eq.trans ?_ ((point_r m c t s j).trans (congrArg _ e.symm))
  rw [after0_12]
  by_cases h0 : t.val % 8 = 0
  · rw [outsAt0_A m c t h0]
    frame_out
    rfl
  · rw [outsAt0_B m c t h0]
    frame_out
    rfl

/-- The gradient of the first key, the whole array. -/
theorem final14 (c : Dev nD) : (dats m 0 c).arrAt 14 (cfgs 0).N
    = val_main_v94 (F := Ideal) (A2 m c) (A5 m c) (A6 m c) (A9 m c) := by
  refine (dats m 0 c).arrAt_eq_of_covers 14 _ (by decide +kernel) fun t hf y => ?_
  blk_simp
  obtain ⟨s, j, rfl⟩ : ∃ (s : Fin 256) (j : Fin 768), y = ix2 s j := ⟨y 0, y 1, by blk_ext⟩
  have e : ((cfg0.win 14).blk t).view.emb (ix2 s j) = ix2 (row t s) j := by blk_ext [idx t, row]
  refine Eq.trans ?_ ((point_k0 m c t s j).trans (congrArg _ e.symm))
  rw [after0_14]
  by_cases h0 : t.val % 8 = 0
  · rw [outsAt0_A m c t h0]
    frame_out
    rfl
  · rw [outsAt0_B m c t h0]
    frame_out
    rfl

/-- The gradient of the second key, the whole array. -/
theorem final15 (c : Dev nD) : (dats m 0 c).arrAt 15 (cfgs 0).N
    = val_main_v79 (F := Ideal) (A2 m c) (A5 m c) (A6 m c) (A9 m c) := by
  refine (dats m 0 c).arrAt_eq_of_covers 15 _ (by decide +kernel) fun t hf y => ?_
  blk_simp
  obtain ⟨s, j, rfl⟩ : ∃ (s : Fin 256) (j : Fin 768), y = ix2 s j := ⟨y 0, y 1, by blk_ext⟩
  have e : ((cfg0.win 15).blk t).view.emb (ix2 s j) = ix2 (row t s) j := by blk_ext [idx t, row]
  refine Eq.trans ?_ ((point_k1 m c t s j).trans (congrArg _ e.symm))
  rw [after0_15]
  by_cases h0 : t.val % 8 = 0
  · rw [outsAt0_A m c t h0]
    frame_out
    rfl
  · rw [outsAt0_B m c t h0]
    frame_out
    rfl

end Cert.Kernel18Ideal.PostBwd

end
-- ==== Proof.PostBwd.Weights.lean ====
module

public import proofs.«01_k».proof.Proof.Gen.Kernel18Ideal.Frame
public import proofs.«01_k».proof.Proof.Gen.Reference18Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.PostBwd.Value

@[expose] public section

/-! # The RWKV group norm's backward pass: the gradients of its weights -/

set_option maxRecDepth 16384

noncomputable section

open Idealize.ShloMosaic Idealize.ShloMosaic.TcCoe Idealize.SL.Sem
open Idealize.ShloMosaic.Pipeline (Dat)

namespace Cert.Kernel18Ideal.PostBwd

open Cert.Kernel18Ideal Cert.Kernel18Ideal.Gen

variable (m : (ℓ : Loc nD τ sig) → Buf (Elt Ideal) ℓ)

open Cert.Reference18Ideal.Read

/-- A tile's term of the gradient of the norm's bias is added to the row. -/
theorem add_bias (v62 v102 : FVec Ideal S256x768 .f32) (acc : FVec Ideal S1x768 .f32) (j : S1x768.Idx) :
    k0_pay3 (k0_pay25 v62 v102) acc j = acc j + ∑ s, k0_pay23 v62 v102 (ix2 s (j 1)) := by
  obtain ⟨k, rfl⟩ : ∃ k : Fin 768, j = ix2 0 k := ⟨j 1, by blk_ext⟩
  pointwise [k0_pay3, k0_pay25]

/-- The same for the norm's gain. -/
theorem add_gain (v55 : FVec Ideal S768x768 .f32) (v62 v66 v77 v102 : FVec Ideal S256x768 .f32) (a : Ideal .f32)
    (acc : FVec Ideal S1x768 .f32) (j : S1x768.Idx) :
    k0_pay2 (k0_pay26 v55 v62 v66 v77 a v102) acc j
      = acc j + ∑ s, k0_pay21 v55 v66 v77 a (ix2 s (j 1)) * k0_pay23 v62 v102 (ix2 s (j 1)) := by
  obtain ⟨k, rfl⟩ : ∃ k : Fin 768, j = ix2 0 k := ⟨j 1, by blk_ext⟩
  pointwise [k0_pay2, k0_pay26]

/-- The same for the bonus's weight. -/
theorem add_bonus (v55 : FVec Ideal S768x768 .f32) (v58 v59 v60 v61 v104 : FVec Ideal S256x768 .f32)
    (acc : FVec Ideal S1x768 .f32) (j : S1x768.Idx) :
    k0_pay1 (k0_pay35 v55 v59 (k0_pay13 v58 v60) (k0_pay14 v58 v61) v104) (k0_pay39 acc) j
      = acc j + (∑ s, v58 (ix2 s (j 1)) * v61 (ix2 s (j 1)) * k0_pay31 v55 v59 v104 (ix2 s (j 1))
        + ∑ s, v58 (ix2 s (j 1)) * v60 (ix2 s (j 1)) * k0_pay34 v55 v59 v104 (ix2 s (j 1))) := by
  obtain ⟨k, rfl⟩ : ∃ k : Fin 768, j = ix2 0 k := ⟨j 1, by blk_ext⟩
  pointwise [k0_pay1, k0_pay35, k0_pay39, k0_pay13, k0_pay14]

/-- The rows of zeros that open the three sums. -/
theorem zero_bias (j : S1x768.Idx) : k0_pay6 (F := Ideal) j = 0 := by pointwise [k0_pay6]
theorem zero_gain (j : S1x768.Idx) : k0_pay5 (F := Ideal) j = 0 := by pointwise [k0_pay5]
theorem zero_bonus (j : S1x768.Idx) : k0_pay4 (F := Ideal) j = 0 := by pointwise [k0_pay4]

/-- The last point of the grid. -/
theorem last_point (t : Fin cfg0.N) (h : t.val % 8 = 7) : t.val + 1 = cfg0.N := by
  have hN : cfg0.N = 8 := N_0
  have := t.isLt
  omega

/-- The bias's row after the last point. -/
theorem total_bias (c : Dev nD) (t : Fin cfg0.N) (ht : t.val + 1 = cfg0.N) (j : S1x768.Idx) :
    (outsAt0 m c t.val t.isLt).2.2.2.2.2.2.2.2 j
      = 0 + ∑ p : Fin cfg0.N, ∑ s, k0_pay23 (X0_6 m c p) (iblk m c 10 p) (ix2 s (j 1)) :=
  Pipeline.eq_sum_fin_of_reset_step_apply_last (fun n h => (outsAt0 m c n h).2.2.2.2.2.2.2.2) 8 (fun _ => 0)
    (fun p j => ∑ s, k0_pay23 (X0_6 m c p) (iblk m c 10 p) (ix2 s (j 1)))
    (fun t h j => by
      rw [outsAt0_A m c t h]
      frame_out
      exact (add_bias _ _ _ j).trans (congrArg (· + _) (zero_bias j)))
    (fun t h j => by
      rw [outsAt0_B m c t h]
      frame_out
      exact add_bias _ _ _ j)
    N_0.le t ht j

/-- The gain's row after the last point. -/
theorem total_gain (c : Dev nD) (t : Fin cfg0.N) (ht : t.val + 1 = cfg0.N) (j : S1x768.Idx) :
    (outsAt0 m c t.val t.isLt).2.2.2.2.2.2.2.1 j
      = 0 + ∑ p : Fin cfg0.N, ∑ s, unit m c p (ix2 s (j 1)) * k0_pay23 (X0_6 m c p) (iblk m c 10 p) (ix2 s (j 1)) :=
  Pipeline.eq_sum_fin_of_reset_step_apply_last (fun n h => (outsAt0 m c n h).2.2.2.2.2.2.2.1) 8 (fun _ => 0)
    (fun p j => ∑ s, unit m c p (ix2 s (j 1)) * k0_pay23 (X0_6 m c p) (iblk m c 10 p) (ix2 s (j 1)))
    (fun t h j => by
      rw [outsAt0_A m c t h]
      frame_out
      exact (add_gain _ _ _ _ _ _ _ j).trans (congrArg (· + _) (zero_gain j)))
    (fun t h j => by
      rw [outsAt0_B m c t h]
      frame_out
      exact add_gain _ _ _ _ _ _ _ j)
    N_0.le t ht j

/-- The sum over a tile's rows of three factors. -/
def rows3 (a b d : FVec Ideal S256x768 .f32) (j : S1x768.Idx) : EReal :=
  ∑ s, a (ix2 s (j 1)) * b (ix2 s (j 1)) * d (ix2 s (j 1))

/-- A tile's term of the gradient of the bonus's weight. -/
def bonus (c : Dev nD) (t : Fin cfg0.N) (j : S1x768.Idx) : EReal :=
  rows3 (X0_2 m c t) (iblk m c 5 t) (k0_pay31 seg (X0_3 m c t) (k0_pay23 (X0_6 m c t) (iblk m c 10 t))) j
    + rows3 (X0_2 m c t) (iblk m c 4 t) (k0_pay34 seg (X0_3 m c t) (k0_pay23 (X0_6 m c t) (iblk m c 10 t))) j

/-- The row of the bonus's weight after the last point. -/
theorem total_bonus (c : Dev nD) (t : Fin cfg0.N) (ht : t.val + 1 = cfg0.N) (j : S1x768.Idx) :
    (outsAt0 m c t.val t.isLt).2.2.2.2.2.2.1 j = 0 + ∑ p : Fin cfg0.N, bonus m c p j :=
  Pipeline.eq_sum_fin_of_reset_step_apply_last (fun n h => (outsAt0 m c n h).2.2.2.2.2.2.1) 8 (fun _ => 0) (bonus m c)
    (fun t h j => by
      rw [outsAt0_A m c t h]
      frame_out
      exact (add_bonus _ _ _ _ _ _ _ j).trans (congrArg (· + _) (zero_bonus j)))
    (fun t h j => by
      rw [outsAt0_B m c t h]
      frame_out
      exact add_bonus _ _ _ _ _ _ _ j)
    N_0.le t ht j

/-- The gradient of the norm's bias, the whole row. -/
theorem final19 (c : Dev nD) : (dats m 0 c).arrAt 19 (cfgs 0).N = val_main_v63 (F := Ideal) (A5 m c) (A9 m c) := by
  refine (dats m 0 c).arrAt_eq_of_covers 19 _ (by decide +kernel) fun t hf y => ?_
  have ht := last_point t ((flush0_19 t).mp hf)
  blk_simp
  obtain ⟨j, rfl⟩ : ∃ j : Fin 768, y = ix2 0 j := ⟨y 1, by blk_ext⟩
  have e : ((cfg0.win 19).blk t).view.emb (ix2 0 j) = ix2 0 j := by blk_ext [idx t]
  rw [after0_19, total_bias m c t ht, zero_add]
  refine Eq.trans ?_ (congrArg (val_main_v63 (F := Ideal) (A5 m c) (A9 m c)) e.symm)
  pointwise [val_main_v63, val_main_v62, val_main_cst_8]
  refine Fin.sum_mul_add_congr (fun p s hl => ?_) (congrArg (· * 256) N_0).symm
  exact read_gated m c p s j

/-- The gradient of the norm's gain, the whole row. -/
theorem final18 (c : Dev nD) : (dats m 0 c).arrAt 18 (cfgs 0).N
    = val_main_v66 (F := Ideal) (A0 m c) (A1 m c) (A5 m c) (A9 m c) := by
  refine (dats m 0 c).arrAt_eq_of_covers 18 _ (by decide +kernel) fun t hf y => ?_
  have ht := last_point t ((flush0_18 t).mp hf)
  blk_simp
  obtain ⟨j, rfl⟩ : ∃ j : Fin 768, y = ix2 0 j := ⟨y 1, by blk_ext⟩
  have e : ((cfg0.win 18).blk t).view.emb (ix2 0 j) = ix2 0 j := by blk_ext [idx t]
  rw [after0_18, total_gain m c t ht, zero_add]
  refine Eq.trans ?_ (congrArg (val_main_v66 (F := Ideal) (A0 m c) (A1 m c) (A5 m c) (A9 m c)) e.symm)
  pointwise [val_main_v66, val_main_v65, val_main_v64, val_main_cst_9]
  refine Fin.sum_mul_add_congr (fun p s hl => ?_) (congrArg (· * 256) N_0).symm
  exact congrArg₂ (· * ·) (read_unit m c p s j) (read_gated m c p s j)

/-- The gradient of the bonus's weight, the whole row. -/
theorem final17 (c : Dev nD) : (dats m 0 c).arrAt 17 (cfgs 0).N
    = val_main_v95 (F := Ideal) (A2 m c) (A3 m c) (A4 m c) (A5 m c) (A9 m c) := by
  refine (dats m 0 c).arrAt_eq_of_covers 17 _ (by decide +kernel) fun t hf y => ?_
  have ht := last_point t ((flush0_17 t).mp hf)
  blk_simp
  obtain ⟨j, rfl⟩ : ∃ j : Fin 768, y = ix2 0 j := ⟨y 1, by blk_ext⟩
  have e : ((cfg0.win 17).blk t).view.emb (ix2 0 j) = ix2 0 j := by blk_ext [idx t]
  rw [after0_17, total_bonus m c t ht, zero_add]
  refine Eq.trans ?_ (congrArg (val_main_v95 (F := Ideal) (A2 m c) (A3 m c) (A4 m c) (A5 m c) (A9 m c)) e.symm)
  unfold bonus rows3
  rw [Finset.sum_add_distrib]
  pointwise [val_main_v95, val_main_v88, val_main_v87, val_main_v86, val_main_v85, val_main_v74, val_main_v73, val_main_v72,
    val_main_v19, val_main_v11, val_main_v7, val_main_v10, val_main_v18, val_main_cst_12, val_main_cst_15]
  refine congrArg₂ (· + ·) (Fin.sum_mul_add_congr (fun p s hl => ?_) (congrArg (· * 256) N_0).symm) (Fin.sum_mul_add_congr (fun p s hl => ?_) (congrArg (· * 256) N_0).symm)
  · exact congrArg₂ (· * ·) (congrArg₂ (· * ·) (read_r m c p s j) (read_k1 m c p s j)) (head_sum m c p s j)
  · exact congrArg₂ (· * ·) (congrArg₂ (· * ·) (read_r m c p s j) (read_k0 m c p s j)) (head_sum' m c p s j)

end Cert.Kernel18Ideal.PostBwd

end
-- ==== Proof.PostBwd.Claims.lean ====
module

public import proofs.«01_k».proof.Defs
public import proofs.«01_k».proof.Proof.Gen.Kernel18.Frame
public import proofs.«01_k».proof.Proof.Gen.Kernel18Ideal.Frame
public import proofs.«01_k».proof.Proof.Gen.Reference18Ideal.Run
public import proofs.«01_k».proof.Proof.PostBwd.Weights
public import proofs.«01_k».proof.Proof.Gen.Kernel18Ideal.Value
public import proofs.«01_k».proof.Proof.Gen.Reference18Ideal.Read
public import Idealize.ShloMosaic.Lib.Quiescent

@[expose] public section

/-! # The RWKV group norm's backward pass: its claims -/

set_option maxRecDepth 16384

noncomputable section

namespace Cert.PostBwd

open Idealize.ShloMosaic Idealize.ShloMosaic.TcCoe Idealize.SL.Sem

/-- The kernel runs to completion, keeps its arguments and leaves every semaphore at zero. -/
theorem kernel_frame : Cert.quiescent_Kernel18 := fun m g _ => Cert.Kernel18.Gen.frame m g

/-- The same over the extended reals. -/
theorem ideal_frame : Cert.quiescent_Kernel18Ideal := fun m g _ => Cert.Kernel18Ideal.Gen.frame m g

/-- The same for the reference. -/
theorem reference_frame : Cert.quiescent_Reference18Ideal := fun m g _ =>
  (θ_run Cert.Reference18Ideal.defs _ _).mono
    (fun r h => ⟨fun c => (h c).2.2.2.2.2.2, sem_eq_zero_of_no_sems (by decide) r.2⟩)
    (Cert.Reference18Ideal.Value.run (F := Ideal) m g)

open Cert.Reference18Ideal.Read in
/-- Over the extended reals kernel and reference have the same six results: the gradients of the receptance, of the two keys, of
the bonus's weight and of the norm's gain and bias. -/
theorem algebraic : Cert.algebraic_Kernel18Ideal_Reference18Ideal := by
  intro m g m' g' _ hag
  refine ⟨_, _, _, _, _, _, (θ_run Cert.Kernel18Ideal.defs _ _).mono
      (fun r h c => ⟨(h c).2.1, (h c).2.2.2.1, (h c).2.2.2.2.1, (h c).2.2.2.2.2.2⟩) (Cert.Kernel18Ideal.Value.run_blocks m g),
    (θ_run Cert.Reference18Ideal.defs _ _).mono (fun r h c => ?_) (Cert.Reference18Ideal.Value.run m' g')⟩
  obtain ⟨h0, h1, h2, h3, h4, h5, hargs⟩ := h c
  obtain ⟨e0, e1, e2, e3, e4, e5, e6, e7, e8, e9⟩ := hag c
  rw [val_main_v96_eq, e2, e3, e4, e5, e6, e9] at h0
  rw [val_main_v94_eq, e2, e5, e6, e9] at h1
  rw [val_main_v79_eq, e2, e5, e6, e9] at h2
  rw [val_main_v95_eq, e2, e3, e4, e5, e9] at h3
  rw [val_main_v66_eq, e0, e1, e5, e9] at h4
  rw [val_main_v63_eq, e5, e9] at h5
  exact ⟨h0.trans (Cert.Kernel18Ideal.PostBwd.final12 m c).symm, h1.trans (Cert.Kernel18Ideal.PostBwd.final14 m c).symm,
    h2.trans (Cert.Kernel18Ideal.PostBwd.final15 m c).symm, h3.trans (Cert.Kernel18Ideal.PostBwd.final17 m c).symm,
    h4.trans (Cert.Kernel18Ideal.PostBwd.final18 m c).symm, h5.trans (Cert.Kernel18Ideal.PostBwd.final19 m c).symm, hargs⟩

end Cert.PostBwd

end
-- ==== Proof.XattnFwd.Value.lean ====
module

public import proofs.«01_k».proof.Proof.Gen.Kernel19Ideal.Frame
public import proofs.«01_k».proof.Proof.Gen.Reference19Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

/-! # The memory attention -/

set_option maxRecDepth 16384

noncomputable section

open Idealize.ShloMosaic Idealize.ShloMosaic.TcCoe Idealize.SL.Sem
open Idealize.ShloMosaic.Pipeline (Dat)

namespace Cert.Kernel19Ideal.XattnFwd

open Cert.Kernel19Ideal Cert.Kernel19Ideal.Gen

variable (m : (ℓ : Loc nD τ sig) → Buf (Elt Ideal) ℓ)

open Cert.Reference19Ideal.Read

/-! The grid has 4 row tiles of 512 rows.  The queries are columns 5376 and on of one array and the gate's argument columns 5888
and on, hence the numbers 21 to 24 of blocks of 256 columns.  Heads 0, 2 and 3 are head 1's text over other blocks and cut at
other places into named values. -/

/-- The block every window stages at a grid point. -/
theorem idx : ∀ t : Fin cfg0.N,
    win0_0.index t = ![t.val, 21] ∧ win0_1.index t = ![t.val, 22] ∧ win0_2.index t = ![t.val, 23]
    ∧ win0_3.index t = ![t.val, 24] ∧ win0_4.index t = ![0, 0] ∧ win0_5.index t = ![0, 0]
    ∧ win0_6.index t = ![0, 0] ∧ win0_7.index t = ![t.val, 0] ∧ win0_8.index t = ![0, t.val] :=
  (by decide +kernel : ∀ t : Fin grid0.N, _)

/-- Row `s` of row tile `t`. -/
def row (t : Fin cfg0.N) (s : Fin 512) : Fin 2048 :=
  ⟨512 * t.val + s.val, by have := t.isLt; have : cfg0.N = 4 := N_0; omega⟩

/-- Column `128 h + d` of the four heads side by side. -/
def col (h : Fin 4) (d : Fin 128) : Fin 512 := ⟨128 * h.val + d.val, by omega⟩

abbrev argP (c : Dev nD) : FVec Ideal S2048x12544 .f32 := m ((c : Thread nD τ).loc main_arg0)
abbrev argM (c : Dev nD) : FVec Ideal S256x1024 .f32 := m ((c : Thread nD τ).loc main_arg1)
abbrev argQ (c : Dev nD) : FVec Ideal S1x128 .f32 := m ((c : Thread nD τ).loc main_arg2)
abbrev argK (c : Dev nD) : FVec Ideal S1x128 .f32 := m ((c : Thread nD τ).loc main_arg3)

theorem gainQ (c : Dev nD) (t : Fin cfg0.N) : iblk m c 5 t = argQ m c := by
  funext y
  blk_point [iblk, V, idx t]

theorem gainK (c : Dev nD) (t : Fin cfg0.N) : iblk m c 6 t = argK m c := by
  funext y
  blk_point [iblk, V, idx t]

/-! ## One head of one row tile -/

section

variable {P : FVec Ideal S2048x12544 .f32} {M : FVec Ideal S256x1024 .f32} {gq gk : FVec Ideal S1x128 .f32}
  {row : Fin 512 → Fin 2048} {h : Fin 4}

/-- The queries, the gate's argument, the keys and the values of head `h`, in the rows `row` where they have that many. -/
structure Blocks (P : FVec Ideal S2048x12544 .f32) (M : FVec Ideal S256x1024 .f32) (row : Fin 512 → Fin 2048) (h : Fin 4)
    (q g : FVec Ideal S512x128 .f32) (k v : FVec Ideal S256x128 .f32) : Prop where
  q : ∀ (s : Fin 512) (d : Fin 128), q (ix2 s d) = val_main_v5 (F := Ideal) P (ix3 (row s) h d)
  g : ∀ (s : Fin 512) (d : Fin 128), g (ix2 s d) = val_main_v2 (F := Ideal) P (ix2 (row s) (col h d))
  k : ∀ (n : Fin 256) (d : Fin 128), k (ix2 n d) = val_main_v19 (F := Ideal) M (ix3 n h d)
  v : ∀ (n : Fin 256) (d : Fin 128), v (ix2 n d) = val_main_v33 (F := Ideal) M (ix3 n h d)

variable {q g : FVec Ideal S512x128 .f32} {k v : FVec Ideal S256x128 .f32}

/-- The normalized queries. -/
theorem norm_q (b : Blocks P M row h q g k v) (s : Fin 512) (d : Fin 128) :
    k0_pay3 (F := Ideal) q gq (ix2 s d) = val_main_v18 (F := Ideal) P gq (ix3 (row s) h d) := by
  pointwise [k0_pay3, val_main_v18, val_main_v17, val_main_v16, val_main_v15, val_main_v14, val_main_v13, val_main_v12, val_main_v11,
    val_main_v10, val_main_v9, val_main_v8, val_main_v7, val_main_v6, val_main_cst, val_main_cst_0, val_main_cst_1, b.q]

/-- The normalized keys. -/
theorem norm_k (b : Blocks P M row h q g k v) (n : Fin 256) (d : Fin 128) :
    k0_pay7 (F := Ideal) k gk (ix2 n d) = val_main_v32 (F := Ideal) M gk (ix3 n h d) := by
  pointwise [k0_pay7, val_main_v32, val_main_v31, val_main_v30, val_main_v29, val_main_v28, val_main_v27, val_main_v26, val_main_v25,
    val_main_v24, val_main_v23, val_main_v22, val_main_v21, val_main_v20, val_main_cst_2, val_main_cst_3, val_main_cst_4, b.k]

/-- The weights of the memory's places. -/
theorem weight (b : Blocks P M row h q g k v) (s : Fin 512) (n : Fin 256) :
    k0_pay14 (F := Ideal) (k0_pay3 q gq) (k0_pay7 k gk) (ix2 s n) = val_main_v45 (F := Ideal) P M gq gk (ix3 h (row s) n) := by
  pointwise [k0_pay14, val_main_v45, val_main_v44, val_main_v43, val_main_v42, val_main_v41, val_main_v40, val_main_v39, val_main_v38,
    val_main_v37, val_main_v36, val_main_v35, val_main_v34, val_main_cst_5, val_main_cst_6, val_main_cst_7, norm_q b, norm_k b]

/-- A head's text. -/
def head (q g : FVec Ideal S512x128 .f32) (k v : FVec Ideal S256x128 .f32) (gq gk : FVec Ideal S1x128 .f32) : FVec Ideal S512x128 .f32 :=
  k0_pay17 (F := Ideal) g v (k0_pay14 (k0_pay3 q gq) (k0_pay7 k gk))

theorem head_eq (b : Blocks P M row h q g k v) (s : Fin 512) (d : Fin 128) :
    head q g k v gq gk (ix2 s d) = val_main_v56 (F := Ideal) P M gq gk (ix2 (row s) (col h d)) := by
  have e1 : (col h d).val / 128 = h.val := by simp only [col]; omega
  have e2 : (col h d).val % 128 = d.val := by simp only [col]; omega
  pointwise [head, k0_pay17, val_main_v56, val_main_v55, val_main_v54, val_main_v53, val_main_v52, val_main_v51, val_main_v50,
    val_main_v49, val_main_v48, val_main_v47, val_main_v46, val_main_cst_8, val_main_cst_9, Ideal.logistic, weight b, b.g, b.v]
  have e3 : (⟨(col h d).val / 128, by omega⟩ : Fin 4) = h := Fin.ext e1
  have e4 : (⟨(col h d).val % 128, by omega⟩ : Fin 128) = d := Fin.ext e2
  rw [e3, e4]
  exact congrArg (· * _) (Finset.sum_congr rfl fun x _ => mul_comm _ _)

end

/-! ## What a row tile reads for each head -/

abbrev rQ0 (c : Dev nD) (t : Fin cfg0.N) : FVec Ideal S512x128 .f32 := View.ld (iblk m c 0 t) (Rect.unit ![0, 0] ![512, 128] inb_S512x256_S512x128_0_0)
abbrev rQ1 (c : Dev nD) (t : Fin cfg0.N) : FVec Ideal S512x128 .f32 := View.ld (iblk m c 0 t) (Rect.unit ![0, 128] ![512, 128] inb_S512x256_S512x128_0_128)
abbrev rQ2 (c : Dev nD) (t : Fin cfg0.N) : FVec Ideal S512x128 .f32 := View.ld (iblk m c 1 t) (Rect.unit ![0, 0] ![512, 128] inb_S512x256_S512x128_0_0)
abbrev rQ3 (c : Dev nD) (t : Fin cfg0.N) : FVec Ideal S512x128 .f32 := View.ld (iblk m c 1 t) (Rect.unit ![0, 128] ![512, 128] inb_S512x256_S512x128_0_128)
abbrev rG0 (c : Dev nD) (t : Fin cfg0.N) : FVec Ideal S512x128 .f32 := View.ld (iblk m c 2 t) (Rect.unit ![0, 0] ![512, 128] inb_S512x256_S512x128_0_0)
abbrev rG1 (c : Dev nD) (t : Fin cfg0.N) : FVec Ideal S512x128 .f32 := View.ld (iblk m c 2 t) (Rect.unit ![0, 128] ![512, 128] inb_S512x256_S512x128_0_128)
abbrev rG2 (c : Dev nD) (t : Fin cfg0.N) : FVec Ideal S512x128 .f32 := View.ld (iblk m c 3 t) (Rect.unit ![0, 0] ![512, 128] inb_S512x256_S512x128_0_0)
abbrev rG3 (c : Dev nD) (t : Fin cfg0.N) : FVec Ideal S512x128 .f32 := View.ld (iblk m c 3 t) (Rect.unit ![0, 128] ![512, 128] inb_S512x256_S512x128_0_128)
abbrev rK0 (c : Dev nD) (t : Fin cfg0.N) : FVec Ideal S256x128 .f32 := View.ld (iblk m c 4 t) (Rect.unit ![0, 0] ![256, 128] inb_S256x1024_S256x128_0_0)
abbrev rK1 (c : Dev nD) (t : Fin cfg0.N) : FVec Ideal S256x128 .f32 := View.ld (iblk m c 4 t) (Rect.unit ![0, 128] ![256, 128] inb_S256x1024_S256x128_0_128)
abbrev rK2 (c : Dev nD) (t : Fin cfg0.N) : FVec Ideal S256x128 .f32 := View.ld (iblk m c 4 t) (Rect.unit ![0, 256] ![256, 128] inb_S256x1024_S256x128_0_256)
abbrev rK3 (c : Dev nD) (t : Fin cfg0.N) : FVec Ideal S256x128 .f32 := View.ld (iblk m c 4 t) (Rect.unit ![0, 384] ![256, 128] inb_S256x1024_S256x128_0_384)
abbrev rV0 (c : Dev nD) (t : Fin cfg0.N) : FVec Ideal S256x128 .f32 := View.ld (iblk m c 4 t) (Rect.unit ![0, 512] ![256, 128] inb_S256x1024_S256x128_0_512)
abbrev rV1 (c : Dev nD) (t : Fin cfg0.N) : FVec Ideal S256x128 .f32 := View.ld (iblk m c 4 t) (Rect.unit ![0, 640] ![256, 128] inb_S256x1024_S256x128_0_640)
abbrev rV2 (c : Dev nD) (t : Fin cfg0.N) : FVec Ideal S256x128 .f32 := View.ld (iblk m c 4 t) (Rect.unit ![0, 768] ![256, 128] inb_S256x1024_S256x128_0_768)
abbrev rV3 (c : Dev nD) (t : Fin cfg0.N) : FVec Ideal S256x128 .f32 := View.ld (iblk m c 4 t) (Rect.unit ![0, 896] ![256, 128] inb_S256x1024_S256x128_0_896)

theorem readQ0 (c : Dev nD) (t : Fin cfg0.N) (o : Fin 2) (inb) (s : Fin 512) (d : Fin 128) :
    View.ld (iblk m c 0 t) (Rect.unit (s := S512x256) ![0, 128 * o.val] ![512, 128] inb) (ix2 s d)
      = val_main_v5 (F := Ideal) (argP m c) (ix3 (row t s) ⟨o.val, by omega⟩ d) := by
  rw [val_main_v5_apply, val_main_v1_apply, val_main_v0_apply]
  blk_point [iblk, V, idx t, row]

theorem readQ1 (c : Dev nD) (t : Fin cfg0.N) (o : Fin 2) (inb) (s : Fin 512) (d : Fin 128) :
    View.ld (iblk m c 1 t) (Rect.unit (s := S512x256) ![0, 128 * o.val] ![512, 128] inb) (ix2 s d)
      = val_main_v5 (F := Ideal) (argP m c) (ix3 (row t s) ⟨2 + o.val, by omega⟩ d) := by
  rw [val_main_v5_apply, val_main_v1_apply, val_main_v0_apply]
  blk_point [iblk, V, idx t, row]

theorem readG0 (c : Dev nD) (t : Fin cfg0.N) (o : Fin 2) (inb) (s : Fin 512) (d : Fin 128) :
    View.ld (iblk m c 2 t) (Rect.unit (s := S512x256) ![0, 128 * o.val] ![512, 128] inb) (ix2 s d)
      = val_main_v2 (F := Ideal) (argP m c) (ix2 (row t s) (col ⟨o.val, by omega⟩ d)) := by
  rw [val_main_v2_apply, val_main_v0_apply]
  blk_point [iblk, V, idx t, row, col]

theorem readG1 (c : Dev nD) (t : Fin cfg0.N) (o : Fin 2) (inb) (s : Fin 512) (d : Fin 128) :
    View.ld (iblk m c 3 t) (Rect.unit (s := S512x256) ![0, 128 * o.val] ![512, 128] inb) (ix2 s d)
      = val_main_v2 (F := Ideal) (argP m c) (ix2 (row t s) (col ⟨2 + o.val, by omega⟩ d)) := by
  rw [val_main_v2_apply, val_main_v0_apply]
  blk_point [iblk, V, idx t, row, col]

theorem readK (c : Dev nD) (t : Fin cfg0.N) (h : Fin 4) (inb) (n : Fin 256) (d : Fin 128) :
    View.ld (iblk m c 4 t) (Rect.unit (s := S256x1024) ![0, 128 * h.val] ![256, 128] inb) (ix2 n d)
      = val_main_v19 (F := Ideal) (argM m c) (ix3 n h d) := by
  rw [val_main_v19_apply, val_main_v3_apply]
  blk_point [iblk, V, idx t]

theorem readV (c : Dev nD) (t : Fin cfg0.N) (h : Fin 4) (inb) (n : Fin 256) (d : Fin 128) :
    View.ld (iblk m c 4 t) (Rect.unit (s := S256x1024) ![0, 512 + 128 * h.val] ![256, 128] inb) (ix2 n d)
      = val_main_v33 (F := Ideal) (argM m c) (ix3 n h d) := by
  rw [val_main_v33_apply, val_main_v4_apply]
  blk_point [iblk, V, idx t]

theorem blocks0 (c : Dev nD) (t : Fin cfg0.N) :
    Blocks (argP m c) (argM m c) (row t) 0 (rQ0 m c t) (rG0 m c t) (rK0 m c t) (rV0 m c t) :=
  ⟨readQ0 m c t 0 _, readG0 m c t 0 _, readK m c t 0 _, readV m c t 0 _⟩

theorem blocks1 (c : Dev nD) (t : Fin cfg0.N) :
    Blocks (argP m c) (argM m c) (row t) 1 (rQ1 m c t) (rG1 m c t) (rK1 m c t) (rV1 m c t) :=
  ⟨readQ0 m c t 1 _, readG0 m c t 1 _, readK m c t 1 _, readV m c t 1 _⟩

theorem blocks2 (c : Dev nD) (t : Fin cfg0.N) :
    Blocks (argP m c) (argM m c) (row t) 2 (rQ2 m c t) (rG2 m c t) (rK2 m c t) (rV2 m c t) :=
  ⟨readQ1 m c t 0 _, readG1 m c t 0 _, readK m c t 2 _, readV m c t 2 _⟩

theorem blocks3 (c : Dev nD) (t : Fin cfg0.N) :
    Blocks (argP m c) (argM m c) (row t) 3 (rQ3 m c t) (rG3 m c t) (rK3 m c t) (rV3 m c t) :=
  ⟨readQ1 m c t 1 _, readG1 m c t 1 _, readK m c t 3 _, readV m c t 3 _⟩

/-! ## The four heads side by side -/

/-- The cut the kernel stores at a head's columns is the reference's there. -/
theorem place (c : Dev nD) (t : Fin cfg0.N) (h : Fin 4) {q g : FVec Ideal S512x128 .f32} {k v : FVec Ideal S256x128 .f32}
    (b : Blocks (argP m c) (argM m c) (row t) h q g k v) (x : S512x128.Idx) (i : S2048x512.Idx)
    (e : ix2 (row t (x 0)) (col h (x 1)) = i) :
    head q g k v (argQ m c) (argK m c) x = val_main_v56 (F := Ideal) (argP m c) (argM m c) (argQ m c) (argK m c) i := by
  obtain ⟨s, d, rfl⟩ : ∃ (s : Fin 512) (d : Fin 128), x = ix2 s d := ⟨x 0, x 1, by blk_ext⟩
  exact (head_eq b s d).trans (congrArg _ e)

/-- The row tile as the four stores leave it. -/
def tile (c : Dev nD) (t : Fin cfg0.N) : FVec Ideal S512x512 .f32 :=
  View.canon (Val := Elt Ideal) (e := .f32) [
    ⟨Rect.unit ![0, 384] ![512, 128] inb_S512x512_S512x128_0_384, head (rQ3 m c t) (rG3 m c t) (rK3 m c t) (rV3 m c t) (argQ m c) (argK m c)⟩,
    ⟨Rect.unit ![0, 256] ![512, 128] inb_S512x512_S512x128_0_256, head (rQ2 m c t) (rG2 m c t) (rK2 m c t) (rV2 m c t) (argQ m c) (argK m c)⟩,
    ⟨Rect.unit ![0, 128] ![512, 128] inb_S512x512_S512x128_0_128, head (rQ1 m c t) (rG1 m c t) (rK1 m c t) (rV1 m c t) (argQ m c) (argK m c)⟩,
    ⟨Rect.unit ![0, 0] ![512, 128] inb_S512x512_S512x128_0_0, head (rQ0 m c t) (rG0 m c t) (rK0 m c t) (rV0 m c t) (argQ m c) (argK m c)⟩]

theorem tile_eq (c : Dev nD) (t : Fin cfg0.N) (y : S512x512.Idx) :
    tile m c t y = val_main_v56 (F := Ideal) (argP m c) (argM m c) (argQ m c) (argK m c) (ix2 (row t (y 0)) (y 1)) := by
  have at_ : ∀ (h : Fin 4) (s : Fin 512) (d : Fin 128), (y 0).val = s.val → (y 1).val = 128 * h.val + d.val →
      ix2 (row t s) (col h d) = ix2 (row t (y 0)) (y 1) := by
    intro h s d e0 e1
    rw [show y 0 = s from Fin.ext e0, show y 1 = col h d from Fin.ext e1]
    rfl
  unfold tile
  canon_tiles x h
  · exact place m c t 3 (blocks3 m c t) x _ (at_ 3 (x 0) (x 1) h0 h1)
  · exact place m c t 2 (blocks2 m c t) x _ (at_ 2 (x 0) (x 1) h0 h1)
  · exact place m c t 1 (blocks1 m c t) x _ (at_ 1 (x 0) (x 1) h0 h1)
  · exact place m c t 0 (blocks0 m c t) x _ (at_ 0 (x 0) (x 1) h0 (h1.trans (Nat.zero_add _).symm))

/-- The first result, the whole array. -/
theorem final7 (c : Dev nD) : (dats m 0 c).arrAt 7 (cfgs 0).N
    = val_main_v56 (F := Ideal) (argP m c) (argM m c) (argQ m c) (argK m c) := by
  refine (dats m 0 c).arrAt_eq_of_covers 7 _ (by decide +kernel) fun t hf y => ?_
  have e : ix2 (row t (y 0)) (y 1) = ((cfg0.win 7).blk t).view.emb y := by
    blk_ext [idx t, row]
  refine Eq.trans ?_ ((tile_eq m c t y).trans (congrArg _ e))
  blk_simp
  rw [after0_7]
  unfold outsAt0
  frame_out
  rw [gainQ, gainK]
  rfl

/-- The second result, the first one's transpose, the whole array. -/
theorem final8 (c : Dev nD) : (dats m 0 c).arrAt 8 (cfgs 0).N
    = val_main_v58 (F := Ideal) (argP m c) (argM m c) (argQ m c) (argK m c) := by
  refine (dats m 0 c).arrAt_eq_of_covers 8 _ (by decide +kernel) fun t hf y => ?_
  have e : val_main_v58 (F := Ideal) (argP m c) (argM m c) (argQ m c) (argK m c) (((cfg0.win 8).blk t).view.emb y)
      = k0_pay20 (F := Ideal) (tile m c t) y := by
    have ey : ((cfg0.win 8).blk t).view.emb y = ix2 (y 0) (row t (y 1)) := by
      blk_ext [idx t, row]
    rw [ey]
    pointwise [k0_pay20, val_main_v58, val_main_v57]
    exact (tile_eq m c t (ix2 (y 1) (y 0))).symm
  refine Eq.trans ?_ e.symm
  blk_simp
  rw [after0_8]
  unfold outsAt0
  frame_out
  rw [gainQ, gainK, View.readCov_eq_canon']
  refine congrArg (fun x => k0_pay20 (F := Ideal) x y) (funext fun j => ?_)
  exact congrArg (tile m c t) (by blk_ext <;> simp [LoadRect.idx, Rect.unit])

end Cert.Kernel19Ideal.XattnFwd

end
-- ==== Proof.XattnFwd.Claims.lean ====
module

public import proofs.«01_k».proof.Defs
public import proofs.«01_k».proof.Proof.Gen.Kernel19.Frame
public import proofs.«01_k».proof.Proof.Gen.Kernel19Ideal.Frame
public import proofs.«01_k».proof.Proof.Gen.Reference19Ideal.Run
public import proofs.«01_k».proof.Proof.XattnFwd.Value
public import proofs.«01_k».proof.Proof.Gen.Kernel19Ideal.Value
public import proofs.«01_k».proof.Proof.Gen.Reference19Ideal.Read
public import Idealize.ShloMosaic.Lib.Quiescent

@[expose] public section

/-! # The memory attention: its claims -/

set_option maxRecDepth 16384

noncomputable section

namespace Cert.XattnFwd

open Idealize.ShloMosaic Idealize.ShloMosaic.TcCoe Idealize.SL.Sem

/-- The kernel runs to completion, keeps its arguments and leaves every semaphore at zero. -/
theorem kernel_frame : Cert.quiescent_Kernel19 := fun m g _ => Cert.Kernel19.Gen.frame m g

/-- The same over the extended reals. -/
theorem ideal_frame : Cert.quiescent_Kernel19Ideal := fun m g _ => Cert.Kernel19Ideal.Gen.frame m g

/-- The same for the reference. -/
theorem reference_frame : Cert.quiescent_Reference19Ideal := fun m g _ =>
  (θ_run Cert.Reference19Ideal.defs _ _).mono
    (fun r h => ⟨fun c => (h c).2.2, sem_eq_zero_of_no_sems (by decide) r.2⟩)
    (Cert.Reference19Ideal.Value.run (F := Ideal) m g)

open Cert.Reference19Ideal.Read in
/-- Over the extended reals kernel and reference have the same results: the gated mix of the memory's values and its transpose. -/
theorem algebraic : Cert.algebraic_Kernel19Ideal_Reference19Ideal := by
  intro m g m' g' _ hag
  refine ⟨_, _, Cert.Kernel19Ideal.Value.run_blocks m g,
    (θ_run Cert.Reference19Ideal.defs _ _).mono (fun r h c => ?_) (Cert.Reference19Ideal.Value.run m' g')⟩
  obtain ⟨h0, h1, hargs⟩ := h c
  obtain ⟨e0, e1, e2, e3⟩ := hag c
  rw [val_main_v56_eq, e0, e1, e2, e3] at h0
  rw [val_main_v58_eq, e0, e1, e2, e3] at h1
  exact ⟨h0.trans (Cert.Kernel19Ideal.XattnFwd.final7 m c).symm, h1.trans (Cert.Kernel19Ideal.XattnFwd.final8 m c).symm, hargs⟩

end Cert.XattnFwd

end
-- ==== Proof.ShiftFwd.Value.lean ====
module

public import proofs.«01_k».proof.Proof.Gen.Kernel20Ideal.Frame
public import proofs.«01_k».proof.Proof.Gen.Reference20Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Shift.Rows

@[expose] public section

/-! # The token shift -/

set_option maxRecDepth 16384

noncomputable section

open Idealize.ShloMosaic Idealize.ShloMosaic.TcCoe Idealize.SL.Sem
open Idealize.ShloMosaic.Pipeline (Dat)

namespace Cert.Kernel20Ideal.ShiftFwd

open Cert.Kernel20Ideal Cert.Kernel20Ideal.Gen

variable (m : (ℓ : Loc nD τ sig) → Buf (Elt Ideal) ℓ)

open Cert.Reference20Ideal.Read

/-- The block every window stages at a grid point. -/
theorem idx : ∀ t : Fin cfg0.N, win0_0.index t = ![0, 4 + t.val] ∧ win0_1.index t = ![0, t.val] ∧ win0_2.index t = ![0, t.val] :=
  (by decide +kernel : ∀ t : Fin grid0.N, _)

/-- The reference's row before. -/
theorem prev_apply (x : (⟨S2048x12544, .f32⟩ : BufTy).Contents (Elt Ideal)) (i : S2048x2560.Idx) :
    val_main_v2 (F := Ideal) x i = if (i 0).val = 0 then 0 else val_main_v0 (F := Ideal) x (Shift.back 1 i) := by
  have e : val_main_call0_v0 (F := Ideal) (Shape.Idx.first (by decide)) = 0 := by
    pointwise [val_main_call0_v0, val_main_c]
    norm_num [FloatOps.sitofp]
  rw [← e]
  exact Shift.padded_prev (val_main_v0 (F := Ideal) x) (val_main_call0_v0 (F := Ideal)) _ (by decide) _ i

/-- The reference's row after. -/
theorem next_apply (x : (⟨S2048x12544, .f32⟩ : BufTy).Contents (Elt Ideal)) (i : S2048x2560.Idx) :
    val_main_v4 (F := Ideal) x i = if (i 0).val = 2047 then 0 else val_main_v0 (F := Ideal) x (Shift.back 2047 i) := by
  have e : val_main_call1_v0 (F := Ideal) (Shape.Idx.first (by decide)) = 0 := by
    pointwise [val_main_call1_v0, val_main_c_0]
    norm_num [FloatOps.sitofp]
  rw [← e]
  exact Shift.padded_next (val_main_v0 (F := Ideal) x) (val_main_call1_v0 (F := Ideal)) _ (by decide) _ i

/-- What a point leaves in its columns is the reference's there. -/
theorem point (c : Dev nD) (t : Fin cfg0.N) (y : S2048x512.Idx) :
    k0_pay1 (F := Ideal) (X0_0 m c t) (iblk m c 1 t) y
      = val_main_v11 (F := Ideal) (m ((c : Thread nD τ).loc main_arg0)) (m ((c : Thread nD τ).loc main_arg1))
          (((cfg0.win 2).blk t).view.emb y) := by
  have h : ∀ k : S2048x512.Idx, X0_0 m c t k
      = val_main_v0 (F := Ideal) (m ((c : Thread nD τ).loc main_arg0)) (((cfg0.win 2).blk t).view.emb k) := fun k => by
    unfold X0_0 Pipeline.Window.fill
    rw [dif_pos (moved0_0 t k)]
    pointwise [val_main_v0]
    blk_point [iblk, V, idx t]
  have hrow : ((((cfg0.win 2).blk t).view.emb y) 0).val = (y 0).val := by
    blk_point [idx t]
  have hb : ∀ s, Shift.back s (((cfg0.win 2).blk t).view.emb y) = ((cfg0.win 2).blk t).view.emb (Shift.back s y) := fun s => by
    blk_ext [idx t, Shift.back]
  unfold k0_pay1
  dsimp only
  rw [funext (Shift.rolled 1 0 (by decide) (by decide) (X0_0 m c t) _ _ _),
    funext (Shift.rolled 2047 2047 (by decide) (by decide) (X0_0 m c t) _ _ _)]
  pointwise [val_main_v11, val_main_v10, val_main_v9, val_main_v8, val_main_v7, val_main_v6, val_main_cst, val_main_v5]
  rw [prev_apply, next_apply, hrow, hb, hb, ← h, ← h, ← h]
  blk_point [iblk, V, idx t]

/-- The shifted projections, the whole array. -/
theorem final2 (c : Dev nD) : (dats m 0 c).arrAt 2 (cfgs 0).N
    = val_main_v11 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  exact point m c t y

end Cert.Kernel20Ideal.ShiftFwd

end
-- ==== Proof.ShiftFwd.Claims.lean ====
module

public import proofs.«01_k».proof.Defs
public import proofs.«01_k».proof.Proof.Gen.Kernel20.Frame
public import proofs.«01_k».proof.Proof.Gen.Kernel20Ideal.Frame
public import proofs.«01_k».proof.Proof.Gen.Reference20Ideal.Run
public import proofs.«01_k».proof.Proof.ShiftFwd.Value
public import proofs.«01_k».proof.Proof.Gen.Kernel20Ideal.Value
public import proofs.«01_k».proof.Proof.Gen.Reference20Ideal.Read
public import Idealize.ShloMosaic.Lib.Quiescent

@[expose] public section

/-! # The token shift: its claims -/

set_option maxRecDepth 16384

noncomputable section

namespace Cert.ShiftFwd

open Idealize.ShloMosaic Idealize.ShloMosaic.TcCoe Idealize.SL.Sem

/-- The kernel runs to completion, keeps its arguments and leaves every semaphore at zero. -/
theorem kernel_frame : Cert.quiescent_Kernel20 := fun m g _ => Cert.Kernel20.Gen.frame m g

/-- The same over the extended reals. -/
theorem ideal_frame : Cert.quiescent_Kernel20Ideal := fun m g _ => Cert.Kernel20Ideal.Gen.frame m g

/-- The same for the reference. -/
theorem reference_frame : Cert.quiescent_Reference20Ideal := fun m g _ =>
  (θ_run Cert.Reference20Ideal.defs _ _).mono
    (fun r h => ⟨fun c => (h c).2, sem_eq_zero_of_no_sems (by decide) r.2⟩)
    (Cert.Reference20Ideal.Value.run (F := Ideal) m g)

open Cert.Reference20Ideal.Read in
/-- Over the extended reals kernel and reference have the same result: the shifted projections. -/
theorem algebraic : Cert.algebraic_Kernel20Ideal_Reference20Ideal := by
  intro m g m' g' _ hag
  refine ⟨_, Cert.Kernel20Ideal.Value.run_blocks m g,
    (θ_run Cert.Reference20Ideal.defs _ _).mono (fun r h c => ?_) (Cert.Reference20Ideal.Value.run m' g')⟩
  obtain ⟨h0, hargs⟩ := h c
  obtain ⟨e0, e1⟩ := hag c
  rw [val_main_v11_eq, e0, e1] at h0
  exact ⟨h0.trans (Cert.Kernel20Ideal.ShiftFwd.final2 m c).symm, hargs⟩

end Cert.ShiftFwd

end
-- ==== Proof.AdamSmall.Value.lean ====
module

public import proofs.«01_k».proof.Proof.Gen.Kernel21Ideal.Frame
public import proofs.«01_k».proof.Proof.Gen.Reference21Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

/-! # The optimiser's step on the packed small weights -/

set_option maxRecDepth 16384

noncomputable section

open Idealize.ShloMosaic Idealize.ShloMosaic.TcCoe Idealize.SL.Sem
open Idealize.ShloMosaic.Pipeline (Dat)

namespace Cert.Kernel21Ideal.AdamSmall

open Cert.Kernel21Ideal Cert.Kernel21Ideal.Gen

variable (m : (ℓ : Loc nD τ sig) → Buf (Elt Ideal) ℓ)

open Cert.Reference21Ideal.Read

/-- The block every window stages at a grid point. -/
theorem idx : ∀ t : Fin cfg0.N, win0_0.index t = ![t.val, 0] ∧ win0_1.index t = ![t.val, 0] ∧ win0_2.index t = ![t.val, 0] ∧
    win0_3.index t = ![t.val, 0] ∧ win0_5.index t = ![t.val, 0] ∧ win0_6.index t = ![t.val, 0] ∧ win0_7.index t = ![t.val, 0] :=
  (by decide +kernel : ∀ t : Fin grid0.N, _)

/-- The change of the weights that a point leaves in its rows is the reference's there. -/
theorem point5 (c : Dev nD) (t : Fin cfg0.N) (y : S16x128.Idx) :
    k0_pay3 (F := Ideal) (iblk m c 0 t) (iblk m c 1 t) (iblk m c 2 t) (iblk m c 3 t) y
      = val_main_v23 (F := Ideal) (m ((c : Thread nD τ).loc main_arg0)) (m ((c : Thread nD τ).loc main_arg1))
          (m ((c : Thread nD τ).loc main_arg2)) (m ((c : Thread nD τ).loc main_arg3)) (((cfg0.win 5).blk t).view.emb y) := by
  pointwise [k0_pay3, k0_pay2, k0_pay1, val_main_v23, val_main_v22, val_main_cst_7, val_main_v21, val_main_v20, val_main_v19,
    val_main_cst_6, val_main_v18, val_main_v17, val_main_v16, val_main_cst_5, val_main_v15, val_main_v14, val_main_v13,
    val_main_cst_4, val_main_v12, val_main_v11, val_main_cst_3, val_main_v10, val_main_v9, val_main_v8, val_main_cst_2,
    val_main_v7, val_main_v6, val_main_v5, val_main_cst_1, val_main_v4, val_main_v3, val_main_v2, val_main_cst_0, val_main_v1,
    val_main_v0, val_main_cst]
  blk_point [iblk, V, idx t]

/-- The new first moment that a point leaves in its rows is the reference's there. -/
theorem point6 (c : Dev nD) (t : Fin cfg0.N) (y : S16x128.Idx) :
    k0_pay1 (F := Ideal) (iblk m c 0 t) (iblk m c 2 t) y
      = val_main_v4 (F := Ideal) (m ((c : Thread nD τ).loc main_arg0)) (m ((c : Thread nD τ).loc main_arg2))
          (((cfg0.win 6).blk t).view.emb y) := by
  pointwise [k0_pay1, val_main_v4, val_main_v3, val_main_v2, val_main_cst_0, val_main_v1, val_main_v0, val_main_cst]
  blk_point [iblk, V, idx t]

/-- The new second moment that a point leaves in its rows is the reference's there. -/
theorem point7 (c : Dev nD) (t : Fin cfg0.N) (y : S16x128.Idx) :
    k0_pay2 (F := Ideal) (iblk m c 0 t) (iblk m c 3 t) y
      = val_main_v10 (F := Ideal) (m ((c : Thread nD τ).loc main_arg0)) (m ((c : Thread nD τ).loc main_arg3))
          (((cfg0.win 7).blk t).view.emb y) := by
  pointwise [k0_pay2, val_main_v10, val_main_v9, val_main_v8, val_main_cst_2, val_main_v7, val_main_v6, val_main_v5,
    val_main_cst_1]
  blk_point [iblk, V, idx t]

/-- The change of the weights, the whole array. -/
theorem final5 (c : Dev nD) : (dats m 0 c).arrAt 5 (cfgs 0).N
    = val_main_v23 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  rw [after0_5]
  unfold out0_5
  frame_out
  exact point5 m c t y

/-- The new first moments, the whole array. -/
theorem final6 (c : Dev nD) : (dats m 0 c).arrAt 6 (cfgs 0).N
    = val_main_v4 (F := Ideal) (m ((c : Thread nD τ).loc main_arg0)) (m ((c : Thread nD τ).loc main_arg2)) := by
  refine (dats m 0 c).arrAt_eq_of_covers 6 _ (by decide +kernel) fun t hf y => ?_
  blk_simp
  rw [after0_6]
  unfold out0_6
  frame_out
  exact point6 m c t y

/-- The new second moments, the whole array. -/
theorem final7 (c : Dev nD) : (dats m 0 c).arrAt 7 (cfgs 0).N
    = val_main_v10 (F := Ideal) (m ((c : Thread nD τ).loc main_arg0)) (m ((c : Thread nD τ).loc main_arg3)) := by
  refine (dats m 0 c).arrAt_eq_of_covers 7 _ (by decide +kernel) fun t hf y => ?_
  blk_simp
  rw [after0_7]
  unfold out0_7
  frame_out
  exact point7 m c t y

end Cert.Kernel21Ideal.AdamSmall

end
-- ==== Proof.AdamSmall.Claims.lean ====
module

public import proofs.«01_k».proof.Defs
public import proofs.«01_k».proof.Proof.Gen.Kernel21.Frame
public import proofs.«01_k».proof.Proof.Gen.Kernel21Ideal.Frame
public import proofs.«01_k».proof.Proof.Gen.Reference21Ideal.Run
public import proofs.«01_k».proof.Proof.AdamSmall.Value
public import proofs.«01_k».proof.Proof.Gen.Kernel21Ideal.Value
public import proofs.«01_k».proof.Proof.Gen.Reference21Ideal.Read
public import Idealize.ShloMosaic.Lib.Quiescent

@[expose] public section

/-! # The optimiser's step on the packed small weights: its claims -/

set_option maxRecDepth 16384

noncomputable section

namespace Cert.AdamSmall

open Idealize.ShloMosaic Idealize.ShloMosaic.TcCoe Idealize.SL.Sem

/-- The kernel runs to completion, keeps its arguments and leaves every semaphore at zero. -/
theorem kernel_frame : Cert.quiescent_Kernel21 := fun m g _ => Cert.Kernel21.Gen.frame m g

/-- The same over the extended reals. -/
theorem ideal_frame : Cert.quiescent_Kernel21Ideal := fun m g _ => Cert.Kernel21Ideal.Gen.frame m g

/-- The same for the reference. -/
theorem reference_frame : Cert.quiescent_Reference21Ideal := fun m g _ =>
  (θ_run Cert.Reference21Ideal.defs _ _).mono
    (fun r h => ⟨fun c => (h c).2.2.2, sem_eq_zero_of_no_sems (by decide) r.2⟩)
    (Cert.Reference21Ideal.Value.run (F := Ideal) m g)

open Cert.Reference21Ideal.Read in
/-- Over the extended reals kernel and reference have the same three results: the change of the weights and their two new
moments. -/
theorem algebraic : Cert.algebraic_Kernel21Ideal_Reference21Ideal := by
  intro m g m' g' _ hag
  refine ⟨_, _, _, (θ_run Cert.Kernel21Ideal.defs _ _).mono (fun r h c => (h c).2) (Cert.Kernel21Ideal.Value.run_blocks m g),
    (θ_run Cert.Reference21Ideal.defs _ _).mono (fun r h c => ?_) (Cert.Reference21Ideal.Value.run m' g')⟩
  obtain ⟨h0, h1, h2, hargs⟩ := h c
  obtain ⟨e0, e1, e2, e3⟩ := hag c
  rw [val_main_v23_eq, e0, e1, e2, e3] at h0
  rw [val_main_v4_eq, e0, e2] at h1
  rw [val_main_v10_eq, e0, e3] at h2
  exact ⟨h0.trans (Cert.Kernel21Ideal.AdamSmall.final5 m c).symm, h1.trans (Cert.Kernel21Ideal.AdamSmall.final6 m c).symm,
    h2.trans (Cert.Kernel21Ideal.AdamSmall.final7 m c).symm, hargs⟩

end Cert.AdamSmall

end
-- ==== Proof.PreBwd.Rows.lean ====
module

public import proofs.«01_k».proof.Proof.Gen.Kernel22Ideal.Frame
public import proofs.«01_k».proof.Proof.Gen.Reference22Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

/-! # The RWKV preparation's backward pass: rows of a block -/

set_option maxRecDepth 16384

noncomputable section

open Idealize.ShloMosaic Idealize.ShloMosaic.TcCoe Idealize.SL.Sem
open Idealize.ShloMosaic.Pipeline (Dat)

namespace Cert.Kernel22Ideal.PreBwd

open Cert.Kernel22Ideal Cert.Kernel22Ideal.Gen

variable (m : (ℓ : Loc nD τ sig) → Buf (Elt Ideal) ℓ)

open Cert.Reference22Ideal.Read

/-- The block every window stages at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0, 0] ∧ win0_5.index t = ![0, 0] ∧ win0_6.index t = ![0, 0, 0]
    ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0]
    ∧ win0_18.index t = ![0, 0] ∧ win0_19.index t = ![0, 0] ∧ win0_20.index t = ![0, 0, 0] ∧ win0_21.index t = ![0, 0]
    ∧ win0_22.index t = ![0, 0, 0] :=
  (by decide +kernel : ∀ t : Fin grid0.N, _)

/-- The arguments. -/
abbrev A0 (c : Dev nD) : FVec Ideal S2048x2560 .f32 := m ((c : Thread nD τ).loc main_arg0)
abbrev A1 (c : Dev nD) : FVec Ideal S1x768 .f32 := m ((c : Thread nD τ).loc main_arg1)
abbrev A2 (c : Dev nD) : FVec Ideal S1x768 .f32 := m ((c : Thread nD τ).loc main_arg2)
abbrev A3 (c : Dev nD) : FVec Ideal S2x768 .f32 := m ((c : Thread nD τ).loc main_arg3)
abbrev A4 (c : Dev nD) : FVec Ideal S2x64x768 .f32 := m ((c : Thread nD τ).loc main_arg4)
abbrev A5 (c : Dev nD) : FVec Ideal S2x768 .f32 := m ((c : Thread nD τ).loc main_arg5)
abbrev A6 (c : Dev nD) : FVec Ideal S2x64x768 .f32 := m ((c : Thread nD τ).loc main_arg6)
abbrev A10 (c : Dev nD) : FVec Ideal S2048x768 .f32 := m ((c : Thread nD τ).loc main_arg10)
abbrev A11 (c : Dev nD) : FVec Ideal S2048x768 .f32 := m ((c : Thread nD τ).loc main_arg11)
abbrev A12 (c : Dev nD) : FVec Ideal S2048x768 .f32 := m ((c : Thread nD τ).loc main_arg12)
abbrev A13 (c : Dev nD) : FVec Ideal S2048x768 .f32 := m ((c : Thread nD τ).loc main_arg13)
abbrev A14 (c : Dev nD) : FVec Ideal S2048x768 .f32 := m ((c : Thread nD τ).loc main_arg14)
abbrev A15 (c : Dev nD) : FVec Ideal S2048x768 .f32 := m ((c : Thread nD τ).loc main_arg15)

/-- The array's row of a row of a block. -/
def row (t : Fin cfg0.N) (s : Fin 256) : Fin 2048 := ⟨t.val * 256 + s.val, by have := t.isLt; have : t.val < 8 := lt_of_lt_of_eq t.isLt N_0; omega⟩

/-! ## What a block holds -/

/-- Columns of the projection, from an offset. -/
theorem read_ps (c : Dev nD) (t : Fin cfg0.N) (o n : Nat) (inb) (s : Fin 256) (j : Fin n) (h : o + j.val < 2560) :
    View.ld (iblk m c 0 t) (Rect.unit (s := S256x2560) ![0, o] ![256, n] inb) (ix2 s j)
      = A0 m c (ix2 (row t s) ⟨o + j.val, h⟩) := by
  blk_point [iblk, V, idx t, row]

/-- A row of a pair of rows. -/
theorem read_w0 (c : Dev nD) (t : Fin cfg0.N) (o : Fin 2) (inb) (j : Fin 768) :
    View.ld (iblk m c 3 t) (Rect.unit (s := S2x768) ![o.val, 0] ![1, 768] inb) (ix2 0 j) = A3 m c (ix2 o j) := by
  blk_point [iblk, V, idx t]
theorem read_a0 (c : Dev nD) (t : Fin cfg0.N) (o : Fin 2) (inb) (j : Fin 768) :
    View.ld (iblk m c 5 t) (Rect.unit (s := S2x768) ![o.val, 0] ![1, 768] inb) (ix2 0 j) = A5 m c (ix2 o j) := by
  blk_point [iblk, V, idx t]

theorem read_kk (c : Dev nD) (t : Fin cfg0.N) (j : Fin 768) : iblk m c 1 t (ix2 0 j) = A1 m c (ix2 0 j) := by
  blk_point [iblk, V, idx t]
theorem read_ka (c : Dev nD) (t : Fin cfg0.N) (j : Fin 768) : iblk m c 2 t (ix2 0 j) = A2 m c (ix2 0 j) := by
  blk_point [iblk, V, idx t]
theorem read10 (c : Dev nD) (t : Fin cfg0.N) (s : Fin 256) (j : Fin 768) : iblk m c 10 t (ix2 s j) = A10 m c (ix2 (row t s) j) := by
  blk_point [iblk, V, idx t, row]
theorem read11 (c : Dev nD) (t : Fin cfg0.N) (s : Fin 256) (j : Fin 768) : iblk m c 11 t (ix2 s j) = A11 m c (ix2 (row t s) j) := by
  blk_point [iblk, V, idx t, row]
theorem read12 (c : Dev nD) (t : Fin cfg0.N) (s : Fin 256) (j : Fin 768) : iblk m c 12 t (ix2 s j) = A12 m c (ix2 (row t s) j) := by
  blk_point [iblk, V, idx t, row]
theorem read13 (c : Dev nD) (t : Fin cfg0.N) (s : Fin 256) (j : Fin 768) : iblk m c 13 t (ix2 s j) = A13 m c (ix2 (row t s) j) := by
  blk_point [iblk, V, idx t, row]
theorem read14 (c : Dev nD) (t : Fin cfg0.N) (s : Fin 256) (j : Fin 768) : iblk m c 14 t (ix2 s j) = A14 m c (ix2 (row t s) j) := by
  blk_point [iblk, V, idx t, row]
theorem read15 (c : Dev nD) (t : Fin cfg0.N) (s : Fin 256) (j : Fin 768) : iblk m c 15 t (ix2 s j) = A15 m c (ix2 (row t s) j) := by
  blk_point [iblk, V, idx t, row]

/-- The keys, the two decays' inputs and the two rates' inputs, as the kernel cuts them. -/
abbrev bK (c : Dev nD) (t : Fin cfg0.N) : FVec Ideal S256x768 .f32 :=
  View.ld (iblk m c 0 t) (Rect.unit ![0, 768] ![256, 768] inb_S256x2560_S256x768_0_768)
abbrev bWf (c : Dev nD) (t : Fin cfg0.N) : FVec Ideal S256x64 .f32 :=
  View.ld (iblk m c 0 t) (Rect.unit ![0, 2304] ![256, 64] inb_S256x2560_S256x64_0_2304)
abbrev bWb (c : Dev nD) (t : Fin cfg0.N) : FVec Ideal S256x64 .f32 :=
  View.ld (iblk m c 0 t) (Rect.unit ![0, 2368] ![256, 64] inb_S256x2560_S256x64_0_2368)
abbrev bAf (c : Dev nD) (t : Fin cfg0.N) : FVec Ideal S256x64 .f32 :=
  View.ld (iblk m c 0 t) (Rect.unit ![0, 2432] ![256, 64] inb_S256x2560_S256x64_0_2432)
abbrev bAb (c : Dev nD) (t : Fin cfg0.N) : FVec Ideal S256x64 .f32 :=
  View.ld (iblk m c 0 t) (Rect.unit ![0, 2496] ![256, 64] inb_S256x2560_S256x64_0_2496)
abbrev bw0 (c : Dev nD) (t : Fin cfg0.N) : FVec Ideal S1x768 .f32 :=
  View.ld (iblk m c 3 t) (Rect.unit ![0, 0] ![1, 768] inb_S2x768_S1x768_0_0)
abbrev bw1 (c : Dev nD) (t : Fin cfg0.N) : FVec Ideal S1x768 .f32 :=
  View.ld (iblk m c 3 t) (Rect.unit ![1, 0] ![1, 768] inb_S2x768_S1x768_1_0)
abbrev ba0 (c : Dev nD) (t : Fin cfg0.N) : FVec Ideal S1x768 .f32 :=
  View.ld (iblk m c 5 t) (Rect.unit ![0, 0] ![1, 768] inb_S2x768_S1x768_0_0)
abbrev ba1 (c : Dev nD) (t : Fin cfg0.N) : FVec Ideal S1x768 .f32 :=
  View.ld (iblk m c 5 t) (Rect.unit ![1, 0] ![1, 768] inb_S2x768_S1x768_1_0)
abbrev bW0 (c : Dev nD) (t : Fin cfg0.N) : FVec Ideal S64x768 .f32 :=
  k0_pay9 (View.ld (iblk m c 4 t) (Rect.unit ![0, 0, 0] ![1, 64, 768] inb_S2x64x768_S1x64x768_0_0_0))
abbrev bW1 (c : Dev nD) (t : Fin cfg0.N) : FVec Ideal S64x768 .f32 :=
  k0_pay10 (View.ld (iblk m c 4 t) (Rect.unit ![1, 0, 0] ![1, 64, 768] inb_S2x64x768_S1x64x768_1_0_0))
abbrev bA0 (c : Dev nD) (t : Fin cfg0.N) : FVec Ideal S64x768 .f32 :=
  k0_pay11 (View.ld (iblk m c 6 t) (Rect.unit ![0, 0, 0] ![1, 64, 768] inb_S2x64x768_S1x64x768_0_0_0))
abbrev bA1 (c : Dev nD) (t : Fin cfg0.N) : FVec Ideal S64x768 .f32 :=
  k0_pay12 (View.ld (iblk m c 6 t) (Rect.unit ![1, 0, 0] ![1, 64, 768] inb_S2x64x768_S1x64x768_1_0_0))

theorem eqK (c : Dev nD) (t : Fin cfg0.N) (s : Fin 256) (j : Fin 768) :
    bK m c t (ix2 s j) = val_main_v0 (F := Ideal) (A0 m c) (ix2 (row t s) j) := by
  refine (read_ps m c t 768 768 _ s j (by omega)).trans ?_
  pointwise [val_main_v0]
theorem eqWf (c : Dev nD) (t : Fin cfg0.N) (s : Fin 256) (j : Fin 64) :
    bWf m c t (ix2 s j) = val_main_v2 (F := Ideal) (A0 m c) (ix2 (row t s) j) := by
  refine (read_ps m c t 2304 64 _ s j (by omega)).trans ?_
  pointwise [val_main_v2, val_main_v1]
theorem eqWb (c : Dev nD) (t : Fin cfg0.N) (s : Fin 256) (j : Fin 64) :
    bWb m c t (ix2 s j) = val_main_v3 (F := Ideal) (A0 m c) (ix2 (row t s) j) := by
  refine (read_ps m c t 2368 64 _ s j (by omega)).trans ?_
  pointwise [val_main_v3, val_main_v1]
  exact congrArg (fun k => A0 m c (ix2 (row t s) k)) (Fin.ext (by show 2368 + j.val = 2304 + (64 + j.val); omega))
theorem eqAf (c : Dev nD) (t : Fin cfg0.N) (s : Fin 256) (j : Fin 64) :
    bAf m c t (ix2 s j) = val_main_v4 (F := Ideal) (A0 m c) (ix2 (row t s) j) := by
  refine (read_ps m c t 2432 64 _ s j (by omega)).trans ?_
  pointwise [val_main_v4, val_main_v1]
  exact congrArg (fun k => A0 m c (ix2 (row t s) k)) (Fin.ext (by show 2432 + j.val = 2304 + (128 + j.val); omega))
theorem eqAb (c : Dev nD) (t : Fin cfg0.N) (s : Fin 256) (j : Fin 64) :
    bAb m c t (ix2 s j) = val_main_v5 (F := Ideal) (A0 m c) (ix2 (row t s) j) := by
  refine (read_ps m c t 2496 64 _ s j (by omega)).trans ?_
  pointwise [val_main_v5, val_main_v1]
  exact congrArg (fun k => A0 m c (ix2 (row t s) k)) (Fin.ext (by show 2496 + j.val = 2304 + (192 + j.val); omega))
theorem eqW0 (c : Dev nD) (t : Fin cfg0.N) (d : Fin 64) (j : Fin 768) :
    bW0 m c t (ix2 d j) = val_main_v19 (F := Ideal) (A4 m c) (ix2 d j) := by
  pointwise [k0_pay9, val_main_v19, val_main_v18]
  blk_point [iblk, V, idx t]
theorem eqW1 (c : Dev nD) (t : Fin cfg0.N) (d : Fin 64) (j : Fin 768) :
    bW1 m c t (ix2 d j) = val_main_v80 (F := Ideal) (A4 m c) (ix2 d j) := by
  pointwise [k0_pay10, val_main_v80, val_main_v79]
  blk_point [iblk, V, idx t]
theorem eqA0 (c : Dev nD) (t : Fin cfg0.N) (d : Fin 64) (j : Fin 768) :
    bA0 m c t (ix2 d j) = val_main_v51 (F := Ideal) (A6 m c) (ix2 d j) := by
  pointwise [k0_pay11, val_main_v51, val_main_v50]
  blk_point [iblk, V, idx t]
theorem eqA1 (c : Dev nD) (t : Fin cfg0.N) (d : Fin 64) (j : Fin 768) :
    bA1 m c t (ix2 d j) = val_main_v112 (F := Ideal) (A6 m c) (ix2 d j) := by
  pointwise [k0_pay12, val_main_v112, val_main_v111]
  blk_point [iblk, V, idx t]

/-! ## A row of a block -/

/-- The decays' arguments. -/
theorem eq_z0 (c : Dev nD) (t : Fin cfg0.N) (s : Fin 256) (j : Fin 768) :
    k0_pay26 (bWf m c t) (bw0 m c t) (bW0 m c t) (ix2 s j)
      = val_main_v24 (F := Ideal) (A0 m c) (A3 m c) (A4 m c) (ix2 (row t s) j) := by
  have h0 : bw0 m c t (ix2 0 j) = A3 m c (ix2 0 j) := read_w0 m c t 0 _ j
  pointwise [k0_pay26, k0_pay24, val_main_v24, val_main_v23, val_main_v22, val_main_v21, val_main_v20, val_main_v17,
    val_main_v16, val_main_v15]
  rw [h0, zero_sub]
  simp only [eqWf, eqW0]
theorem eq_z1 (c : Dev nD) (t : Fin cfg0.N) (s : Fin 256) (j : Fin 768) :
    k0_pay42 (bw1 m c t) (bW1 m c t) (k0_pay39 (bWb m c t)) (ix2 s j)
      = val_main_v85 (F := Ideal) (A0 m c) (A3 m c) (A4 m c) (ix2 (row t s) j) := by
  have h0 : bw1 m c t (ix2 0 j) = A3 m c (ix2 1 j) := read_w0 m c t 1 _ j
  pointwise [k0_pay42, k0_pay39, val_main_v85, val_main_v84, val_main_v83, val_main_v82, val_main_v81, val_main_v78,
    val_main_v77, val_main_v76]
  rw [h0, zero_sub]
  simp only [eqWb, eqW1]

/-- The rates. -/
theorem eq_a0 (c : Dev nD) (t : Fin cfg0.N) (s : Fin 256) (j : Fin 768) :
    k0_pay35 (bAf m c t) (ba0 m c t) (bA0 m c t) (ix2 s j)
      = val_main_v61 (F := Ideal) (A0 m c) (A5 m c) (A6 m c) (ix2 (row t s) j) := by
  have h0 : ba0 m c t (ix2 0 j) = A5 m c (ix2 0 j) := read_a0 m c t 0 _ j
  pointwise [k0_pay35, val_main_v61, val_main_v60, val_main_v59, val_main_v58, val_main_v57, val_main_v56, val_main_v55,
    val_main_v54, val_main_v53, val_main_v52, val_main_v49, val_main_v48, val_main_cst_9, val_main_cst_10, Ideal.logistic]
  rw [h0]
  simp only [eqAf, eqA0]
theorem eq_a1 (c : Dev nD) (t : Fin cfg0.N) (s : Fin 256) (j : Fin 768) :
    k0_pay49 (bAb m c t) (ba1 m c t) (bA1 m c t) (ix2 s j)
      = val_main_v122 (F := Ideal) (A0 m c) (A5 m c) (A6 m c) (ix2 (row t s) j) := by
  have h0 : ba1 m c t (ix2 0 j) = A5 m c (ix2 1 j) := read_a0 m c t 1 _ j
  pointwise [k0_pay49, val_main_v122, val_main_v121, val_main_v120, val_main_v119, val_main_v118, val_main_v117, val_main_v116,
    val_main_v115, val_main_v114, val_main_v113, val_main_v110, val_main_v109, val_main_cst_23, val_main_cst_24, Ideal.logistic]
  rw [h0]
  simp only [eqAb, eqA1]

/-- The gradient at the first decay's argument. -/
abbrev dz0 (c : Dev nD) (t : Fin cfg0.N) : FVec Ideal S256x768 .f32 :=
  k0_pay75 (k0_pay29 (k0_pay26 (bWf m c t) (bw0 m c t) (bW0 m c t)) k0_pay28)
    (k0_pay30 (k0_pay26 (bWf m c t) (bw0 m c t) (bW0 m c t))) (k0_pay31 (k0_pay26 (bWf m c t) (bw0 m c t) (bW0 m c t)))
    (k0_pay32 (k0_pay26 (bWf m c t) (bw0 m c t) (bW0 m c t)))
    (k0_pay33 (k0_pay26 (bWf m c t) (bw0 m c t) (bW0 m c t)) (k0_pay27 (bWf m c t) (bw0 m c t) (bW0 m c t)))
    (k0_pay34 (k0_pay26 (bWf m c t) (bw0 m c t) (bW0 m c t)) (k0_pay27 (bWf m c t) (bw0 m c t) (bW0 m c t))) (iblk m c 10 t)
theorem eq_dz0 (c : Dev nD) (t : Fin cfg0.N) (s : Fin 256) (j : Fin 768) :
    dz0 m c t (ix2 s j) = val_main_v214 (F := Ideal) (A0 m c) (A3 m c) (A4 m c) (A10 m c) (ix2 (row t s) j) := by
  unfold dz0
  pointwise [k0_pay75, k0_pay29, k0_pay28, k0_pay30, k0_pay31, k0_pay32, k0_pay33, k0_pay34, k0_pay27,
    val_main_v214, val_main_v213, val_main_v212, val_main_v211, val_main_v210, val_main_v209, val_main_v208, val_main_v207,
    val_main_v206, val_main_v205, val_main_v204, val_main_v203, val_main_v190, val_main_v189, val_main_v188, val_main_v67,
    val_main_v66, val_main_v65, val_main_v47, val_main_v46, val_main_v45, val_main_v44, val_main_v43, val_main_v42,
    val_main_v41, val_main_v40, val_main_v39, val_main_v38, val_main_v37, val_main_v36, val_main_v35, val_main_v34,
    val_main_v33, val_main_v32, val_main_v31, val_main_v30, val_main_v29, val_main_v28, val_main_v27, val_main_v26,
    val_main_v25, val_main_cst_0, val_main_cst_1, val_main_cst_2, val_main_cst_3, val_main_cst_4, val_main_cst_5,
    val_main_cst_6, val_main_cst_7, val_main_cst_8, val_main_cst_43]
  rw [read10, eq_z0]
  simp only [zero_sub]

/-- The gradient at the second decay's argument. -/
abbrev dz1 (c : Dev nD) (t : Fin cfg0.N) : FVec Ideal S256x768 .f32 :=
  k0_pay61 (k0_pay43 (bw1 m c t) (bW1 m c t) (k0_pay39 (bWb m c t))) (k0_pay44 (bw1 m c t) (bW1 m c t) (k0_pay39 (bWb m c t)))
    (k0_pay45 (bw1 m c t) (bW1 m c t) (k0_pay39 (bWb m c t))) (k0_pay46 (bw1 m c t) (bW1 m c t) (k0_pay39 (bWb m c t)))
    (k0_pay47 (bw1 m c t) (bW1 m c t) (k0_pay39 (bWb m c t)))
    (k0_pay59 (k0_pay48 (bw1 m c t) (bW1 m c t) (k0_pay39 (bWb m c t))) (iblk m c 13 t)) k0_pay60
theorem eq_dz1 (c : Dev nD) (t : Fin cfg0.N) (s : Fin 256) (j : Fin 768) :
    dz1 m c t (ix2 s j) = val_main_v169 (F := Ideal) (A0 m c) (A3 m c) (A4 m c) (A13 m c) (ix2 (row t s) j) := by
  unfold dz1
  pointwise [k0_pay61, k0_pay43, k0_pay44, k0_pay45, k0_pay46, k0_pay47, k0_pay48, k0_pay59, k0_pay60,
    val_main_v169, val_main_v168, val_main_v167, val_main_v166, val_main_v165, val_main_v164, val_main_v163, val_main_v162,
    val_main_v161, val_main_v160, val_main_v159, val_main_v158, val_main_v147, val_main_v146, val_main_v145, val_main_v128,
    val_main_v127, val_main_v126, val_main_v108, val_main_v107, val_main_v106, val_main_v105, val_main_v104, val_main_v103,
    val_main_v102, val_main_v101, val_main_v100, val_main_v99, val_main_v98, val_main_v97, val_main_v96, val_main_v95,
    val_main_v94, val_main_v93, val_main_v92, val_main_v91, val_main_v90, val_main_v89, val_main_v88, val_main_v87,
    val_main_v86, val_main_cst_14, val_main_cst_15, val_main_cst_16, val_main_cst_17, val_main_cst_18, val_main_cst_19,
    val_main_cst_20, val_main_cst_21, val_main_cst_22, val_main_cst_33]
  rw [read13, eq_z1]
  simp only [zero_sub]

/-- The rates less one, times the keys and their gradients. -/
theorem eq_ka0 (c : Dev nD) (t : Fin cfg0.N) (s : Fin 256) (j : Fin 768) :
    k0_pay37 (bAf m c t) (ba0 m c t) (bA0 m c t) (ix2 s j) * k0_pay66 (bK m c t) (iblk m c 11 t) (ix2 s j)
      = val_main_v181 (F := Ideal) (A0 m c) (A5 m c) (A6 m c) (A11 m c) (ix2 (row t s) j) := by
  pointwise [k0_pay37, k0_pay66, val_main_v181, val_main_v180, val_main_v69, val_main_v68, val_main_cst_12]
  rw [eq_a0, eqK, read11]
theorem eq_ka1 (c : Dev nD) (t : Fin cfg0.N) (s : Fin 256) (j : Fin 768) :
    k0_pay50 (k0_pay49 (bAb m c t) (ba1 m c t) (bA1 m c t)) (ix2 s j) * k0_pay52 (bK m c t) (iblk m c 14 t) (ix2 s j)
      = val_main_v139 (F := Ideal) (A0 m c) (A5 m c) (A6 m c) (A14 m c) (ix2 (row t s) j) := by
  pointwise [k0_pay50, k0_pay52, val_main_v139, val_main_v138, val_main_v130, val_main_v129, val_main_cst_26]
  rw [eq_a1, eqK, read14]

end Cert.Kernel22Ideal.PreBwd

end
-- ==== Proof.PreBwd.Heads.lean ====
module

public import proofs.«01_k».proof.Proof.Gen.Kernel22Ideal.Frame
public import proofs.«01_k».proof.Proof.Gen.Reference22Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.PreBwd.Rows

@[expose] public section

/-! # The RWKV preparation's backward pass: the normalised keys -/

set_option maxRecDepth 16384

noncomputable section

open Idealize.ShloMosaic Idealize.ShloMosaic.TcCoe Idealize.SL.Sem
open Idealize.ShloMosaic.Pipeline (Dat)

namespace Cert.Kernel22Ideal.PreBwd

open Cert.Kernel22Ideal Cert.Kernel22Ideal.Gen

variable (m : (ℓ : Loc nD τ sig) → Buf (Elt Ideal) ℓ)

open Cert.Reference22Ideal.Read

/-- The integer that the kernel computes for a column is the column's head. -/
theorem head_word : ∀ k : Fin 768,
    Scalar.select
      (IntOp.andi
        (IntOp.cmpi CmpIPredicate.ne
          (IntOp.subi (BitVec.setWidth 32 (IntOp.cmpi CmpIPredicate.sgt (BitVec.ofNat 32 k.val) 0#32))
            (BitVec.setWidth 32 (IntOp.cmpi CmpIPredicate.slt (BitVec.ofNat 32 k.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 k.val) 64#32) 0#32))
      (IntOp.subi (IntOp.divsi ArithUnit.vector (BitVec.ofNat 32 k.val) 64#32) 1#32)
      (IntOp.divsi ArithUnit.vector (BitVec.ofNat 32 k.val) 64#32) = BitVec.ofNat 32 (k.val / 64) := by
  decide +kernel

/-- The kernel's matrix that sums over a head. -/
abbrev seg : FVec Ideal S768x768 .f32 := k0_pay16 k0_pay13 k0_pay14 k0_pay15

/-- It is one where two columns are of one head of 64, else zero. -/
theorem seg_apply (k j : Fin 768) : seg (ix2 k j) = if k.val / 64 = j.val / 64 then 1 else 0 := by
  unfold seg
  pointwise [k0_pay16, k0_pay13, k0_pay14, k0_pay15]
  rw [head_word k, head_word j]
  by_cases h : k.val / 64 = j.val / 64
  · rw [if_pos h, h]
    simp [IntOp.cmpi, FloatOps.sitofp]
  · have hne : BitVec.ofNat 32 (k.val / 64) ≠ BitVec.ofNat 32 (j.val / 64) := fun e => h (by
      have := congrArg BitVec.toNat e
      simp only [BitVec.toNat_ofNat] at this
      omega)
    rw [if_neg h]
    simp [IntOp.cmpi, FloatOps.sitofp, beq_eq_false_iff_ne.mpr hne]

/-- The column of a lane in the head of a column. -/
def lane (j : Fin 768) (d : Fin 64) : Fin 768 := ⟨j.val / 64 * 64 + d.val, by omega⟩

/-- The sum against the matrix is the sum over the column's head. -/
theorem seg_sum (f : Fin 768 → EReal) (j : Fin 768) : ∑ k, f k * seg (ix2 k j) = ∑ d, f (lane j d) := by
  simp only [seg_apply, mul_ite, mul_one, mul_zero]
  rw [← Finset.sum_filter]
  refine Finset.sum_filter_eq_sum_of_fiber _ (lane j) (fun a b e => ?_) (fun k => ⟨fun h => ?_, ?_⟩) f
  · have := congrArg Fin.val e
    simp only [lane] at this
    exact Fin.ext (by omega)
  · exact ⟨⟨k.val % 64, by omega⟩, Fin.ext (by simp only [lane]; omega)⟩
  · rintro ⟨d, rfl⟩
    simp only [lane]
    omega

/-- A product with the matrix sums over a head. -/
theorem dot_seg (x : FVec Ideal S256x768 .f32) (s : Fin 256) (j : Fin 768) :
    matmul (F := Ideal) dot_S256x768_S768x768_S256x768_1_0_0_1_n_n (some .bf16x3) x seg
      (constant S256x768 .f32 0x00000000#32) (ix2 s j) = ∑ d, x (ix2 s (lane j d)) := by
  rw [← seg_sum fun k => x (ix2 s k)]
  pointwise []

/-- The scaled keys. -/
theorem eq_v7 (c : Dev nD) (t : Fin cfg0.N) (s : Fin 256) (j : Fin 768) :
    k0_pay17 (bK m c t) (iblk m c 1 t) (ix2 s j) = val_main_v7 (F := Ideal) (A0 m c) (A1 m c) (ix2 (row t s) j) := by
  pointwise [k0_pay17, val_main_v7, val_main_v6]
  rw [eqK, read_kk]

/-- Their lengths in a head. -/
theorem eq_norm (c : Dev nD) (t : Fin cfg0.N) (s : Fin 256) (j : Fin 768) :
    k0_pay18 (bK m c t) (iblk m c 1 t) k0_pay13 k0_pay14 k0_pay15 (ix2 s j)
      = Ideal.sqrt (∑ d, val_main_v7 (F := Ideal) (A0 m c) (A1 m c) (ix2 (row t s) (lane j d))
          * val_main_v7 (F := Ideal) (A0 m c) (A1 m c) (ix2 (row t s) (lane j d))) := by
  unfold k0_pay18
  refine congrArg Ideal.sqrt ((dot_seg _ s j).trans (Finset.sum_congr rfl fun d _ => ?_))
  exact congrArg₂ (· * ·) (eq_v7 m c t s (lane j d)) (eq_v7 m c t s (lane j d))

/-- The keys normalised in each head. -/
abbrev bKK (c : Dev nD) (t : Fin cfg0.N) : FVec Ideal S256x768 .f32 :=
  k0_pay22 (bK m c t) (iblk m c 1 t) k0_pay13 k0_pay14 k0_pay15
theorem eq_kk (c : Dev nD) (t : Fin cfg0.N) (s : Fin 256) (j : Fin 768) :
    bKK m c t (ix2 s j) = val_main_v14 (F := Ideal) (A0 m c) (A1 m c) (ix2 (row t s) j) := by
  have hj : (⟨j.val / 64 * 64 + j.val % 64, by omega⟩ : Fin 768) = j := Fin.ext (by show j.val / 64 * 64 + j.val % 64 = j.val; omega)
  unfold bKK
  pointwise [k0_pay22, k0_pay20, val_main_v14, val_main_v13, val_main_v12, val_main_v11, val_main_v10, val_main_v9, val_main_v8,
    val_main_cst, val_main_call0_v2, val_main_call0_v1, val_main_call0_v0, val_main_call0_cst]
  rw [eq_v7, eq_norm]
  rfl

/-- The gradients at the two rates' arguments. -/
abbrev da0 (c : Dev nD) (t : Fin cfg0.N) : FVec Ideal S256x768 .f32 :=
  k0_pay69 (bK m c t) (iblk m c 2 t) (bKK m c t) (k0_pay36 (bAf m c t) (ba0 m c t) (bA0 m c t)) (iblk m c 11 t) (iblk m c 12 t)
theorem eq_da0 (c : Dev nD) (t : Fin cfg0.N) (s : Fin 256) (j : Fin 768) :
    da0 m c t (ix2 s j) = val_main_v191 (F := Ideal) (A0 m c) (A1 m c) (A2 m c) (A5 m c) (A6 m c) (A11 m c) (A12 m c) (ix2 (row t s) j) := by
  unfold da0
  pointwise [k0_pay69, k0_pay66, k0_pay36, val_main_v191, val_main_v187, val_main_v186, val_main_v185, val_main_v180, val_main_v179,
    val_main_v64, val_main_v63, val_main_v62, val_main_cst_11]
  rw [eq_kk, eqK, eq_a0, read_ka, read11, read12]
abbrev da1 (c : Dev nD) (t : Fin cfg0.N) : FVec Ideal S256x768 .f32 :=
  k0_pay55 (bK m c t) (iblk m c 2 t) (bKK m c t) (k0_pay49 (bAb m c t) (ba1 m c t) (bA1 m c t)) (iblk m c 14 t) (iblk m c 15 t)
theorem eq_da1 (c : Dev nD) (t : Fin cfg0.N) (s : Fin 256) (j : Fin 768) :
    da1 m c t (ix2 s j) = val_main_v148 (F := Ideal) (A0 m c) (A1 m c) (A2 m c) (A5 m c) (A6 m c) (A14 m c) (A15 m c) (ix2 (row t s) j) := by
  unfold da1
  pointwise [k0_pay55, k0_pay52, val_main_v148, val_main_v144, val_main_v143, val_main_v142, val_main_v138, val_main_v137,
    val_main_v125, val_main_v124, val_main_v123, val_main_cst_25]
  rw [eq_kk, eqK, eq_a1, read_ka, read14, read15]

end Cert.Kernel22Ideal.PreBwd

end
-- ==== Proof.PreBwd.Stores.lean ====
module

public import proofs.«01_k».proof.Proof.Gen.Kernel22Ideal.Frame
public import proofs.«01_k».proof.Proof.Gen.Reference22Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.KernelVsHost

@[expose] public section

/-! # The RWKV preparation's backward pass: pairs of rows and of matrices -/

set_option maxRecDepth 16384

noncomputable section

open Idealize.ShloMosaic Idealize.ShloMosaic.TcCoe Idealize.SL.Sem
open Idealize.ShloMosaic.Pipeline (Dat)

namespace Cert.Kernel22Ideal.PreBwd

open Cert.Kernel22Ideal Cert.Kernel22Ideal.Gen

variable (m : (ℓ : Loc nD τ sig) → Buf (Elt Ideal) ℓ)

open Cert.Reference22Ideal.Read

/-! ## Two stored parts of a result -/

/-- Two rows stored one after the other. -/
theorem canon_rows (W1 W0 : FVec Ideal S1x768 .f32) (L : List (View.Piece (Elt Ideal) S2x768 .f32)) (j : S2x768.Idx) :
    View.canon (⟨Rect.unit ![1, 0] ![1, 768] inb_S2x768_S1x768_1_0, W1⟩ :: ⟨Rect.unit ![0, 0] ![1, 768] inb_S2x768_S1x768_0_0, W0⟩ :: L) j
      = if (j 0).val = 0 then W0 (ix2 0 (j 1)) else W1 (ix2 0 (j 1)) := by
  have hj : (j 0).val < 2 := (j 0).isLt
  by_cases h : (j 0).val = 0
  · rw [if_pos h, View.canon_cons_of_not_mem _ _ (fun hm => by
      obtain ⟨i, hi, he⟩ := (LoadRect.mem_set _).mp hm (0 : Fin 2)
      have he' : (j 0).val = 1 + 1 * i := he
      omega)]
    have e : (Rect.unit (s := S2x768) ![0, 0] ![1, 768] inb_S2x768_S1x768_0_0).emb (ix2 0 (j 1)) = j := by
      funext a; apply Fin.ext
      fin_cases a
      · show 0 + 1 * 0 = (j 0).val; omega
      · show 0 + 1 * (j 1).val = (j 1).val; omega
    have h' := View.canon_cons_emb (Val := Elt Ideal) (e := .f32) (Rect.unit (s := S2x768) ![0, 0] ![1, 768] inb_S2x768_S1x768_0_0) W0 L (ix2 0 (j 1))
    rw [e] at h'
    exact h'
  · rw [if_neg h]
    have e : (Rect.unit (s := S2x768) ![1, 0] ![1, 768] inb_S2x768_S1x768_1_0).emb (ix2 0 (j 1)) = j := by
      funext a; apply Fin.ext
      fin_cases a
      · show 1 + 1 * 0 = (j 0).val; omega
      · show 0 + 1 * (j 1).val = (j 1).val; omega
    have h' := View.canon_cons_emb (Val := Elt Ideal) (e := .f32) (Rect.unit (s := S2x768) ![1, 0] ![1, 768] inb_S2x768_S1x768_1_0) W1 (⟨Rect.unit ![0, 0] ![1, 768] inb_S2x768_S1x768_0_0, W0⟩ :: L) (ix2 0 (j 1))
    rw [e] at h'
    exact h'

/-- Two matrices stored one after the other. -/
theorem canon_slabs (W1 W0 : FVec Ideal S1x64x768 .f32) (L : List (View.Piece (Elt Ideal) S2x64x768 .f32)) (j : S2x64x768.Idx) :
    View.canon (⟨Rect.unit ![1, 0, 0] ![1, 64, 768] inb_S2x64x768_S1x64x768_1_0_0, W1⟩
        :: ⟨Rect.unit ![0, 0, 0] ![1, 64, 768] inb_S2x64x768_S1x64x768_0_0_0, W0⟩ :: L) j
      = if (j 0).val = 0 then W0 (ix3 0 (j 1) (j 2)) else W1 (ix3 0 (j 1) (j 2)) := by
  have hj : (j 0).val < 2 := (j 0).isLt
  by_cases h : (j 0).val = 0
  · rw [if_pos h, View.canon_cons_of_not_mem _ _ (fun hm => by
      obtain ⟨i, hi, he⟩ := (LoadRect.mem_set _).mp hm (0 : Fin 3)
      have he' : (j 0).val = 1 + 1 * i := he
      omega)]
    have e : (Rect.unit (s := S2x64x768) ![0, 0, 0] ![1, 64, 768] inb_S2x64x768_S1x64x768_0_0_0).emb (ix3 0 (j 1) (j 2)) = j := by
      funext a; apply Fin.ext
      fin_cases a
      · show 0 + 1 * 0 = (j 0).val; omega
      · show 0 + 1 * (j 1).val = (j 1).val; omega
      · show 0 + 1 * (j 2).val = (j 2).val; omega
    have h' := View.canon_cons_emb (Val := Elt Ideal) (e := .f32) (Rect.unit (s := S2x64x768) ![0, 0, 0] ![1, 64, 768] inb_S2x64x768_S1x64x768_0_0_0) W0 L (ix3 0 (j 1) (j 2))
    rw [e] at h'
    exact h'
  · rw [if_neg h]
    have e : (Rect.unit (s := S2x64x768) ![1, 0, 0] ![1, 64, 768] inb_S2x64x768_S1x64x768_1_0_0).emb (ix3 0 (j 1) (j 2)) = j := by
      funext a; apply Fin.ext
      fin_cases a
      · show 1 + 1 * 0 = (j 0).val; omega
      · show 0 + 1 * (j 1).val = (j 1).val; omega
      · show 0 + 1 * (j 2).val = (j 2).val; omega
    have h' := View.canon_cons_emb (Val := Elt Ideal) (e := .f32) (Rect.unit (s := S2x64x768) ![1, 0, 0] ![1, 64, 768] inb_S2x64x768_S1x64x768_1_0_0) W1 (⟨Rect.unit ![0, 0, 0] ![1, 64, 768] inb_S2x64x768_S1x64x768_0_0_0, W0⟩ :: L) (ix3 0 (j 1) (j 2))
    rw [e] at h'
    exact h'

/-- A row of two, loaded. -/
theorem ld_row (Z : FVec Ideal S2x768 .f32) (o : Fin 2) (inb) (k : Fin 768) :
    View.ld (Val := Elt Ideal) (e' := .f32) Z (Rect.unit (s := S2x768) ![o.val, 0] ![1, 768] inb) (ix2 0 k) = Z (ix2 o k) := by
  refine congrArg Z ?_
  funext a; apply Fin.ext
  fin_cases a
  · show o.val + 1 * 0 = o.val; omega
  · show 0 + 1 * k.val = k.val; omega

/-- A matrix of two, loaded. -/
theorem ld_slab (Z : FVec Ideal S2x64x768 .f32) (o : Fin 2) (inb) (d : Fin 64) (k : Fin 768) :
    View.ld (Val := Elt Ideal) (e' := .f32) Z (Rect.unit (s := S2x64x768) ![o.val, 0, 0] ![1, 64, 768] inb) (ix3 0 d k) = Z (ix3 o d k) := by
  refine congrArg Z ?_
  funext a; apply Fin.ext
  fin_cases a
  · show o.val + 1 * 0 = o.val; omega
  · show 0 + 1 * d.val = d.val; omega
  · show 0 + 1 * k.val = k.val; omega

/-! ## The reference's padded rows and matrices -/

/-- A row placed first of two. -/
theorem pad_first (x : FVec Ideal S1x768 .f32) {u : Shape} (v : u.Idx → EReal) (hp) (hu) (d : Fin 2) (k : Fin 768) :
    pad S2x768 ![0, 0] ![1, 0] ![0, 0] x v hp hu (ix2 d k) = if d.val = 0 then x (ix2 0 k) else v (Shape.Idx.first hu) := by
  by_cases h : d.val = 0
  · rw [if_pos h]
    refine pad_apply_of_inside _ _ _ x v hp hu _ (ix2 0 k) fun b => ?_
    match b with
    | ⟨0, _⟩ => show d.val = 0 + 0 * (0 + 1); omega
    | ⟨1, _⟩ => show k.val = 0 + k.val * (0 + 1); omega
  · rw [if_neg h]
    refine pad_apply_of_not_inside _ _ _ x v hp hu _ 0 fun hin => ?_
    have h2 : (d.val - 0) / (0 + 1) < 1 := hin.2.2
    omega

/-- A row placed second of two. -/
theorem pad_second (x : FVec Ideal S1x768 .f32) {u : Shape} (v : u.Idx → EReal) (hp) (hu) (d : Fin 2) (k : Fin 768) :
    pad S2x768 ![1, 0] ![0, 0] ![0, 0] x v hp hu (ix2 d k) = if d.val = 0 then v (Shape.Idx.first hu) else x (ix2 0 k) := by
  have hd := d.isLt
  by_cases h : d.val = 0
  · rw [if_pos h]
    refine pad_apply_of_not_inside _ _ _ x v hp hu _ 0 fun hin => ?_
    have h1 : 1 ≤ d.val := hin.1
    omega
  · rw [if_neg h]
    refine pad_apply_of_inside _ _ _ x v hp hu _ (ix2 0 k) fun b => ?_
    match b with
    | ⟨0, _⟩ => show d.val = 1 + 0 * (0 + 1); omega
    | ⟨1, _⟩ => show k.val = 0 + k.val * (0 + 1); omega

/-- A matrix placed first of two. -/
theorem pad_first3 (x : FVec Ideal S1x64x768 .f32) {u : Shape} (v : u.Idx → EReal) (hp) (hu) (d : Fin 2) (e : Fin 64) (k : Fin 768) :
    pad S2x64x768 ![0, 0, 0] ![1, 0, 0] ![0, 0, 0] x v hp hu (ix3 d e k)
      = if d.val = 0 then x (ix3 0 e k) else v (Shape.Idx.first hu) := by
  by_cases h : d.val = 0
  · rw [if_pos h]
    refine pad_apply_of_inside _ _ _ x v hp hu _ (ix3 0 e k) fun b => ?_
    match b with
    | ⟨0, _⟩ => show d.val = 0 + 0 * (0 + 1); omega
    | ⟨1, _⟩ => show e.val = 0 + e.val * (0 + 1); omega
    | ⟨2, _⟩ => show k.val = 0 + k.val * (0 + 1); omega
  · rw [if_neg h]
    refine pad_apply_of_not_inside _ _ _ x v hp hu _ 0 fun hin => ?_
    have h2 : (d.val - 0) / (0 + 1) < 1 := hin.2.2
    omega

/-- A matrix placed second of two. -/
theorem pad_second3 (x : FVec Ideal S1x64x768 .f32) {u : Shape} (v : u.Idx → EReal) (hp) (hu) (d : Fin 2) (e : Fin 64) (k : Fin 768) :
    pad S2x64x768 ![1, 0, 0] ![0, 0, 0] ![0, 0, 0] x v hp hu (ix3 d e k)
      = if d.val = 0 then v (Shape.Idx.first hu) else x (ix3 0 e k) := by
  have hd := d.isLt
  by_cases h : d.val = 0
  · rw [if_pos h]
    refine pad_apply_of_not_inside _ _ _ x v hp hu _ 0 fun hin => ?_
    have h1 : 1 ≤ d.val := hin.1
    omega
  · rw [if_neg h]
    refine pad_apply_of_inside _ _ _ x v hp hu _ (ix3 0 e k) fun b => ?_
    match b with
    | ⟨0, _⟩ => show d.val = 1 + 0 * (0 + 1); omega
    | ⟨1, _⟩ => show e.val = 0 + e.val * (0 + 1); omega
    | ⟨2, _⟩ => show k.val = 0 + k.val * (0 + 1); omega

/-- One of two values, by the first coordinate. -/
theorem pick_add (d : Nat) (a b : EReal) : (if d = 0 then 0 else b) + (if d = 0 then a else 0) = if d = 0 then a else b := by
  by_cases h : d = 0 <;> simp [h]

/-! ## What a load reads of zeros stored before -/

theorem zero_first {κ : Kind} {sp : Space} (v : View sig κ sp S2x768 .f32) (Z : FVec Ideal S2x768 .f32) (hZ : ∀ i, Z i = 0) (x) :
    v.readCov (Val := Elt Ideal) [⟨Rect.unit ![0, 0] ![2, 768] inb_S2x768_S2x768_0_0, Z⟩]
      (Rect.unit (s := S2x768) ![0, 0] ![1, 768] inb_S2x768_S1x768_0_0).toLoadRect x = (0 : EReal) := by
  rw [View.readCov_fill _ _ _ _ _ (by decide)]
  exact hZ _

theorem zero_second {κ : Kind} {sp : Space} (v : View sig κ sp S2x768 .f32) (Z : FVec Ideal S2x768 .f32) (W : FVec Ideal S1x768 .f32)
    (hZ : ∀ i, Z i = 0) (x) :
    v.readCov (Val := Elt Ideal) [⟨Rect.unit ![0, 0] ![1, 768] inb_S2x768_S1x768_0_0, W⟩, ⟨Rect.unit ![0, 0] ![2, 768] inb_S2x768_S2x768_0_0, Z⟩]
      (Rect.unit (s := S2x768) ![1, 0] ![1, 768] inb_S2x768_S1x768_1_0).toLoadRect x = (0 : EReal) := by
  rw [View.readCov_skip _ _ _ _ _ (by decide), View.readCov_fill _ _ _ _ _ (by decide)]
  exact hZ _

theorem zero_first3 {κ : Kind} {sp : Space} (v : View sig κ sp S2x64x768 .f32) (Z : FVec Ideal S2x64x768 .f32) (hZ : ∀ i, Z i = 0) (x) :
    v.readCov (Val := Elt Ideal) [⟨Rect.unit ![0, 0, 0] ![2, 64, 768] inb_S2x64x768_S2x64x768_0_0_0, Z⟩]
      (Rect.unit (s := S2x64x768) ![0, 0, 0] ![1, 64, 768] inb_S2x64x768_S1x64x768_0_0_0).toLoadRect x = (0 : EReal) := by
  rw [View.readCov_fill _ _ _ _ _ (by decide)]
  exact hZ _

theorem zero_second3 {κ : Kind} {sp : Space} (v : View sig κ sp S2x64x768 .f32) (Z : FVec Ideal S2x64x768 .f32)
    (W : FVec Ideal S1x64x768 .f32) (hZ : ∀ i, Z i = 0) (x) :
    v.readCov (Val := Elt Ideal) [⟨Rect.unit ![0, 0, 0] ![1, 64, 768] inb_S2x64x768_S1x64x768_0_0_0, W⟩,
        ⟨Rect.unit ![0, 0, 0] ![2, 64, 768] inb_S2x64x768_S2x64x768_0_0_0, Z⟩]
      (Rect.unit (s := S2x64x768) ![1, 0, 0] ![1, 64, 768] inb_S2x64x768_S1x64x768_1_0_0).toLoadRect x = (0 : EReal) := by
  rw [View.readCov_skip _ _ _ _ _ (by decide), View.readCov_fill _ _ _ _ _ (by decide)]
  exact hZ _

end Cert.Kernel22Ideal.PreBwd

end
-- ==== Proof.PreBwd.Sums.lean ====
module

public import proofs.«01_k».proof.Proof.Gen.Kernel22Ideal.Frame
public import proofs.«01_k».proof.Proof.Gen.Reference22Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.PreBwd.Heads
public import proofs.«01_k».proof.Proof.PreBwd.Stores

@[expose] public section

/-! # The RWKV preparation's backward pass: the sums over the grid -/

set_option maxRecDepth 16384

noncomputable section

open Idealize.ShloMosaic Idealize.ShloMosaic.TcCoe Idealize.SL.Sem
open Idealize.ShloMosaic.Pipeline (Dat)

namespace Cert.Kernel22Ideal.PreBwd

open Cert.Kernel22Ideal Cert.Kernel22Ideal.Gen

variable (m : (ℓ : Loc nD τ sig) → Buf (Elt Ideal) ℓ)

open Cert.Reference22Ideal.Read

/-! ## What a grid point adds -/

theorem add_w0 (v120 : FVec Ideal S256x768 .f32) (v123 : IVec S256x768 1) (v126 v128 v135 v138 v212 : FVec Ideal S256x768 .f32)
    (acc : FVec Ideal S1x768 .f32) (k : Fin 768) :
    k0_pay84 (k0_pay76 v120 v123 v126 v128 v135 v138 v212) acc (ix2 0 k)
      = acc (ix2 0 k) + ∑ s, k0_pay75 v120 v123 v126 v128 v135 v138 v212 (ix2 s k) := by
  pointwise [k0_pay84, k0_pay76]
theorem add_w1 (v177 : FVec Ideal S256x768 .f32) (v180 : IVec S256x768 1) (v183 v185 v192 v238 v239 : FVec Ideal S256x768 .f32)
    (acc : FVec Ideal S1x768 .f32) (k : Fin 768) :
    k0_pay88 (k0_pay62 v177 v180 v183 v185 v192 v238 v239) acc (ix2 0 k)
      = acc (ix2 0 k) + ∑ s, k0_pay61 v177 v180 v183 v185 v192 v238 v239 (ix2 s k) := by
  pointwise [k0_pay88, k0_pay62]
theorem add_a0 (v3 : FVec Ideal S256x768 .f32) (v21 : FVec Ideal S1x768 .f32) (v93 v147 v213 v214 : FVec Ideal S256x768 .f32)
    (acc : FVec Ideal S1x768 .f32) (k : Fin 768) :
    k0_pay85 (k0_pay70 v3 v21 v93 v147 v213 v214) acc (ix2 0 k)
      = acc (ix2 0 k) + ∑ s, k0_pay69 v3 v21 v93 v147 v213 v214 (ix2 s k) := by
  pointwise [k0_pay85, k0_pay70]
theorem add_a1 (v3 : FVec Ideal S256x768 .f32) (v21 : FVec Ideal S1x768 .f32) (v93 v201 v216 v217 : FVec Ideal S256x768 .f32)
    (acc : FVec Ideal S1x768 .f32) (k : Fin 768) :
    k0_pay89 (k0_pay56 v3 v21 v93 v201 v216 v217) acc (ix2 0 k)
      = acc (ix2 0 k) + ∑ s, k0_pay55 v3 v21 v93 v201 v216 v217 (ix2 s k) := by
  pointwise [k0_pay89, k0_pay56]
theorem add_W0 (v97 : FVec Ideal S256x64 .f32) (v120 : FVec Ideal S256x768 .f32) (v123 : IVec S256x768 1)
    (v126 v128 v135 v138 v212 : FVec Ideal S256x768 .f32) (acc : FVec Ideal S1x64x768 .f32) (d : Fin 64) (k : Fin 768) :
    k0_pay86 (k0_pay77 v97 v120 v123 v126 v128 v135 v138 v212) acc (ix3 0 d k)
      = acc (ix3 0 d k) + ∑ s, v97 (ix2 s d) * k0_pay75 v120 v123 v126 v128 v135 v138 v212 (ix2 s k) := by
  pointwise [k0_pay86, k0_pay77]
theorem add_W1 (v154 : FVec Ideal S256x64 .f32) (v177 : FVec Ideal S256x768 .f32) (v180 : IVec S256x768 1)
    (v183 v185 v192 v238 v239 : FVec Ideal S256x768 .f32) (acc : FVec Ideal S1x64x768 .f32) (d : Fin 64) (k : Fin 768) :
    k0_pay1 (k0_pay90 (k0_pay63 v154 v177 v180 v183 v185 v192 v238 v239) acc) (ix3 0 d k)
      = acc (ix3 0 d k) + ∑ s, v154 (ix2 s d) * k0_pay61 v177 v180 v183 v185 v192 v238 v239 (ix2 s k) := by
  pointwise [k0_pay1, k0_pay90, k0_pay63]
theorem add_A0 (v6 : FVec Ideal S256x64 .f32) (v3 : FVec Ideal S256x768 .f32) (v21 : FVec Ideal S1x768 .f32)
    (v93 v147 v213 v214 : FVec Ideal S256x768 .f32) (acc : FVec Ideal S1x64x768 .f32) (d : Fin 64) (k : Fin 768) :
    k0_pay87 (k0_pay74 (k0_pay72 v6) (k0_pay73 v3 v21 v93 v147 v213 v214) (constant S64x768 .f32 0x00000000#32)) acc (ix3 0 d k)
      = acc (ix3 0 d k) + ∑ s, v6 (ix2 s d) * k0_pay69 v3 v21 v93 v147 v213 v214 (ix2 s k) := by
  pointwise [k0_pay87, k0_pay74, k0_pay72, k0_pay73]
theorem add_A1 (v7 : FVec Ideal S256x64 .f32) (v3 : FVec Ideal S256x768 .f32) (v21 : FVec Ideal S1x768 .f32)
    (v93 v201 v216 v217 : FVec Ideal S256x768 .f32) (acc : FVec Ideal S1x64x768 .f32) (d : Fin 64) (k : Fin 768) :
    k0_pay2 (k0_pay58 v3 v7 v21 v93 v201 v216 v217) acc (ix3 0 d k)
      = acc (ix3 0 d k) + ∑ s, v7 (ix2 s d) * k0_pay55 v3 v21 v93 v201 v216 v217 (ix2 s k) := by
  pointwise [k0_pay2, k0_pay58]
theorem add_ka (v3 v149 v213 v201 v216 : FVec Ideal S256x768 .f32) (acc : FVec Ideal S1x768 .f32) (k : Fin 768) :
    k0_pay83 (k0_pay68 v3 v149 v213 (k0_pay54 v3 v201 v216)) acc (ix2 0 k)
      = acc (ix2 0 k) + (∑ s, k0_pay50 v201 (ix2 s k) * k0_pay52 v3 v216 (ix2 s k)
        + ∑ s, v149 (ix2 s k) * k0_pay66 v3 v213 (ix2 s k)) := by
  pointwise [k0_pay83, k0_pay68, k0_pay54]

/-- The zeros that open the sums. -/
theorem zero4 (j : S1x768.Idx) : k0_pay4 (F := Ideal) j = 0 := by pointwise [k0_pay4]
theorem zero5 (j : S2x768.Idx) : k0_pay5 (F := Ideal) j = 0 := by pointwise [k0_pay5]
theorem zero6 (j : S2x64x768.Idx) : k0_pay6 (F := Ideal) j = 0 := by pointwise [k0_pay6]
theorem zero7 (j : S2x768.Idx) : k0_pay7 (F := Ideal) j = 0 := by pointwise [k0_pay7]
theorem zero8 (j : S2x64x768.Idx) : k0_pay8 (F := Ideal) j = 0 := by pointwise [k0_pay8]

/-- The last point of the grid. -/
theorem last_point (t : Fin cfg0.N) (h : t.val % 8 = 7) : t.val + 1 = cfg0.N := by
  have hN : cfg0.N = 8 := N_0
  have := t.isLt
  omega

/-! ## The sums after the last point -/

/-- A tile's term of the gradient of the keys' rate. -/
def keys (c : Dev nD) (t : Fin cfg0.N) (k : Fin 768) : EReal :=
  ∑ s, k0_pay50 (k0_pay49 (bAb m c t) (ba1 m c t) (bA1 m c t)) (ix2 s k) * k0_pay52 (bK m c t) (iblk m c 14 t) (ix2 s k)
    + ∑ s, k0_pay37 (bAf m c t) (ba0 m c t) (bA0 m c t) (ix2 s k) * k0_pay66 (bK m c t) (iblk m c 11 t) (ix2 s k)

theorem total18 (c : Dev nD) (t : Fin cfg0.N) (ht : t.val + 1 = cfg0.N) (j : S1x768.Idx) :
    (outsAt0 m c t.val t.isLt).2.2.1 j = 0 + ∑ p : Fin cfg0.N, keys m c p (j 1) :=
  Pipeline.eq_sum_fin_of_reset_step_apply_last (fun n h => (outsAt0 m c n h).2.2.1) 8 (fun _ => 0)
    (fun p j => keys m c p (j 1))
    (fun t h j => by
      obtain ⟨k, rfl⟩ : ∃ k : Fin 768, j = ix2 0 k := ⟨j 1, by blk_ext⟩
      rw [outsAt0_A m c t h]
      frame_out
      exact (add_ka _ _ _ _ _ _ k).trans (congrArg (· + _) (zero4 _)))
    (fun t h j => by
      obtain ⟨k, rfl⟩ : ∃ k : Fin 768, j = ix2 0 k := ⟨j 1, by blk_ext⟩
      rw [outsAt0_B m c t h]
      frame_out
      exact add_ka _ _ _ _ _ _ k)
    N_0.le t ht j

theorem total19 (c : Dev nD) (t : Fin cfg0.N) (ht : t.val + 1 = cfg0.N) (j : S2x768.Idx) :
    (outsAt0 m c t.val t.isLt).2.2.2.1 j
      = 0 + ∑ p : Fin cfg0.N, if (j 0).val = 0 then ∑ s, dz0 m c p (ix2 s (j 1)) else ∑ s, dz1 m c p (ix2 s (j 1)) :=
  Pipeline.eq_sum_fin_of_reset_step_apply_last (fun n h => (outsAt0 m c n h).2.2.2.1) 8 (fun _ => 0)
    (fun p j => if (j 0).val = 0 then ∑ s, dz0 m c p (ix2 s (j 1)) else ∑ s, dz1 m c p (ix2 s (j 1)))
    (fun t h j => by
      rw [outsAt0_A m c t h]
      frame_out
      refine (canon_rows _ _ _ j).trans ?_
      by_cases h0 : (j 0).val = 0
      · rw [if_pos h0, if_pos h0]
        exact (add_w0 _ _ _ _ _ _ _ _ (j 1)).trans (congrArg (· + _) (zero_first _ _ zero5 _))
      · rw [if_neg h0, if_neg h0]
        exact (add_w1 _ _ _ _ _ _ _ _ (j 1)).trans (congrArg (· + _) (zero_second _ _ _ zero5 _)))
    (fun t h j => by
      have hj : (j 0).val < 2 := (j 0).isLt
      rw [outsAt0_B m c t h]
      frame_out
      refine (canon_rows _ _ _ j).trans ?_
      by_cases h0 : (j 0).val = 0
      · rw [if_pos h0, if_pos h0]
        have e : ix2 0 (j 1) = j := by blk_ext [h0]
        exact (add_w0 _ _ _ _ _ _ _ _ (j 1)).trans (congrArg (· + _) ((ld_row _ 0 _ (j 1)).trans (congrArg _ e)))
      · rw [if_neg h0, if_neg h0]
        have e : ix2 1 (j 1) = j := by blk_ext [h0]
        exact (add_w1 _ _ _ _ _ _ _ _ (j 1)).trans (congrArg (· + _) ((ld_row _ 1 _ (j 1)).trans (congrArg _ e))))
    N_0.le t ht j

/-- The first point, at the first matrix and at the second. -/
theorem first20_0 (c : Dev nD) (t : Fin cfg0.N) (h : t.val % 8 = 0) (j : S2x64x768.Idx) (h0 : (j 0).val = 0) :
    (outsAt0 m c t.val t.isLt).2.2.2.2.1 j = 0 + ∑ s, k0_pay24 (bWf m c t) (ix2 s (j 1)) * dz0 m c t (ix2 s (j 2)) := by
  rw [outsAt0_A m c t h]
  frame_out
  refine (canon_slabs _ _ _ j).trans ?_
  rw [if_pos h0]
  exact (add_W0 _ _ _ _ _ _ _ _ _ (j 1) (j 2)).trans (congrArg (· + _) (zero_first3 _ _ zero6 _))
theorem first20_1 (c : Dev nD) (t : Fin cfg0.N) (h : t.val % 8 = 0) (j : S2x64x768.Idx) (h0 : ¬ (j 0).val = 0) :
    (outsAt0 m c t.val t.isLt).2.2.2.2.1 j = 0 + ∑ s, k0_pay39 (bWb m c t) (ix2 s (j 1)) * dz1 m c t (ix2 s (j 2)) := by
  rw [outsAt0_A m c t h]
  frame_out
  refine (canon_slabs _ _ _ j).trans ?_
  rw [if_neg h0]
  exact (add_W1 _ _ _ _ _ _ _ _ _ (j 1) (j 2)).trans (congrArg (· + _) (zero_second3 _ _ _ zero6 _))

/-- A later point. -/
theorem next20_0 (c : Dev nD) (t : Fin cfg0.N) (h : ¬ t.val % 8 = 0) (j : S2x64x768.Idx) (h0 : (j 0).val = 0) :
    (outsAt0 m c t.val t.isLt).2.2.2.2.1 j
      = (outsAt0 m c (t.val - 1) (by omega)).2.2.2.2.1 j + ∑ s, k0_pay24 (bWf m c t) (ix2 s (j 1)) * dz0 m c t (ix2 s (j 2)) := by
  have e : ix3 0 (j 1) (j 2) = j := by blk_ext [h0]
  rw [outsAt0_B m c t h]
  frame_out
  refine (canon_slabs _ _ _ j).trans ?_
  rw [if_pos h0]
  exact (add_W0 _ _ _ _ _ _ _ _ _ (j 1) (j 2)).trans (congrArg (· + _) ((ld_slab _ 0 _ (j 1) (j 2)).trans (congrArg _ e)))
theorem next20_1 (c : Dev nD) (t : Fin cfg0.N) (h : ¬ t.val % 8 = 0) (j : S2x64x768.Idx) (h0 : ¬ (j 0).val = 0) :
    (outsAt0 m c t.val t.isLt).2.2.2.2.1 j
      = (outsAt0 m c (t.val - 1) (by omega)).2.2.2.2.1 j + ∑ s, k0_pay39 (bWb m c t) (ix2 s (j 1)) * dz1 m c t (ix2 s (j 2)) := by
  have hj : (j 0).val < 2 := (j 0).isLt
  have e : ix3 1 (j 1) (j 2) = j := by blk_ext [h0]
  rw [outsAt0_B m c t h]
  frame_out
  refine (canon_slabs _ _ _ j).trans ?_
  rw [if_neg h0]
  exact (add_W1 _ _ _ _ _ _ _ _ _ (j 1) (j 2)).trans (congrArg (· + _) ((ld_slab _ 1 _ (j 1) (j 2)).trans (congrArg _ e)))

/-- A tile's term of the gradient of the decays' weight. -/
def decays (c : Dev nD) (p : Fin cfg0.N) (j : S2x64x768.Idx) : EReal :=
  if (j 0).val = 0 then ∑ s, k0_pay24 (F := Ideal) (bWf m c p) (ix2 s (j 1)) * dz0 m c p (ix2 s (j 2))
  else ∑ s, k0_pay39 (F := Ideal) (bWb m c p) (ix2 s (j 1)) * dz1 m c p (ix2 s (j 2))

theorem first20 (c : Dev nD) (t : Fin cfg0.N) (h : t.val % 8 = 0) (j : S2x64x768.Idx) :
    (outsAt0 m c t.val t.isLt).2.2.2.2.1 j = 0 + decays m c t j := by
  unfold decays
  by_cases h0 : (j 0).val = 0
  · rw [if_pos h0]; exact first20_0 m c t h j h0
  · rw [if_neg h0]; exact first20_1 m c t h j h0

theorem next20 (c : Dev nD) (t : Fin cfg0.N) (h : ¬ t.val % 8 = 0) (j : S2x64x768.Idx) :
    (outsAt0 m c t.val t.isLt).2.2.2.2.1 j = (outsAt0 m c (t.val - 1) (by omega)).2.2.2.2.1 j + decays m c t j := by
  unfold decays
  by_cases h0 : (j 0).val = 0
  · rw [if_pos h0]; exact next20_0 m c t h j h0
  · rw [if_neg h0]; exact next20_1 m c t h j h0

theorem total20 (c : Dev nD) (t : Fin cfg0.N) (ht : t.val + 1 = cfg0.N) (j : S2x64x768.Idx) :
    (outsAt0 m c t.val t.isLt).2.2.2.2.1 j = 0 + ∑ p : Fin cfg0.N, decays m c p j :=
  Pipeline.eq_sum_fin_of_reset_step_apply_last (fun n h => (outsAt0 m c n h).2.2.2.2.1) 8 (fun _ => 0) (decays m c)
    (fun t h j => first20 m c t h j) (fun t h j => next20 m c t h j) N_0.le t ht j

theorem total21 (c : Dev nD) (t : Fin cfg0.N) (ht : t.val + 1 = cfg0.N) (j : S2x768.Idx) :
    (outsAt0 m c t.val t.isLt).2.2.2.2.2.1 j
      = 0 + ∑ p : Fin cfg0.N, if (j 0).val = 0 then ∑ s, da0 m c p (ix2 s (j 1)) else ∑ s, da1 m c p (ix2 s (j 1)) :=
  Pipeline.eq_sum_fin_of_reset_step_apply_last (fun n h => (outsAt0 m c n h).2.2.2.2.2.1) 8 (fun _ => 0)
    (fun p j => if (j 0).val = 0 then ∑ s, da0 m c p (ix2 s (j 1)) else ∑ s, da1 m c p (ix2 s (j 1)))
    (fun t h j => by
      rw [outsAt0_A m c t h]
      frame_out
      refine (canon_rows _ _ _ j).trans ?_
      by_cases h0 : (j 0).val = 0
      · rw [if_pos h0, if_pos h0]
        exact (add_a0 _ _ _ _ _ _ _ (j 1)).trans (congrArg (· + _) (zero_first _ _ zero7 _))
      · rw [if_neg h0, if_neg h0]
        exact (add_a1 _ _ _ _ _ _ _ (j 1)).trans (congrArg (· + _) (zero_second _ _ _ zero7 _)))
    (fun t h j => by
      have hj : (j 0).val < 2 := (j 0).isLt
      rw [outsAt0_B m c t h]
      frame_out
      refine (canon_rows _ _ _ j).trans ?_
      by_cases h0 : (j 0).val = 0
      · rw [if_pos h0, if_pos h0]
        have e : ix2 0 (j 1) = j := by blk_ext [h0]
        exact (add_a0 _ _ _ _ _ _ _ (j 1)).trans (congrArg (· + _) ((ld_row _ 0 _ (j 1)).trans (congrArg _ e)))
      · rw [if_neg h0, if_neg h0]
        have e : ix2 1 (j 1) = j := by blk_ext [h0]
        exact (add_a1 _ _ _ _ _ _ _ (j 1)).trans (congrArg (· + _) ((ld_row _ 1 _ (j 1)).trans (congrArg _ e))))
    N_0.le t ht j

set_option maxHeartbeats 1000000 in
theorem total22 (c : Dev nD) (t : Fin cfg0.N) (ht : t.val + 1 = cfg0.N) (j : S2x64x768.Idx) :
    (outsAt0 m c t.val t.isLt).2.2.2.2.2.2 j
      = 0 + ∑ p : Fin cfg0.N, if (j 0).val = 0 then ∑ s, bAf m c p (ix2 s (j 1)) * da0 m c p (ix2 s (j 2))
        else ∑ s, bAb m c p (ix2 s (j 1)) * da1 m c p (ix2 s (j 2)) :=
  Pipeline.eq_sum_fin_of_reset_step_apply_last (fun n h => (outsAt0 m c n h).2.2.2.2.2.2) 8 (fun _ => 0)
    (fun p j => if (j 0).val = 0 then ∑ s, bAf m c p (ix2 s (j 1)) * da0 m c p (ix2 s (j 2))
        else ∑ s, bAb m c p (ix2 s (j 1)) * da1 m c p (ix2 s (j 2)))
    (fun t h j => by
      rw [outsAt0_A m c t h]
      frame_out
      refine (canon_slabs _ _ _ j).trans ?_
      by_cases h0 : (j 0).val = 0
      · rw [if_pos h0, if_pos h0]
        exact (add_A0 _ _ _ _ _ _ _ _ (j 1) (j 2)).trans (congrArg (· + _) (zero_first3 _ _ zero8 _))
      · rw [if_neg h0, if_neg h0]
        exact (add_A1 _ _ _ _ _ _ _ _ (j 1) (j 2)).trans (congrArg (· + _) (zero_second3 _ _ _ zero8 _)))
    (fun t h j => by
      have hj : (j 0).val < 2 := (j 0).isLt
      rw [outsAt0_B m c t h]
      frame_out
      refine (canon_slabs _ _ _ j).trans ?_
      by_cases h0 : (j 0).val = 0
      · rw [if_pos h0, if_pos h0]
        have e : ix3 0 (j 1) (j 2) = j := by blk_ext [h0]
        exact (add_A0 _ _ _ _ _ _ _ _ (j 1) (j 2)).trans (congrArg (· + _) ((ld_slab _ 0 _ (j 1) (j 2)).trans (congrArg _ e)))
      · rw [if_neg h0, if_neg h0]
        have e : ix3 1 (j 1) (j 2) = j := by blk_ext [h0]
        exact (add_A1 _ _ _ _ _ _ _ _ (j 1) (j 2)).trans (congrArg (· + _) ((ld_slab _ 1 _ (j 1) (j 2)).trans (congrArg _ e))))
    N_0.le t ht j

end Cert.Kernel22Ideal.PreBwd

end
-- ==== Proof.PreBwd.Value.lean ====
module

public import proofs.«01_k».proof.Proof.Gen.Kernel22Ideal.Frame
public import proofs.«01_k».proof.Proof.Gen.Reference22Ideal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.PreBwd.Sums

@[expose] public section

/-! # The RWKV preparation's backward pass: its results -/

set_option maxRecDepth 16384

noncomputable section

open Idealize.ShloMosaic Idealize.ShloMosaic.TcCoe Idealize.SL.Sem
open Idealize.ShloMosaic.Pipeline (Dat)

namespace Cert.Kernel22Ideal.PreBwd

open Cert.Kernel22Ideal Cert.Kernel22Ideal.Gen

variable (m : (ℓ : Loc nD τ sig) → Buf (Elt Ideal) ℓ)

open Cert.Reference22Ideal.Read

/-- The gradient of the keys' rate, the whole row. -/
theorem final18 (c : Dev nD) : (dats m 0 c).arrAt 18 (cfgs 0).N
    = val_main_v184 (F := Ideal) (A0 m c) (A5 m c) (A6 m c) (A11 m c) (A14 m c) := by
  refine (dats m 0 c).arrAt_eq_of_covers 18 _ (by decide +kernel) fun t hf y => ?_
  have ht := last_point t ((flush0_18 t).mp hf)
  blk_simp
  obtain ⟨j, rfl⟩ : ∃ j : Fin 768, y = ix2 0 j := ⟨y 1, by blk_ext⟩
  have e : ((cfg0.win 18).blk t).view.emb (ix2 0 j) = ix2 0 j := by blk_ext [idx t]
  rw [after0_18, total18 m c t ht, zero_add]
  refine Eq.trans ?_ (congrArg (val_main_v184 (F := Ideal) (A0 m c) (A5 m c) (A6 m c) (A11 m c) (A14 m c)) e.symm)
  unfold keys
  rw [Finset.sum_add_distrib]
  pointwise [val_main_v184, val_main_v183, val_main_v182, val_main_v141, val_main_v140, val_main_cst_28, val_main_cst_38]
  refine congrArg₂ (· + ·) (Fin.sum_mul_add_congr (fun p s hl => ?_) (congrArg (· * 256) N_0).symm)
    (Fin.sum_mul_add_congr (fun p s hl => ?_) (congrArg (· * 256) N_0).symm)
  · exact eq_ka1 m c p s j
  · exact eq_ka0 m c p s j

/-- A choice among sums is the sum of the choices. -/
theorem sum_pick {n : Nat} (d : Nat) (f g : Fin n → EReal) :
    (∑ p, if d = 0 then f p else g p) = if d = 0 then ∑ p, f p else ∑ p, g p := by
  by_cases h : d = 0 <;> simp [h]

/-- The reference's pairs of rows, the first or the second. -/
theorem pair_w0 (x0 : FVec Ideal S2048x2560 .f32) (x3 : FVec Ideal S2x768 .f32) (x4 : FVec Ideal S2x64x768 .f32)
    (x10 x13 : FVec Ideal S2048x768 .f32) (d : Fin 2) (k : Fin 768) :
    val_main_v225 (F := Ideal) x0 x3 x4 x10 x13 (ix2 d k)
      = if d.val = 0 then ∑ r, val_main_v214 (F := Ideal) x0 x3 x4 x10 (ix2 r k) else ∑ r, val_main_v169 (F := Ideal) x0 x3 x4 x13 (ix2 r k) := by
  have h1 : val_main_v178 (F := Ideal) x0 x3 x4 x13 (ix2 d k) = if d.val = 0 then 0 else ∑ r, val_main_v169 (F := Ideal) x0 x3 x4 x13 (ix2 r k) := by
    refine (pad_second _ _ _ _ d k).trans (if_congr Iff.rfl ?_ ?_)
    · pointwise [val_main_cst_37]
    · pointwise [val_main_v177, val_main_v172, val_main_v171, val_main_v170, val_main_cst_34, val_main_cst_35]
      exact Fin.sum_univ_one _
  have h0 : val_main_v224 (F := Ideal) x0 x3 x4 x10 (ix2 d k) = if d.val = 0 then ∑ r, val_main_v214 (F := Ideal) x0 x3 x4 x10 (ix2 r k) else 0 := by
    refine (pad_first _ _ _ _ d k).trans (if_congr Iff.rfl ?_ ?_)
    · pointwise [val_main_v223, val_main_v217, val_main_v216, val_main_v215, val_main_cst_44, val_main_cst_45]
      exact Fin.sum_univ_one _
    · pointwise [val_main_cst_47]
  rw [val_main_v225_apply, h1, h0]
  exact pick_add _ _ _

theorem pair_a0 (x0 : FVec Ideal S2048x2560 .f32) (x1 x2 : FVec Ideal S1x768 .f32) (x5 : FVec Ideal S2x768 .f32)
    (x6 : FVec Ideal S2x64x768 .f32) (x11 x12 x14 x15 : FVec Ideal S2048x768 .f32) (d : Fin 2) (k : Fin 768) :
    val_main_v202 (F := Ideal) x0 x1 x2 x5 x6 x11 x12 x14 x15 (ix2 d k)
      = if d.val = 0 then ∑ r, val_main_v191 (F := Ideal) x0 x1 x2 x5 x6 x11 x12 (ix2 r k)
        else ∑ r, val_main_v148 (F := Ideal) x0 x1 x2 x5 x6 x14 x15 (ix2 r k) := by
  have h1 : val_main_v157 (F := Ideal) x0 x1 x2 x5 x6 x14 x15 (ix2 d k)
      = if d.val = 0 then 0 else ∑ r, val_main_v148 (F := Ideal) x0 x1 x2 x5 x6 x14 x15 (ix2 r k) := by
    refine (pad_second _ _ _ _ d k).trans (if_congr Iff.rfl ?_ ?_)
    · pointwise [val_main_cst_32]
    · pointwise [val_main_v156, val_main_v151, val_main_v150, val_main_v149, val_main_cst_29, val_main_cst_30]
      exact Fin.sum_univ_one _
  have h0 : val_main_v201 (F := Ideal) x0 x1 x2 x5 x6 x11 x12 (ix2 d k)
      = if d.val = 0 then ∑ r, val_main_v191 (F := Ideal) x0 x1 x2 x5 x6 x11 x12 (ix2 r k) else 0 := by
    refine (pad_first _ _ _ _ d k).trans (if_congr Iff.rfl ?_ ?_)
    · pointwise [val_main_v200, val_main_v194, val_main_v193, val_main_v192, val_main_cst_39, val_main_cst_40]
      exact Fin.sum_univ_one _
    · pointwise [val_main_cst_42]
  rw [val_main_v202_apply, h1, h0]
  exact pick_add _ _ _

/-- The reference's pairs of matrices. -/
theorem pair_w2 (x0 : FVec Ideal S2048x2560 .f32) (x3 : FVec Ideal S2x768 .f32) (x4 : FVec Ideal S2x64x768 .f32)
    (x10 x13 : FVec Ideal S2048x768 .f32) (d : Fin 2) (i : Fin 64) (k : Fin 768) :
    val_main_v222 (F := Ideal) x0 x3 x4 x10 x13 (ix3 d i k)
      = if d.val = 0 then ∑ r, val_main_v214 (F := Ideal) x0 x3 x4 x10 (ix2 r k) * val_main_v17 (F := Ideal) x0 (ix2 r i)
        else ∑ r, val_main_v169 (F := Ideal) x0 x3 x4 x13 (ix2 r k) * val_main_v78 (F := Ideal) x0 (ix2 r i) := by
  have h1 : val_main_v176 (F := Ideal) x0 x3 x4 x13 (ix3 d i k)
      = if d.val = 0 then 0 else ∑ r, val_main_v169 (F := Ideal) x0 x3 x4 x13 (ix2 r k) * val_main_v78 (F := Ideal) x0 (ix2 r i) := by
    refine (pad_second3 _ _ _ _ d i k).trans (if_congr Iff.rfl ?_ ?_)
    · pointwise [val_main_cst_36]
    · pointwise [val_main_v175, val_main_v174, val_main_v173]
  have h0 : val_main_v221 (F := Ideal) x0 x3 x4 x10 (ix3 d i k)
      = if d.val = 0 then ∑ r, val_main_v214 (F := Ideal) x0 x3 x4 x10 (ix2 r k) * val_main_v17 (F := Ideal) x0 (ix2 r i) else 0 := by
    refine (pad_first3 _ _ _ _ d i k).trans (if_congr Iff.rfl ?_ ?_)
    · pointwise [val_main_v220, val_main_v219, val_main_v218]
    · pointwise [val_main_cst_46]
  rw [val_main_v222_apply, h1, h0]
  exact pick_add _ _ _

theorem pair_a2 (x0 : FVec Ideal S2048x2560 .f32) (x1 x2 : FVec Ideal S1x768 .f32) (x5 : FVec Ideal S2x768 .f32)
    (x6 : FVec Ideal S2x64x768 .f32) (x11 x12 x14 x15 : FVec Ideal S2048x768 .f32) (d : Fin 2) (i : Fin 64) (k : Fin 768) :
    val_main_v199 (F := Ideal) x0 x1 x2 x5 x6 x11 x12 x14 x15 (ix3 d i k)
      = if d.val = 0 then ∑ r, val_main_v191 (F := Ideal) x0 x1 x2 x5 x6 x11 x12 (ix2 r k) * val_main_v4 (F := Ideal) x0 (ix2 r i)
        else ∑ r, val_main_v148 (F := Ideal) x0 x1 x2 x5 x6 x14 x15 (ix2 r k) * val_main_v5 (F := Ideal) x0 (ix2 r i) := by
  have h1 : val_main_v155 (F := Ideal) x0 x1 x2 x5 x6 x14 x15 (ix3 d i k)
      = if d.val = 0 then 0
        else ∑ r, val_main_v148 (F := Ideal) x0 x1 x2 x5 x6 x14 x15 (ix2 r k) * val_main_v5 (F := Ideal) x0 (ix2 r i) := by
    refine (pad_second3 _ _ _ _ d i k).trans (if_congr Iff.rfl ?_ ?_)
    · pointwise [val_main_cst_31]
    · pointwise [val_main_v154, val_main_v153, val_main_v152]
  have h0 : val_main_v198 (F := Ideal) x0 x1 x2 x5 x6 x11 x12 (ix3 d i k)
      = if d.val = 0 then ∑ r, val_main_v191 (F := Ideal) x0 x1 x2 x5 x6 x11 x12 (ix2 r k) * val_main_v4 (F := Ideal) x0 (ix2 r i)
        else 0 := by
    refine (pad_first3 _ _ _ _ d i k).trans (if_congr Iff.rfl ?_ ?_)
    · pointwise [val_main_v197, val_main_v196, val_main_v195]
    · pointwise [val_main_cst_41]
  rw [val_main_v199_apply, h1, h0]
  exact pick_add _ _ _

/-- The decays' inputs after the tanh. -/
theorem eq_tf (c : Dev nD) (t : Fin cfg0.N) (s : Fin 256) (j : Fin 64) :
    k0_pay24 (F := Ideal) (bWf m c t) (ix2 s j) = val_main_v17 (F := Ideal) (A0 m c) (ix2 (row t s) j) := by
  pointwise [k0_pay24, val_main_v17]
  rw [eqWf]
theorem eq_tb (c : Dev nD) (t : Fin cfg0.N) (s : Fin 256) (j : Fin 64) :
    k0_pay39 (F := Ideal) (bWb m c t) (ix2 s j) = val_main_v78 (F := Ideal) (A0 m c) (ix2 (row t s) j) := by
  pointwise [k0_pay39, val_main_v78]
  rw [eqWb]

/-- The gradient of the decays' bias, both rows. -/
theorem final19 (c : Dev nD) : (dats m 0 c).arrAt 19 (cfgs 0).N
    = val_main_v225 (F := Ideal) (A0 m c) (A3 m c) (A4 m c) (A10 m c) (A13 m c) := by
  refine (dats m 0 c).arrAt_eq_of_covers 19 _ (by decide +kernel) fun t hf y => ?_
  have ht := last_point t ((flush0_19 t).mp hf)
  blk_simp
  obtain ⟨d, j, rfl⟩ : ∃ (d : Fin 2) (j : Fin 768), y = ix2 d j := ⟨y 0, y 1, by blk_ext⟩
  have e : ((cfg0.win 19).blk t).view.emb (ix2 d j) = ix2 d j := by blk_ext [idx t]
  rw [after0_19, total19 m c t ht, zero_add, sum_pick]
  refine Eq.trans ?_ ((pair_w0 _ _ _ _ _ d j).symm.trans
    (congrArg (val_main_v225 (F := Ideal) (A0 m c) (A3 m c) (A4 m c) (A10 m c) (A13 m c)) e.symm))
  refine if_congr Iff.rfl (Fin.sum_mul_add_congr (fun p s hl => ?_) (congrArg (· * 256) N_0).symm)
    (Fin.sum_mul_add_congr (fun p s hl => ?_) (congrArg (· * 256) N_0).symm)
  · exact eq_dz0 m c p s j
  · exact eq_dz1 m c p s j

/-- The gradient of the rates' bias, both rows. -/
theorem final21 (c : Dev nD) : (dats m 0 c).arrAt 21 (cfgs 0).N
    = val_main_v202 (F := Ideal) (A0 m c) (A1 m c) (A2 m c) (A5 m c) (A6 m c) (A11 m c) (A12 m c) (A14 m c) (A15 m c) := by
  refine (dats m 0 c).arrAt_eq_of_covers 21 _ (by decide +kernel) fun t hf y => ?_
  have ht := last_point t ((flush0_21 t).mp hf)
  blk_simp
  obtain ⟨d, j, rfl⟩ : ∃ (d : Fin 2) (j : Fin 768), y = ix2 d j := ⟨y 0, y 1, by blk_ext⟩
  have e : ((cfg0.win 21).blk t).view.emb (ix2 d j) = ix2 d j := by blk_ext [idx t]
  rw [after0_21, total21 m c t ht, zero_add, sum_pick]
  refine Eq.trans ?_ ((pair_a0 _ _ _ _ _ _ _ _ _ d j).symm.trans
    (congrArg (val_main_v202 (F := Ideal) (A0 m c) (A1 m c) (A2 m c) (A5 m c) (A6 m c) (A11 m c) (A12 m c) (A14 m c) (A15 m c)) e.symm))
  refine if_congr Iff.rfl (Fin.sum_mul_add_congr (fun p s hl => ?_) (congrArg (· * 256) N_0).symm)
    (Fin.sum_mul_add_congr (fun p s hl => ?_) (congrArg (· * 256) N_0).symm)
  · exact eq_da0 m c p s j
  · exact eq_da1 m c p s j

/-- The gradient of the decays' weight, both matrices. -/
theorem final20 (c : Dev nD) : (dats m 0 c).arrAt 20 (cfgs 0).N
    = val_main_v222 (F := Ideal) (A0 m c) (A3 m c) (A4 m c) (A10 m c) (A13 m c) := by
  refine (dats m 0 c).arrAt_eq_of_covers 20 _ (by decide +kernel) fun t hf y => ?_
  have ht := last_point t ((flush0_20 t).mp hf)
  blk_simp
  obtain ⟨d, i, j, rfl⟩ : ∃ (d : Fin 2) (i : Fin 64) (j : Fin 768), y = ix3 d i j := ⟨y 0, y 1, y 2, by blk_ext⟩
  have e : ((cfg0.win 20).blk t).view.emb (ix3 d i j) = ix3 d i j := by blk_ext [idx t]
  rw [after0_20, total20 m c t ht, zero_add]
  unfold decays
  rw [sum_pick]
  refine Eq.trans ?_ ((pair_w2 _ _ _ _ _ d i j).symm.trans
    (congrArg (val_main_v222 (F := Ideal) (A0 m c) (A3 m c) (A4 m c) (A10 m c) (A13 m c)) e.symm))
  refine if_congr Iff.rfl (Fin.sum_mul_add_congr (fun p s hl => ?_) (congrArg (· * 256) N_0).symm)
    (Fin.sum_mul_add_congr (fun p s hl => ?_) (congrArg (· * 256) N_0).symm)
  · exact (mul_comm _ _).trans (congrArg₂ (· * ·) (eq_dz0 m c p s j) (eq_tf m c p s i))
  · exact (mul_comm _ _).trans (congrArg₂ (· * ·) (eq_dz1 m c p s j) (eq_tb m c p s i))

/-- The gradient of the rates' weight, both matrices. -/
theorem final22 (c : Dev nD) : (dats m 0 c).arrAt 22 (cfgs 0).N
    = val_main_v199 (F := Ideal) (A0 m c) (A1 m c) (A2 m c) (A5 m c) (A6 m c) (A11 m c) (A12 m c) (A14 m c) (A15 m c) := by
  refine (dats m 0 c).arrAt_eq_of_covers 22 _ (by decide +kernel) fun t hf y => ?_
  have ht := last_point t ((flush0_22 t).mp hf)
  blk_simp
  obtain ⟨d, i, j, rfl⟩ : ∃ (d : Fin 2) (i : Fin 64) (j : Fin 768), y = ix3 d i j := ⟨y 0, y 1, y 2, by blk_ext⟩
  have e : ((cfg0.win 22).blk t).view.emb (ix3 d i j) = ix3 d i j := by blk_ext [idx t]
  rw [after0_22, total22 m c t ht, zero_add, sum_pick]
  refine Eq.trans ?_ ((pair_a2 _ _ _ _ _ _ _ _ _ d i j).symm.trans
    (congrArg (val_main_v199 (F := Ideal) (A0 m c) (A1 m c) (A2 m c) (A5 m c) (A6 m c) (A11 m c) (A12 m c) (A14 m c) (A15 m c)) e.symm))
  refine if_congr Iff.rfl (Fin.sum_mul_add_congr (fun p s hl => ?_) (congrArg (· * 256) N_0).symm)
    (Fin.sum_mul_add_congr (fun p s hl => ?_) (congrArg (· * 256) N_0).symm)
  · exact (mul_comm _ _).trans (congrArg₂ (· * ·) (eq_da0 m c p s j) (eqAf m c p s i))
  · exact (mul_comm _ _).trans (congrArg₂ (· * ·) (eq_da1 m c p s j) (eqAb m c p s i))

end Cert.Kernel22Ideal.PreBwd

end
-- ==== Proof.PreBwd.Claims.lean ====
module

public import proofs.«01_k».proof.Defs
public import proofs.«01_k».proof.Proof.Gen.Kernel22.Frame
public import proofs.«01_k».proof.Proof.Gen.Kernel22Ideal.Frame
public import proofs.«01_k».proof.Proof.Gen.Reference22Ideal.Run
public import proofs.«01_k».proof.Proof.PreBwd.Value
public import proofs.«01_k».proof.Proof.Gen.Kernel22Ideal.Value
public import proofs.«01_k».proof.Proof.Gen.Reference22Ideal.Read
public import Idealize.ShloMosaic.Lib.Quiescent

@[expose] public section

/-! # The RWKV preparation's backward pass: its claims -/

set_option maxRecDepth 16384

noncomputable section

namespace Cert.PreBwd

open Idealize.ShloMosaic Idealize.ShloMosaic.TcCoe Idealize.SL.Sem

/-- The kernel runs to completion, keeps its arguments and leaves every semaphore at zero. -/
theorem kernel_frame : Cert.quiescent_Kernel22 := fun m g _ => Cert.Kernel22.Gen.frame m g

/-- The same over the extended reals. -/
theorem ideal_frame : Cert.quiescent_Kernel22Ideal := fun m g _ => Cert.Kernel22Ideal.Gen.frame m g

/-- The same for the reference. -/
theorem reference_frame : Cert.quiescent_Reference22Ideal := fun m g _ =>
  (θ_run Cert.Reference22Ideal.defs _ _).mono
    (fun r h => ⟨fun c => (h c).2.2.2.2.2, sem_eq_zero_of_no_sems (by decide) r.2⟩)
    (Cert.Reference22Ideal.Value.run (F := Ideal) m g)

open Cert.Reference22Ideal.Read in
/-- Over the extended reals kernel and reference have the same five results: the gradients of the keys' rate, and of the bias and
the weight of the decays and of the rates. -/
theorem algebraic : Cert.algebraic_Kernel22Ideal_Reference22Ideal := by
  intro m g m' g' _ hag
  refine ⟨_, _, _, _, _, (θ_run Cert.Kernel22Ideal.defs _ _).mono (fun r h c => (h c).2.2) (Cert.Kernel22Ideal.Value.run_blocks m g),
    (θ_run Cert.Reference22Ideal.defs _ _).mono (fun r h c => ?_) (Cert.Reference22Ideal.Value.run m' g')⟩
  obtain ⟨h0, h1, h2, h3, h4, hargs⟩ := h c
  obtain ⟨e0, e1, e2, e3, e4, e5, e6, e7, e8, e9, e10, e11, e12, e13, e14, e15⟩ := hag c
  change StableHlo.launchContents m' c (Proc.devRef .tc Cert.Reference22Ideal.main_arg0) = _ at e0
  change StableHlo.launchContents m' c (Proc.devRef .tc Cert.Reference22Ideal.main_arg1) = _ at e1
  change StableHlo.launchContents m' c (Proc.devRef .tc Cert.Reference22Ideal.main_arg2) = _ at e2
  change StableHlo.launchContents m' c (Proc.devRef .tc Cert.Reference22Ideal.main_arg3) = _ at e3
  change StableHlo.launchContents m' c (Proc.devRef .tc Cert.Reference22Ideal.main_arg4) = _ at e4
  change StableHlo.launchContents m' c (Proc.devRef .tc Cert.Reference22Ideal.main_arg5) = _ at e5
  change StableHlo.launchContents m' c (Proc.devRef .tc Cert.Reference22Ideal.main_arg6) = _ at e6
  change StableHlo.launchContents m' c (Proc.devRef .tc Cert.Reference22Ideal.main_arg10) = _ at e10
  change StableHlo.launchContents m' c (Proc.devRef .tc Cert.Reference22Ideal.main_arg11) = _ at e11
  change StableHlo.launchContents m' c (Proc.devRef .tc Cert.Reference22Ideal.main_arg12) = _ at e12
  change StableHlo.launchContents m' c (Proc.devRef .tc Cert.Reference22Ideal.main_arg13) = _ at e13
  change StableHlo.launchContents m' c (Proc.devRef .tc Cert.Reference22Ideal.main_arg14) = _ at e14
  change StableHlo.launchContents m' c (Proc.devRef .tc Cert.Reference22Ideal.main_arg15) = _ at e15
  replace h0 := h0.trans (val_main_v184_eq _)
  rw [e0, e5, e6, e11, e14] at h0
  replace h1 := h1.trans (val_main_v225_eq _)
  rw [e0, e3, e4, e10, e13] at h1
  replace h2 := h2.trans (val_main_v222_eq _)
  rw [e0, e3, e4, e10, e13] at h2
  replace h3 := h3.trans (val_main_v202_eq _)
  rw [e0, e1, e2, e5, e6, e11, e12, e14, e15] at h3
  replace h4 := h4.trans (val_main_v199_eq _)
  rw [e0, e1, e2, e5, e6, e11, e12, e14, e15] at h4
  exact ⟨h0.trans (Cert.Kernel22Ideal.PreBwd.final18 m c).symm, h1.trans (Cert.Kernel22Ideal.PreBwd.final19 m c).symm,
    h2.trans (Cert.Kernel22Ideal.PreBwd.final20 m c).symm, h3.trans (Cert.Kernel22Ideal.PreBwd.final21 m c).symm,
    h4.trans (Cert.Kernel22Ideal.PreBwd.final22 m c).symm, hargs⟩

end Cert.PreBwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.Gen.Kernel5Ideal.Points
public import proofs.«01_k».proof.Proof.Gen.Kernel5Ideal.Frame
public import proofs.«01_k».proof.Proof.Gen.Reference5Ideal.Run
public import proofs.«01_k».proof.Proof.Gen.Reference5Ideal.Read
public import proofs.«01_k».proof.Proof.Merge.Claims
public import proofs.«01_k».proof.Proof.InBwd.Claims
public import proofs.«01_k».proof.Proof.GradWIn.Claims
public import proofs.«01_k».proof.Proof.Xattn.Claims
public import proofs.«01_k».proof.Proof.ProjFwd.Claims
public import proofs.«01_k».proof.Proof.GradWOut.Claims
public import proofs.«01_k».proof.Proof.DMerged.Claims
public import proofs.«01_k».proof.Proof.OutFwd.Claims
public import proofs.«01_k».proof.Proof.GradBranchWO.Claims
public import proofs.«01_k».proof.Proof.GradMemoryWO.Claims
public import proofs.«01_k».proof.Proof.MergeFwd.Claims
public import proofs.«01_k».proof.Proof.GradXWKv.Claims
public import proofs.«01_k».proof.Proof.GradGateB.Claims
public import proofs.«01_k».proof.Proof.DMemory.Claims
public import proofs.«01_k».proof.Proof.GradMemG.Claims
public import proofs.«01_k».proof.Proof.MemKv.Claims
public import proofs.«01_k».proof.Proof.GradMu.Claims
public import proofs.«01_k».proof.Proof.PostBwd.Claims
public import proofs.«01_k».proof.Proof.XattnFwd.Claims
public import proofs.«01_k».proof.Proof.ShiftFwd.Claims
public import proofs.«01_k».proof.Proof.AdamSmall.Claims
public import proofs.«01_k».proof.Proof.PreBwd.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Merge.kernel_frame, Cert.Merge.ideal_frame, Cert.Merge.reference_frame,
  Cert.InBwd.kernel_frame, Cert.InBwd.ideal_frame, Cert.InBwd.reference_frame,
  Cert.GradWIn.kernel_frame, Cert.GradWIn.ideal_frame, Cert.GradWIn.reference_frame,
  Cert.Xattn.kernel_frame, Cert.Xattn.ideal_frame, Cert.Xattn.reference_frame,
  Cert.ProjFwd.kernel_frame, Cert.ProjFwd.ideal_frame, Cert.ProjFwd.reference_frame,
  Cert.GradWOut.kernel_frame, Cert.GradWOut.ideal_frame, Cert.GradWOut.reference_frame,
  Cert.DMerged.kernel_frame, Cert.DMerged.ideal_frame, Cert.DMerged.reference_frame,
  Cert.OutFwd.kernel_frame, Cert.OutFwd.ideal_frame, Cert.OutFwd.reference_frame,
  Cert.GradBranchWO.kernel_frame, Cert.GradBranchWO.ideal_frame, Cert.GradBranchWO.reference_frame,
  Cert.GradMemoryWO.kernel_frame, Cert.GradMemoryWO.ideal_frame, Cert.GradMemoryWO.reference_frame,
  Cert.MergeFwd.kernel_frame, Cert.MergeFwd.ideal_frame, Cert.MergeFwd.reference_frame,
  Cert.GradXWKv.kernel_frame, Cert.GradXWKv.ideal_frame, Cert.GradXWKv.reference_frame,
  Cert.GradGateB.kernel_frame, Cert.GradGateB.ideal_frame, Cert.GradGateB.reference_frame,
  Cert.DMemory.kernel_frame, Cert.DMemory.ideal_frame, Cert.DMemory.reference_frame,
  Cert.GradMemG.kernel_frame, Cert.GradMemG.ideal_frame, Cert.GradMemG.reference_frame,
  Cert.MemKv.kernel_frame, Cert.MemKv.ideal_frame, Cert.MemKv.reference_frame,
  Cert.GradMu.kernel_frame, Cert.GradMu.ideal_frame, Cert.GradMu.reference_frame,
  Cert.PostBwd.kernel_frame, Cert.PostBwd.ideal_frame, Cert.PostBwd.reference_frame,
  Cert.XattnFwd.kernel_frame, Cert.XattnFwd.ideal_frame, Cert.XattnFwd.reference_frame,
  Cert.ShiftFwd.kernel_frame, Cert.ShiftFwd.ideal_frame, Cert.ShiftFwd.reference_frame,
  Cert.AdamSmall.kernel_frame, Cert.AdamSmall.ideal_frame, Cert.AdamSmall.reference_frame,
  Cert.PreBwd.kernel_frame, Cert.PreBwd.ideal_frame, Cert.PreBwd.reference_frame,
  trivial, Cert.Merge.algebraic, trivial, Cert.InBwd.algebraic, trivial,
  Cert.GradWIn.algebraic, trivial, Cert.Xattn.algebraic, trivial,
  Cert.ProjFwd.algebraic, trivial,
  Cert.GradWOut.algebraic, trivial,
  Cert.DMerged.algebraic, trivial,
  Cert.OutFwd.algebraic, trivial,
  Cert.GradBranchWO.algebraic, trivial,
  Cert.GradMemoryWO.algebraic, trivial,
  Cert.MergeFwd.algebraic, trivial,
  Cert.GradXWKv.algebraic, trivial,
  Cert.GradGateB.algebraic, trivial,
  Cert.DMemory.algebraic, trivial,
  Cert.GradMemG.algebraic, trivial,
  Cert.MemKv.algebraic, trivial,
  Cert.GradMu.algebraic, trivial,
  Cert.PostBwd.algebraic, trivial,
  Cert.XattnFwd.algebraic, trivial,
  Cert.ShiftFwd.algebraic, trivial,
  Cert.AdamSmall.algebraic, trivial,
  Cert.PreBwd.algebraic⟩

end Cert.Proof

end
